-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S1x2048x64x128 : Shape := ⟨4, ![1, 2048, 64, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x512x1024 .f32) (main_arg1 : FVec F S1024x1024 .f32) (main_arg2 : FVec F S1024x1024 .f32) (main_arg3 : FVec F S1x2048x64x128 .f32) (main_arg4 : FVec F S1x2048x64x128 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x64x128 .f32 := Host.absf main_arg3
  let main_cst_2 : FVec F S_ .f32 := constant S_ .f32 0x7F800000#32
  let main_v10 : FVec F S1x2048x64x128 .f32 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Pre_finite_ReferenceIdeal.lean ====
abbrev S1x512x1024 : Shape := ⟨3, ![1, 512, 1024]⟩
abbrev S1024x8192 : Shape := ⟨2, ![1024, 8192]⟩
abbrev S8192x1024 : Shape := ⟨2, ![8192, 1024]⟩
abbrev S1x2048x64x128 : Shape := ⟨4, ![1, 2048, 64, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x512x1024 .f32) (main_arg1 : FVec F S1024x8192 .f32) (main_arg2 : FVec F S8192x1024 .f32) (main_arg3 : FVec F S1x2048x64x128 .f32) (main_arg4 : FVec F S1x2048x64x128 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x2048x64x128 .f32 := Host.absf main_arg3
  let main_cst_2 : FVec F S_ .f32 := constant S_ .f32 0x7F800000#32
  let main_v10 : FVec F S1x2048x64x128 .f32 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Kernel.lean ====
abbrev S1x512x1024 : Shape := ⟨3, ![1, 512, 1024]⟩
abbrev S1024x1024 : Shape := ⟨2, ![1024, 1024]⟩
abbrev S1x2048x64x128 : Shape := ⟨4, ![1, 2048, 64, 128]⟩
abbrev S2x2048x1x128 : Shape := ⟨4, ![2, 2048, 1, 128]⟩
abbrev S512x1024 : Shape := ⟨2, ![512, 1024]⟩
abbrev S896x384 : Shape := ⟨2, ![896, 384]⟩
abbrev S896x256 : Shape := ⟨2, ![896, 256]⟩
abbrev S9 : Shape := ⟨1, ![9]⟩
abbrev S2 : Shape := ⟨1, ![2]⟩
abbrev S_ : Shape := ⟨0, ![]⟩
abbrev S1 : Shape := ⟨1, ![1]⟩
abbrev S1x2048x1x128 : Shape := ⟨4, ![1, 2048, 1, 128]⟩
abbrev S2048x1x128 : Shape := ⟨3, ![2048, 1, 128]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S256x1024 : Shape := ⟨2, ![256, 1024]⟩
abbrev S1024x384 : Shape := ⟨2, ![1024, 384]⟩
abbrev S256x384 : Shape := ⟨2, ![256, 384]⟩
abbrev S1x256x384 : Shape := ⟨3, ![1, 256, 384]⟩
abbrev S1024x256 : Shape := ⟨2, ![1024, 256]⟩
abbrev S256x256 : Shape := ⟨2, ![256, 256]⟩
abbrev S1x256x256 : Shape := ⟨3, ![1, 256, 256]⟩
abbrev S128x384 : Shape := ⟨2, ![128, 384]⟩
abbrev S1x128x384 : Shape := ⟨3, ![1, 128, 384]⟩
abbrev S128x256 : Shape := ⟨2, ![128, 256]⟩
abbrev S1x128x256 : Shape := ⟨3, ![1, 128, 256]⟩
abbrev S64x384 : Shape := ⟨2, ![64, 384]⟩
abbrev S1x64x384 : Shape := ⟨3, ![1, 64, 384]⟩
abbrev S64x256 : Shape := ⟨2, ![64, 256]⟩
abbrev S1x64x256 : Shape := ⟨3, ![1, 64, 256]⟩

abbrev nBuf : Space → Nat
  | .hbm => 6
  | .vmem => 10
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S1x2048x64x128, .f32⟩
  | .hbm, ⟨4, _⟩ => ⟨S1x2048x64x128, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1x512x1024, .f32⟩
  | .local _ .vmem, ⟨4, _⟩ => ⟨S2x2048x1x128, .f32⟩
  | .local _ .vmem, ⟨5, _⟩ => ⟨S2x2048x1x128, .f32⟩
  | .local _ .vmem, ⟨6, _⟩ => ⟨S512x1024, .f32⟩
  | .local _ .vmem, ⟨7, _⟩ => ⟨S896x384, .f32⟩
  | .local _ .vmem, ⟨8, _⟩ => ⟨S896x384, .f32⟩
  | .local _ .vmem, ⟨9, _⟩ => ⟨S896x256, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v42 : BitVec 32 := Scalar.xori v2 c1_i32_14
  let c1_i32_16 : BitVec 32 := 1#32
  let v43 : BitVec 32 := Scalar.muli v42 c1_i32_16
  let v44 : BitVec 32 := Scalar.addi c0_i32_17 v43
  v44.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v45 : BitVec 32 := Scalar.xori v2 c3_i32
  let c1_i32_19 : BitVec 32 := 1#32
  let v46 : BitVec 32 := Scalar.muli v45 c1_i32_19
  let v47 : BitVec 32 := Scalar.addi c0_i32_20 v46
  v47.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v48 : BitVec 32 := Scalar.xori v2 c4_i32_21
  let c1_i32_23 : BitVec 32 := 1#32
  let v49 : BitVec 32 := Scalar.muli v48 c1_i32_23
  let v50 : BitVec 32 := Scalar.addi c0_i32_24 v49
  v50.toNat
def k0_off1 (d0 : Dev nD) (c0_i32_26 : BitVec 32) : Fin 4 → Nat :=
  let c0_i32_28 : BitVec 32 := 0#32
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_25 : BitVec 32 := 8#32
  let v51 : BitVec 32 := Scalar.muli v2 c8_i32_25
  let v52 : BitVec 32 := Scalar.addi v51 c0_i32_26
  let c0_i32_35 : BitVec 32 := 0#32
  ![0, 0, v52.toNat, 0]
def k0_off2 (d0 : Dev nD) (c4_i32 : BitVec 32) (c4_i32_423 : BitVec 32) (c0_i32_424 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_422 : BitVec 32 := 0#32
  let v420 : BitVec 1 := Scalar.cmpi .eq v39 c0_i32_422
  let v421 : BitVec 32 := Scalar.select v420 c4_i32_423 c0_i32_424
  let c64_i32 : BitVec 32 := 64#32
  let v423 : BitVec 32 := Scalar.muli v421 c64_i32
  let v424 : Index := Scalar.indexCast v423
  let c0_427 : Index := 0#32
  ![v424.toNat, 0]
def k0_off2_at (r : Fin 4) : BitVec 32 × BitVec 32 × BitVec 32 :=
  if r.val < 2 then
    if r.val < 1 then
      (4#32, 4#32, 0#32)
    else
      (2#32, 4#32, 0#32)
  else
    if r.val < 3 then
      (4#32, 0#32, 4#32)
    else
      (2#32, 0#32, 4#32)
def k0_off3 (d0 : Dev nD) (c4_i32_423 : BitVec 32) (c0_i32_424 : BitVec 32) : Fin 3 → Nat :=
  let c0_431 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_422 : BitVec 32 := 0#32
  let v420 : BitVec 1 := Scalar.cmpi .eq v39 c0_i32_422
  let v421 : BitVec 32 := Scalar.select v420 c4_i32_423 c0_i32_424
  let c64_i32 : BitVec 32 := 64#32
  let v423 : BitVec 32 := Scalar.muli v421 c64_i32
  let v429 : Index := Scalar.indexCast v423
  let c0_432 : Index := 0#32
  ![0, v429.toNat, 0]
def k0_off3_at (r : Fin 2) : BitVec 32 × BitVec 32 :=
  if r.val < 1 then
    (4#32, 0#32)
  else
    (0#32, 4#32)
def k0_off4 (d0 : Dev nD) : Fin 3 → Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_422 : BitVec 32 := 0#32
  let v420 : BitVec 1 := Scalar.cmpi .eq v39 c0_i32_422
  let c4_i32_423 : BitVec 32 := 4#32
  let c0_i32_424 : BitVec 32 := 0#32
  let v421 : BitVec 32 := Scalar.select v420 c4_i32_423 c0_i32_424
  let c64_i32 : BitVec 32 := 64#32
  let v423 : BitVec 32 := Scalar.muli v421 c64_i32
  let c0_i32_440 : BitVec 32 := 0#32
  ![0, v423.toNat, 0]
def k0_dev4 (d0 : Dev nD) : Nat :=
  let c0_i32_437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_421 : BitVec 32 := 4#32
  let v419 : BitVec 32 := Scalar.xori v2 c4_i32_421
  let c1_i32_436 : BitVec 32 := 1#32
  let v433 : BitVec 32 := Scalar.muli v419 c1_i32_436
  let v434 : BitVec 32 := Scalar.addi c0_i32_437 v433
  v434.toNat
def k0_off5 (d0 : Dev nD) (c4_i32_443 : BitVec 32) (c0_i32_444 : BitVec 32) : Fin 3 → Nat :=
  let c0_452 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_442 : BitVec 32 := 0#32
  let v443 : BitVec 1 := Scalar.cmpi .eq v21 c0_i32_442
  let v444 : BitVec 32 := Scalar.select v443 c4_i32_443 c0_i32_444
  let c64_i32_447 : BitVec 32 := 64#32
  let v446 : BitVec 32 := Scalar.muli v444 c64_i32_447
  let v452 : Index := Scalar.indexCast v446
  let c384_453 : Index := 384#32
  ![0, v452.toNat, 384]
def k0_off5_at (r : Fin 2) : BitVec 32 × BitVec 32 :=
  if r.val < 1 then
    (4#32, 0#32)
  else
    (0#32, 4#32)
def k0_off6 (d0 : Dev nD) : Fin 3 → Nat :=
  let c0_i32_454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_442 : BitVec 32 := 0#32
  let v443 : BitVec 1 := Scalar.cmpi .eq v21 c0_i32_442
  let c4_i32_443 : BitVec 32 := 4#32
  let c0_i32_444 : BitVec 32 := 0#32
  let v444 : BitVec 32 := Scalar.select v443 c4_i32_443 c0_i32_444
  let c64_i32_447 : BitVec 32 := 64#32
  let v446 : BitVec 32 := Scalar.muli v444 c64_i32_447
  let c384_i32 : BitVec 32 := 384#32
  ![0, v446.toNat, 384]
def k0_dev5 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_441 : BitVec 32 := 3#32
  let v442 : BitVec 32 := Scalar.xori v2 c3_i32_441
  let c1_i32_457 : BitVec 32 := 1#32
  let v456 : BitVec 32 := Scalar.muli v442 c1_i32_457
  let v457 : BitVec 32 := Scalar.addi c0_i32_458 v456
  v457.toNat
def k0_off7 (d0 : Dev nD) (c4_i32_463 : BitVec 32) (c0_i32_464 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_462 : BitVec 32 := 0#32
  let v466 : BitVec 1 := Scalar.cmpi .eq v40 c0_i32_462
  let v467 : BitVec 32 := Scalar.select v466 c4_i32_463 c0_i32_464
  let c64_i32_467 : BitVec 32 := 64#32
  let v469 : BitVec 32 := Scalar.muli v467 c64_i32_467
  let v470 : Index := Scalar.indexCast v469
  let c0_468 : Index := 0#32
  ![v470.toNat, 0]
def k0_off7_at (r : Fin 2) : BitVec 32 × BitVec 32 :=
  if r.val < 1 then
    (4#32, 0#32)
  else
    (0#32, 4#32)
def k0_off8 (d0 : Dev nD) (c4_i32_463 : BitVec 32) (c0_i32_464 : BitVec 32) : Fin 3 → Nat :=
  let c0_472 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_462 : BitVec 32 := 0#32
  let v466 : BitVec 1 := Scalar.cmpi .eq v40 c0_i32_462
  let v467 : BitVec 32 := Scalar.select v466 c4_i32_463 c0_i32_464
  let c64_i32_467 : BitVec 32 := 64#32
  let v469 : BitVec 32 := Scalar.muli v467 c64_i32_467
  let v475 : Index := Scalar.indexCast v469
  let c768_473 : Index := 768#32
  ![0, v475.toNat, 768]
def k0_off8_at (r : Fin 2) : BitVec 32 × BitVec 32 :=
  if r.val < 1 then
    (4#32, 0#32)
  else
    (0#32, 4#32)
def k0_off9 (d0 : Dev nD) : Fin 3 → Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_462 : BitVec 32 := 0#32
  let v466 : BitVec 1 := Scalar.cmpi .eq v40 c0_i32_462
  let c4_i32_463 : BitVec 32 := 4#32
  let c0_i32_464 : BitVec 32 := 0#32
  let v467 : BitVec 32 := Scalar.select v466 c4_i32_463 c0_i32_464
  let c64_i32_467 : BitVec 32 := 64#32
  let v469 : BitVec 32 := Scalar.muli v467 c64_i32_467
  let c768_i32 : BitVec 32 := 768#32
  ![0, v469.toNat, 768]
def k0_dev6 (d0 : Dev nD) : Nat :=
  let c0_i32_478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_461 : BitVec 32 := 1#32
  let v465 : BitVec 32 := Scalar.xori v2 c1_i32_461
  let c1_i32_477 : BitVec 32 := 1#32
  let v479 : BitVec 32 := Scalar.muli v465 c1_i32_477
  let v480 : BitVec 32 := Scalar.addi c0_i32_478 v479
  v480.toNat
def k0_off10 (d0 : Dev nD) : Fin 3 → Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_422 : BitVec 32 := 0#32
  let v420 : BitVec 1 := Scalar.cmpi .eq v39 c0_i32_422
  let c0_i32_425 : BitVec 32 := 0#32
  let c4_i32_426 : BitVec 32 := 4#32
  let v422 : BitVec 32 := Scalar.select v420 c0_i32_425 c4_i32_426
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_572 : BitVec 32 := 0#32
  let v588 : BitVec 1 := Scalar.cmpi .eq v21 c0_i32_572
  let c2_i32_573 : BitVec 32 := 2#32
  let c0_i32_574 : BitVec 32 := 0#32
  let v589 : BitVec 32 := Scalar.select v588 c2_i32_573 c0_i32_574
  let v590 : BitVec 32 := Scalar.addi v422 v589
  let c64_i32_577 : BitVec 32 := 64#32
  let v593 : BitVec 32 := Scalar.muli v590 c64_i32_577
  let c0_i32_584 : BitVec 32 := 0#32
  ![0, v593.toNat, 0]
def k0_dev7 (d0 : Dev nD) : Nat :=
  let c0_i32_582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_571 : BitVec 32 := 3#32
  let v587 : BitVec 32 := Scalar.xori v2 c3_i32_571
  let c1_i32_581 : BitVec 32 := 1#32
  let v594 : BitVec 32 := Scalar.muli v587 c1_i32_581
  let v595 : BitVec 32 := Scalar.addi c0_i32_582 v594
  v595.toNat
def k0_off11 (d0 : Dev nD) : Fin 3 → Nat :=
  let c0_i32_592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_442 : BitVec 32 := 0#32
  let v443 : BitVec 1 := Scalar.cmpi .eq v21 c0_i32_442
  let c0_i32_445 : BitVec 32 := 0#32
  let c4_i32_446 : BitVec 32 := 4#32
  let v445 : BitVec 32 := Scalar.select v443 c0_i32_445 c4_i32_446
  let c1_i32_0 : BitVec 32 := 1#32
  let v3 : BitVec 32 := Scalar.andi v2 c1_i32_0
  let v40 : BitVec 32 := Scalar.xori v3 v21
  let c0_i32_586 : BitVec 32 := 0#32
  let v604 : BitVec 1 := Scalar.cmpi .eq v40 c0_i32_586
  let c2_i32_587 : BitVec 32 := 2#32
  let c0_i32_588 : BitVec 32 := 0#32
  let v605 : BitVec 32 := Scalar.select v604 c2_i32_587 c0_i32_588
  let v606 : BitVec 32 := Scalar.addi v445 v605
  let c64_i32_591 : BitVec 32 := 64#32
  let v609 : BitVec 32 := Scalar.muli v606 c64_i32_591
  let c384_i32_599 : BitVec 32 := 384#32
  ![0, v609.toNat, 384]
def k0_dev8 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_585 : BitVec 32 := 1#32
  let v603 : BitVec 32 := Scalar.xori v2 c1_i32_585
  let c1_i32_595 : BitVec 32 := 1#32
  let v610 : BitVec 32 := Scalar.muli v603 c1_i32_595
  let v611 : BitVec 32 := Scalar.addi c0_i32_596 v610
  v611.toNat
def k0_off12 (d0 : Dev nD) : Fin 3 → Nat :=
  let c0_i32_607 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_462 : BitVec 32 := 0#32
  let v466 : BitVec 1 := Scalar.cmpi .eq v40 c0_i32_462
  let c0_i32_465 : BitVec 32 := 0#32
  let c4_i32_466 : BitVec 32 := 4#32
  let v468 : BitVec 32 := Scalar.select v466 c0_i32_465 c4_i32_466
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_601 : BitVec 32 := 0#32
  let v620 : BitVec 1 := Scalar.cmpi .eq v39 c0_i32_601
  let c2_i32_602 : BitVec 32 := 2#32
  let c0_i32_603 : BitVec 32 := 0#32
  let v621 : BitVec 32 := Scalar.select v620 c2_i32_602 c0_i32_603
  let v622 : BitVec 32 := Scalar.addi v468 v621
  let c64_i32_606 : BitVec 32 := 64#32
  let v625 : BitVec 32 := Scalar.muli v622 c64_i32_606
  let c768_i32_614 : BitVec 32 := 768#32
  ![0, v625.toNat, 768]
def k0_dev9 (d0 : Dev nD) : Nat :=
  let c0_i32_611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_600 : BitVec 32 := 4#32
  let v619 : BitVec 32 := Scalar.xori v2 c4_i32_600
  let c1_i32_610 : BitVec 32 := 1#32
  let v626 : BitVec 32 := Scalar.muli v619 c1_i32_610
  let v627 : BitVec 32 := Scalar.addi c0_i32_611 v626
  v627.toNat
def k0_off13 (d0 : Dev nD) : Fin 3 → Nat :=
  let c0_631 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_422 : BitVec 32 := 0#32
  let v420 : BitVec 1 := Scalar.cmpi .eq v39 c0_i32_422
  let c0_i32_425 : BitVec 32 := 0#32
  let c4_i32_426 : BitVec 32 := 4#32
  let v422 : BitVec 32 := Scalar.select v420 c0_i32_425 c4_i32_426
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_572 : BitVec 32 := 0#32
  let v588 : BitVec 1 := Scalar.cmpi .eq v21 c0_i32_572
  let c0_i32_575 : BitVec 32 := 0#32
  let c2_i32_576 : BitVec 32 := 2#32
  let v591 : BitVec 32 := Scalar.select v588 c0_i32_575 c2_i32_576
  let v592 : BitVec 32 := Scalar.addi v422 v591
  let c64_i32_630 : BitVec 32 := 64#32
  let v647 : BitVec 32 := Scalar.muli v592 c64_i32_630
  let v648 : Index := Scalar.indexCast v647
  let c0_632 : Index := 0#32
  ![0, v648.toNat, 0]
def k0_off14 (d0 : Dev nD) : Fin 3 → Nat :=
  let c0_654 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_442 : BitVec 32 := 0#32
  let v443 : BitVec 1 := Scalar.cmpi .eq v21 c0_i32_442
  let c0_i32_445 : BitVec 32 := 0#32
  let c4_i32_446 : BitVec 32 := 4#32
  let v445 : BitVec 32 := Scalar.select v443 c0_i32_445 c4_i32_446
  let c1_i32_0 : BitVec 32 := 1#32
  let v3 : BitVec 32 := Scalar.andi v2 c1_i32_0
  let v40 : BitVec 32 := Scalar.xori v3 v21
  let c0_i32_586 : BitVec 32 := 0#32
  let v604 : BitVec 1 := Scalar.cmpi .eq v40 c0_i32_586
  let c0_i32_589 : BitVec 32 := 0#32
  let c2_i32_590 : BitVec 32 := 2#32
  let v607 : BitVec 32 := Scalar.select v604 c0_i32_589 c2_i32_590
  let v608 : BitVec 32 := Scalar.addi v445 v607
  let c64_i32_653 : BitVec 32 := 64#32
  let v670 : BitVec 32 := Scalar.muli v608 c64_i32_653
  let v671 : Index := Scalar.indexCast v670
  let c384_655 : Index := 384#32
  ![0, v671.toNat, 384]
def k0_off15 (d0 : Dev nD) : Fin 3 → Nat :=
  let c0_677 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_462 : BitVec 32 := 0#32
  let v466 : BitVec 1 := Scalar.cmpi .eq v40 c0_i32_462
  let c0_i32_465 : BitVec 32 := 0#32
  let c4_i32_466 : BitVec 32 := 4#32
  let v468 : BitVec 32 := Scalar.select v466 c0_i32_465 c4_i32_466
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_601 : BitVec 32 := 0#32
  let v620 : BitVec 1 := Scalar.cmpi .eq v39 c0_i32_601
  let c0_i32_604 : BitVec 32 := 0#32
  let c2_i32_605 : BitVec 32 := 2#32
  let v623 : BitVec 32 := Scalar.select v620 c0_i32_604 c2_i32_605
  let v624 : BitVec 32 := Scalar.addi v468 v623
  let c64_i32_676 : BitVec 32 := 64#32
  let v693 : BitVec 32 := Scalar.muli v624 c64_i32_676
  let v694 : Index := Scalar.indexCast v693
  let c768_678 : Index := 768#32
  ![0, v694.toNat, 768]
def k0_off16 (d0 : Dev nD) (c1_i32_686 : BitVec 32) (c0_i32_687 : BitVec 32) : Fin 3 → Nat :=
  let c0_i32_691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_422 : BitVec 32 := 0#32
  let v420 : BitVec 1 := Scalar.cmpi .eq v39 c0_i32_422
  let c0_i32_425 : BitVec 32 := 0#32
  let c4_i32_426 : BitVec 32 := 4#32
  let v422 : BitVec 32 := Scalar.select v420 c0_i32_425 c4_i32_426
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_572 : BitVec 32 := 0#32
  let v588 : BitVec 1 := Scalar.cmpi .eq v21 c0_i32_572
  let c0_i32_575 : BitVec 32 := 0#32
  let c2_i32_576 : BitVec 32 := 2#32
  let v591 : BitVec 32 := Scalar.select v588 c0_i32_575 c2_i32_576
  let v592 : BitVec 32 := Scalar.addi v422 v591
  let c1_i32_0 : BitVec 32 := 1#32
  let v3 : BitVec 32 := Scalar.andi v2 c1_i32_0
  let v40 : BitVec 32 := Scalar.xori v3 v21
  let c0_i32_685 : BitVec 32 := 0#32
  let v705 : BitVec 1 := Scalar.cmpi .eq v40 c0_i32_685
  let v706 : BitVec 32 := Scalar.select v705 c1_i32_686 c0_i32_687
  let v707 : BitVec 32 := Scalar.addi v592 v706
  let c64_i32_690 : BitVec 32 := 64#32
  let v710 : BitVec 32 := Scalar.muli v707 c64_i32_690
  let c0_i32_698 : BitVec 32 := 0#32
  ![0, v710.toNat, 0]
def k0_off16_at (r : Fin 2) : BitVec 32 × BitVec 32 :=
  if r.val < 1 then
    (1#32, 0#32)
  else
    (0#32, 1#32)
def k0_dev10 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_684 : BitVec 32 := 1#32
  let v704 : BitVec 32 := Scalar.xori v2 c1_i32_684
  let c1_i32_694 : BitVec 32 := 1#32
  let v711 : BitVec 32 := Scalar.muli v704 c1_i32_694
  let v712 : BitVec 32 := Scalar.addi c0_i32_695 v711
  v712.toNat
def k0_off17 (d0 : Dev nD) (c1_i32_701 : BitVec 32) (c0_i32_702 : BitVec 32) : Fin 3 → Nat :=
  let c0_i32_706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_442 : BitVec 32 := 0#32
  let v443 : BitVec 1 := Scalar.cmpi .eq v21 c0_i32_442
  let c0_i32_445 : BitVec 32 := 0#32
  let c4_i32_446 : BitVec 32 := 4#32
  let v445 : BitVec 32 := Scalar.select v443 c0_i32_445 c4_i32_446
  let c1_i32_0 : BitVec 32 := 1#32
  let v3 : BitVec 32 := Scalar.andi v2 c1_i32_0
  let v40 : BitVec 32 := Scalar.xori v3 v21
  let c0_i32_586 : BitVec 32 := 0#32
  let v604 : BitVec 1 := Scalar.cmpi .eq v40 c0_i32_586
  let c0_i32_589 : BitVec 32 := 0#32
  let c2_i32_590 : BitVec 32 := 2#32
  let v607 : BitVec 32 := Scalar.select v604 c0_i32_589 c2_i32_590
  let v608 : BitVec 32 := Scalar.addi v445 v607
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_700 : BitVec 32 := 0#32
  let v721 : BitVec 1 := Scalar.cmpi .eq v39 c0_i32_700
  let v722 : BitVec 32 := Scalar.select v721 c1_i32_701 c0_i32_702
  let v723 : BitVec 32 := Scalar.addi v608 v722
  let c64_i32_705 : BitVec 32 := 64#32
  let v726 : BitVec 32 := Scalar.muli v723 c64_i32_705
  let c384_i32_713 : BitVec 32 := 384#32
  ![0, v726.toNat, 384]
def k0_off17_at (r : Fin 2) : BitVec 32 × BitVec 32 :=
  if r.val < 1 then
    (1#32, 0#32)
  else
    (0#32, 1#32)
def k0_dev11 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_699 : BitVec 32 := 4#32
  let v720 : BitVec 32 := Scalar.xori v2 c4_i32_699
  let c1_i32_709 : BitVec 32 := 1#32
  let v727 : BitVec 32 := Scalar.muli v720 c1_i32_709
  let v728 : BitVec 32 := Scalar.addi c0_i32_710 v727
  v728.toNat
def k0_off18 (d0 : Dev nD) (c1_i32_716 : BitVec 32) (c0_i32_717 : BitVec 32) : Fin 3 → Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_462 : BitVec 32 := 0#32
  let v466 : BitVec 1 := Scalar.cmpi .eq v40 c0_i32_462
  let c0_i32_465 : BitVec 32 := 0#32
  let c4_i32_466 : BitVec 32 := 4#32
  let v468 : BitVec 32 := Scalar.select v466 c0_i32_465 c4_i32_466
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_601 : BitVec 32 := 0#32
  let v620 : BitVec 1 := Scalar.cmpi .eq v39 c0_i32_601
  let c0_i32_604 : BitVec 32 := 0#32
  let c2_i32_605 : BitVec 32 := 2#32
  let v623 : BitVec 32 := Scalar.select v620 c0_i32_604 c2_i32_605
  let v624 : BitVec 32 := Scalar.addi v468 v623
  let c0_i32_715 : BitVec 32 := 0#32
  let v737 : BitVec 1 := Scalar.cmpi .eq v21 c0_i32_715
  let v738 : BitVec 32 := Scalar.select v737 c1_i32_716 c0_i32_717
  let v739 : BitVec 32 := Scalar.addi v624 v738
  let c64_i32_720 : BitVec 32 := 64#32
  let v742 : BitVec 32 := Scalar.muli v739 c64_i32_720
  let c768_i32_728 : BitVec 32 := 768#32
  ![0, v742.toNat, 768]
def k0_off18_at (r : Fin 2) : BitVec 32 × BitVec 32 :=
  if r.val < 1 then
    (1#32, 0#32)
  else
    (0#32, 1#32)
def k0_dev12 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_714 : BitVec 32 := 3#32
  let v736 : BitVec 32 := Scalar.xori v2 c3_i32_714
  let c1_i32_724 : BitVec 32 := 1#32
  let v743 : BitVec 32 := Scalar.muli v736 c1_i32_724
  let v744 : BitVec 32 := Scalar.addi c0_i32_725 v743
  v744.toNat
def k0_off19 (d0 : Dev nD) : Fin 3 → Nat :=
  let c0_745 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_422 : BitVec 32 := 0#32
  let v420 : BitVec 1 := Scalar.cmpi .eq v39 c0_i32_422
  let c0_i32_425 : BitVec 32 := 0#32
  let c4_i32_426 : BitVec 32 := 4#32
  let v422 : BitVec 32 := Scalar.select v420 c0_i32_425 c4_i32_426
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_572 : BitVec 32 := 0#32
  let v588 : BitVec 1 := Scalar.cmpi .eq v21 c0_i32_572
  let c0_i32_575 : BitVec 32 := 0#32
  let c2_i32_576 : BitVec 32 := 2#32
  let v591 : BitVec 32 := Scalar.select v588 c0_i32_575 c2_i32_576
  let v592 : BitVec 32 := Scalar.addi v422 v591
  let c1_i32_0 : BitVec 32 := 1#32
  let v3 : BitVec 32 := Scalar.andi v2 c1_i32_0
  let v40 : BitVec 32 := Scalar.xori v3 v21
  let c0_i32_685 : BitVec 32 := 0#32
  let v705 : BitVec 1 := Scalar.cmpi .eq v40 c0_i32_685
  let c0_i32_688 : BitVec 32 := 0#32
  let c1_i32_689 : BitVec 32 := 1#32
  let v708 : BitVec 32 := Scalar.select v705 c0_i32_688 c1_i32_689
  let v709 : BitVec 32 := Scalar.addi v592 v708
  let c64_i32_744 : BitVec 32 := 64#32
  let v764 : BitVec 32 := Scalar.muli v709 c64_i32_744
  let v765 : Index := Scalar.indexCast v764
  let c0_746 : Index := 0#32
  ![0, v765.toNat, 0]
def k0_off20 (d0 : Dev nD) : Fin 3 → Nat :=
  let c0_768 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_442 : BitVec 32 := 0#32
  let v443 : BitVec 1 := Scalar.cmpi .eq v21 c0_i32_442
  let c0_i32_445 : BitVec 32 := 0#32
  let c4_i32_446 : BitVec 32 := 4#32
  let v445 : BitVec 32 := Scalar.select v443 c0_i32_445 c4_i32_446
  let c1_i32_0 : BitVec 32 := 1#32
  let v3 : BitVec 32 := Scalar.andi v2 c1_i32_0
  let v40 : BitVec 32 := Scalar.xori v3 v21
  let c0_i32_586 : BitVec 32 := 0#32
  let v604 : BitVec 1 := Scalar.cmpi .eq v40 c0_i32_586
  let c0_i32_589 : BitVec 32 := 0#32
  let c2_i32_590 : BitVec 32 := 2#32
  let v607 : BitVec 32 := Scalar.select v604 c0_i32_589 c2_i32_590
  let v608 : BitVec 32 := Scalar.addi v445 v607
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_700 : BitVec 32 := 0#32
  let v721 : BitVec 1 := Scalar.cmpi .eq v39 c0_i32_700
  let c0_i32_703 : BitVec 32 := 0#32
  let c1_i32_704 : BitVec 32 := 1#32
  let v724 : BitVec 32 := Scalar.select v721 c0_i32_703 c1_i32_704
  let v725 : BitVec 32 := Scalar.addi v608 v724
  let c64_i32_767 : BitVec 32 := 64#32
  let v787 : BitVec 32 := Scalar.muli v725 c64_i32_767
  let v788 : Index := Scalar.indexCast v787
  let c384_769 : Index := 384#32
  ![0, v788.toNat, 384]
def k0_off21 (d0 : Dev nD) : Fin 3 → Nat :=
  let c0_791 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_462 : BitVec 32 := 0#32
  let v466 : BitVec 1 := Scalar.cmpi .eq v40 c0_i32_462
  let c0_i32_465 : BitVec 32 := 0#32
  let c4_i32_466 : BitVec 32 := 4#32
  let v468 : BitVec 32 := Scalar.select v466 c0_i32_465 c4_i32_466
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_601 : BitVec 32 := 0#32
  let v620 : BitVec 1 := Scalar.cmpi .eq v39 c0_i32_601
  let c0_i32_604 : BitVec 32 := 0#32
  let c2_i32_605 : BitVec 32 := 2#32
  let v623 : BitVec 32 := Scalar.select v620 c0_i32_604 c2_i32_605
  let v624 : BitVec 32 := Scalar.addi v468 v623
  let c0_i32_715 : BitVec 32 := 0#32
  let v737 : BitVec 1 := Scalar.cmpi .eq v21 c0_i32_715
  let c0_i32_718 : BitVec 32 := 0#32
  let c1_i32_719 : BitVec 32 := 1#32
  let v740 : BitVec 32 := Scalar.select v737 c0_i32_718 c1_i32_719
  let v741 : BitVec 32 := Scalar.addi v624 v740
  let c64_i32_790 : BitVec 32 := 64#32
  let v810 : BitVec 32 := Scalar.muli v741 c64_i32_790
  let v811 : Index := Scalar.indexCast v810
  let c768_792 : Index := 768#32
  ![0, v811.toNat, 768]
def k0_dev13 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_798 : BitVec 32 := 1#32
  let v821 : BitVec 32 := Scalar.xori v2 c1_i32_798
  let c1_i32_806 : BitVec 32 := 1#32
  let v827 : BitVec 32 := Scalar.muli v821 c1_i32_806
  let v828 : BitVec 32 := Scalar.addi c0_i32_807 v827
  v828.toNat
def k0_dev14 (d0 : Dev nD) : Nat :=
  let c0_i32_820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_811 : BitVec 32 := 4#32
  let v838 : BitVec 32 := Scalar.xori v2 c4_i32_811
  let c1_i32_819 : BitVec 32 := 1#32
  let v844 : BitVec 32 := Scalar.muli v838 c1_i32_819
  let v845 : BitVec 32 := Scalar.addi c0_i32_820 v844
  v845.toNat
def k0_dev15 (d0 : Dev nD) : Nat :=
  let c0_i32_834 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_825 : BitVec 32 := 3#32
  let v855 : BitVec 32 := Scalar.xori v2 c3_i32_825
  let c1_i32_833 : BitVec 32 := 1#32
  let v861 : BitVec 32 := Scalar.muli v855 c1_i32_833
  let v862 : BitVec 32 := Scalar.addi c0_i32_834 v861
  v862.toNat
def k0_off22 (d0 : Dev nD) : Fin 3 → Nat :=
  let c0_856 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_799 : BitVec 32 := 0#32
  let v822 : BitVec 1 := Scalar.cmpi .eq v40 c0_i32_799
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_422 : BitVec 32 := 0#32
  let v420 : BitVec 1 := Scalar.cmpi .eq v39 c0_i32_422
  let c0_i32_425 : BitVec 32 := 0#32
  let c4_i32_426 : BitVec 32 := 4#32
  let v422 : BitVec 32 := Scalar.select v420 c0_i32_425 c4_i32_426
  let c0_i32_572 : BitVec 32 := 0#32
  let v588 : BitVec 1 := Scalar.cmpi .eq v21 c0_i32_572
  let c0_i32_575 : BitVec 32 := 0#32
  let c2_i32_576 : BitVec 32 := 2#32
  let v591 : BitVec 32 := Scalar.select v588 c0_i32_575 c2_i32_576
  let v592 : BitVec 32 := Scalar.addi v422 v591
  let c0_i32_685 : BitVec 32 := 0#32
  let v705 : BitVec 1 := Scalar.cmpi .eq v40 c0_i32_685
  let c0_i32_688 : BitVec 32 := 0#32
  let c1_i32_689 : BitVec 32 := 1#32
  let v708 : BitVec 32 := Scalar.select v705 c0_i32_688 c1_i32_689
  let v709 : BitVec 32 := Scalar.addi v592 v708
  let c1_i32_800 : BitVec 32 := 1#32
  let v823 : BitVec 32 := Scalar.addi v709 c1_i32_800
  let c1_i32_801 : BitVec 32 := 1#32
  let v824 : BitVec 32 := Scalar.subi v709 c1_i32_801
  let v825 : BitVec 32 := Scalar.select v822 v823 v824
  let c64_i32_855 : BitVec 32 := 64#32
  let v885 : BitVec 32 := Scalar.muli v825 c64_i32_855
  let v886 : Index := Scalar.indexCast v885
  let c0_857 : Index := 0#32
  ![0, v886.toNat, 0]
def k0_off23 (d0 : Dev nD) : Fin 3 → Nat :=
  let c0_876 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_812 : BitVec 32 := 0#32
  let v839 : BitVec 1 := Scalar.cmpi .eq v39 c0_i32_812
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_442 : BitVec 32 := 0#32
  let v443 : BitVec 1 := Scalar.cmpi .eq v21 c0_i32_442
  let c0_i32_445 : BitVec 32 := 0#32
  let c4_i32_446 : BitVec 32 := 4#32
  let v445 : BitVec 32 := Scalar.select v443 c0_i32_445 c4_i32_446
  let c1_i32_0 : BitVec 32 := 1#32
  let v3 : BitVec 32 := Scalar.andi v2 c1_i32_0
  let v40 : BitVec 32 := Scalar.xori v3 v21
  let c0_i32_586 : BitVec 32 := 0#32
  let v604 : BitVec 1 := Scalar.cmpi .eq v40 c0_i32_586
  let c0_i32_589 : BitVec 32 := 0#32
  let c2_i32_590 : BitVec 32 := 2#32
  let v607 : BitVec 32 := Scalar.select v604 c0_i32_589 c2_i32_590
  let v608 : BitVec 32 := Scalar.addi v445 v607
  let c0_i32_700 : BitVec 32 := 0#32
  let v721 : BitVec 1 := Scalar.cmpi .eq v39 c0_i32_700
  let c0_i32_703 : BitVec 32 := 0#32
  let c1_i32_704 : BitVec 32 := 1#32
  let v724 : BitVec 32 := Scalar.select v721 c0_i32_703 c1_i32_704
  let v725 : BitVec 32 := Scalar.addi v608 v724
  let c1_i32_813 : BitVec 32 := 1#32
  let v840 : BitVec 32 := Scalar.addi v725 c1_i32_813
  let c1_i32_814 : BitVec 32 := 1#32
  let v841 : BitVec 32 := Scalar.subi v725 c1_i32_814
  let v842 : BitVec 32 := Scalar.select v839 v840 v841
  let c64_i32_875 : BitVec 32 := 64#32
  let v903 : BitVec 32 := Scalar.muli v842 c64_i32_875
  let v904 : Index := Scalar.indexCast v903
  let c384_877 : Index := 384#32
  ![0, v904.toNat, 384]
def k0_off24 (d0 : Dev nD) : Fin 3 → Nat :=
  let c0_896 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_826 : BitVec 32 := 0#32
  let v856 : BitVec 1 := Scalar.cmpi .eq v21 c0_i32_826
  let c1_i32_0 : BitVec 32 := 1#32
  let v3 : BitVec 32 := Scalar.andi v2 c1_i32_0
  let v40 : BitVec 32 := Scalar.xori v3 v21
  let c0_i32_462 : BitVec 32 := 0#32
  let v466 : BitVec 1 := Scalar.cmpi .eq v40 c0_i32_462
  let c0_i32_465 : BitVec 32 := 0#32
  let c4_i32_466 : BitVec 32 := 4#32
  let v468 : BitVec 32 := Scalar.select v466 c0_i32_465 c4_i32_466
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_601 : BitVec 32 := 0#32
  let v620 : BitVec 1 := Scalar.cmpi .eq v39 c0_i32_601
  let c0_i32_604 : BitVec 32 := 0#32
  let c2_i32_605 : BitVec 32 := 2#32
  let v623 : BitVec 32 := Scalar.select v620 c0_i32_604 c2_i32_605
  let v624 : BitVec 32 := Scalar.addi v468 v623
  let c0_i32_715 : BitVec 32 := 0#32
  let v737 : BitVec 1 := Scalar.cmpi .eq v21 c0_i32_715
  let c0_i32_718 : BitVec 32 := 0#32
  let c1_i32_719 : BitVec 32 := 1#32
  let v740 : BitVec 32 := Scalar.select v737 c0_i32_718 c1_i32_719
  let v741 : BitVec 32 := Scalar.addi v624 v740
  let c1_i32_827 : BitVec 32 := 1#32
  let v857 : BitVec 32 := Scalar.addi v741 c1_i32_827
  let c1_i32_828 : BitVec 32 := 1#32
  let v858 : BitVec 32 := Scalar.subi v741 c1_i32_828
  let v859 : BitVec 32 := Scalar.select v856 v857 v858
  let c64_i32_895 : BitVec 32 := 64#32
  let v921 : BitVec 32 := Scalar.muli v859 c64_i32_895
  let v922 : Index := Scalar.indexCast v921
  let c768_897 : Index := 768#32
  ![0, v922.toNat, 768]
def k0_off25 (d0 : Dev nD) : Fin 3 → Nat :=
  let c0_i32_903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_799 : BitVec 32 := 0#32
  let v822 : BitVec 1 := Scalar.cmpi .eq v40 c0_i32_799
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_422 : BitVec 32 := 0#32
  let v420 : BitVec 1 := Scalar.cmpi .eq v39 c0_i32_422
  let c0_i32_425 : BitVec 32 := 0#32
  let c4_i32_426 : BitVec 32 := 4#32
  let v422 : BitVec 32 := Scalar.select v420 c0_i32_425 c4_i32_426
  let c0_i32_572 : BitVec 32 := 0#32
  let v588 : BitVec 1 := Scalar.cmpi .eq v21 c0_i32_572
  let c0_i32_575 : BitVec 32 := 0#32
  let c2_i32_576 : BitVec 32 := 2#32
  let v591 : BitVec 32 := Scalar.select v588 c0_i32_575 c2_i32_576
  let v592 : BitVec 32 := Scalar.addi v422 v591
  let c0_i32_685 : BitVec 32 := 0#32
  let v705 : BitVec 1 := Scalar.cmpi .eq v40 c0_i32_685
  let c0_i32_688 : BitVec 32 := 0#32
  let c1_i32_689 : BitVec 32 := 1#32
  let v708 : BitVec 32 := Scalar.select v705 c0_i32_688 c1_i32_689
  let v709 : BitVec 32 := Scalar.addi v592 v708
  let c1_i32_810 : BitVec 32 := 1#32
  let v836 : BitVec 32 := Scalar.subi v709 c1_i32_810
  let v837 : BitVec 32 := Scalar.select v822 v709 v836
  let c64_i32_902 : BitVec 32 := 64#32
  let v931 : BitVec 32 := Scalar.muli v837 c64_i32_902
  let c0_i32_909 : BitVec 32 := 0#32
  ![0, v931.toNat, 0]
def k0_dev16 (d0 : Dev nD) : Nat :=
  let c0_i32_907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_898 : BitVec 32 := 3#32
  let v926 : BitVec 32 := Scalar.xori v2 c3_i32_898
  let c1_i32_906 : BitVec 32 := 1#32
  let v932 : BitVec 32 := Scalar.muli v926 c1_i32_906
  let v933 : BitVec 32 := Scalar.addi c0_i32_907 v932
  v933.toNat
def k0_off26 (d0 : Dev nD) : Fin 3 → Nat :=
  let c0_i32_916 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_812 : BitVec 32 := 0#32
  let v839 : BitVec 1 := Scalar.cmpi .eq v39 c0_i32_812
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_442 : BitVec 32 := 0#32
  let v443 : BitVec 1 := Scalar.cmpi .eq v21 c0_i32_442
  let c0_i32_445 : BitVec 32 := 0#32
  let c4_i32_446 : BitVec 32 := 4#32
  let v445 : BitVec 32 := Scalar.select v443 c0_i32_445 c4_i32_446
  let c1_i32_0 : BitVec 32 := 1#32
  let v3 : BitVec 32 := Scalar.andi v2 c1_i32_0
  let v40 : BitVec 32 := Scalar.xori v3 v21
  let c0_i32_586 : BitVec 32 := 0#32
  let v604 : BitVec 1 := Scalar.cmpi .eq v40 c0_i32_586
  let c0_i32_589 : BitVec 32 := 0#32
  let c2_i32_590 : BitVec 32 := 2#32
  let v607 : BitVec 32 := Scalar.select v604 c0_i32_589 c2_i32_590
  let v608 : BitVec 32 := Scalar.addi v445 v607
  let c0_i32_700 : BitVec 32 := 0#32
  let v721 : BitVec 1 := Scalar.cmpi .eq v39 c0_i32_700
  let c0_i32_703 : BitVec 32 := 0#32
  let c1_i32_704 : BitVec 32 := 1#32
  let v724 : BitVec 32 := Scalar.select v721 c0_i32_703 c1_i32_704
  let v725 : BitVec 32 := Scalar.addi v608 v724
  let c1_i32_824 : BitVec 32 := 1#32
  let v853 : BitVec 32 := Scalar.subi v725 c1_i32_824
  let v854 : BitVec 32 := Scalar.select v839 v725 v853
  let c64_i32_915 : BitVec 32 := 64#32
  let v948 : BitVec 32 := Scalar.muli v854 c64_i32_915
  let c384_i32_923 : BitVec 32 := 384#32
  ![0, v948.toNat, 384]
def k0_dev17 (d0 : Dev nD) : Nat :=
  let c0_i32_920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_911 : BitVec 32 := 1#32
  let v943 : BitVec 32 := Scalar.xori v2 c1_i32_911
  let c1_i32_919 : BitVec 32 := 1#32
  let v949 : BitVec 32 := Scalar.muli v943 c1_i32_919
  let v950 : BitVec 32 := Scalar.addi c0_i32_920 v949
  v950.toNat
def k0_off27 (d0 : Dev nD) : Fin 3 → Nat :=
  let c0_i32_930 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_826 : BitVec 32 := 0#32
  let v856 : BitVec 1 := Scalar.cmpi .eq v21 c0_i32_826
  let c1_i32_0 : BitVec 32 := 1#32
  let v3 : BitVec 32 := Scalar.andi v2 c1_i32_0
  let v40 : BitVec 32 := Scalar.xori v3 v21
  let c0_i32_462 : BitVec 32 := 0#32
  let v466 : BitVec 1 := Scalar.cmpi .eq v40 c0_i32_462
  let c0_i32_465 : BitVec 32 := 0#32
  let c4_i32_466 : BitVec 32 := 4#32
  let v468 : BitVec 32 := Scalar.select v466 c0_i32_465 c4_i32_466
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_601 : BitVec 32 := 0#32
  let v620 : BitVec 1 := Scalar.cmpi .eq v39 c0_i32_601
  let c0_i32_604 : BitVec 32 := 0#32
  let c2_i32_605 : BitVec 32 := 2#32
  let v623 : BitVec 32 := Scalar.select v620 c0_i32_604 c2_i32_605
  let v624 : BitVec 32 := Scalar.addi v468 v623
  let c0_i32_715 : BitVec 32 := 0#32
  let v737 : BitVec 1 := Scalar.cmpi .eq v21 c0_i32_715
  let c0_i32_718 : BitVec 32 := 0#32
  let c1_i32_719 : BitVec 32 := 1#32
  let v740 : BitVec 32 := Scalar.select v737 c0_i32_718 c1_i32_719
  let v741 : BitVec 32 := Scalar.addi v624 v740
  let c1_i32_838 : BitVec 32 := 1#32
  let v870 : BitVec 32 := Scalar.subi v741 c1_i32_838
  let v871 : BitVec 32 := Scalar.select v856 v741 v870
  let c64_i32_929 : BitVec 32 := 64#32
  let v965 : BitVec 32 := Scalar.muli v871 c64_i32_929
  let c768_i32_937 : BitVec 32 := 768#32
  ![0, v965.toNat, 768]
def k0_dev18 (d0 : Dev nD) : Nat :=
  let c0_i32_934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_925 : BitVec 32 := 4#32
  let v960 : BitVec 32 := Scalar.xori v2 c4_i32_925
  let c1_i32_933 : BitVec 32 := 1#32
  let v966 : BitVec 32 := Scalar.muli v960 c1_i32_933
  let v967 : BitVec 32 := Scalar.addi c0_i32_934 v966
  v967.toNat
def k0_off28 (d0 : Dev nD) : Fin 3 → Nat :=
  let c0_957 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_899 : BitVec 32 := 0#32
  let v927 : BitVec 1 := Scalar.cmpi .eq v21 c0_i32_899
  let c1_i32_0 : BitVec 32 := 1#32
  let v3 : BitVec 32 := Scalar.andi v2 c1_i32_0
  let v40 : BitVec 32 := Scalar.xori v3 v21
  let c0_i32_799 : BitVec 32 := 0#32
  let v822 : BitVec 1 := Scalar.cmpi .eq v40 c0_i32_799
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_422 : BitVec 32 := 0#32
  let v420 : BitVec 1 := Scalar.cmpi .eq v39 c0_i32_422
  let c0_i32_425 : BitVec 32 := 0#32
  let c4_i32_426 : BitVec 32 := 4#32
  let v422 : BitVec 32 := Scalar.select v420 c0_i32_425 c4_i32_426
  let c0_i32_572 : BitVec 32 := 0#32
  let v588 : BitVec 1 := Scalar.cmpi .eq v21 c0_i32_572
  let c0_i32_575 : BitVec 32 := 0#32
  let c2_i32_576 : BitVec 32 := 2#32
  let v591 : BitVec 32 := Scalar.select v588 c0_i32_575 c2_i32_576
  let v592 : BitVec 32 := Scalar.addi v422 v591
  let c0_i32_685 : BitVec 32 := 0#32
  let v705 : BitVec 1 := Scalar.cmpi .eq v40 c0_i32_685
  let c0_i32_688 : BitVec 32 := 0#32
  let c1_i32_689 : BitVec 32 := 1#32
  let v708 : BitVec 32 := Scalar.select v705 c0_i32_688 c1_i32_689
  let v709 : BitVec 32 := Scalar.addi v592 v708
  let c1_i32_810 : BitVec 32 := 1#32
  let v836 : BitVec 32 := Scalar.subi v709 c1_i32_810
  let v837 : BitVec 32 := Scalar.select v822 v709 v836
  let c2_i32_900 : BitVec 32 := 2#32
  let v928 : BitVec 32 := Scalar.addi v837 c2_i32_900
  let c2_i32_901 : BitVec 32 := 2#32
  let v929 : BitVec 32 := Scalar.subi v837 c2_i32_901
  let v930 : BitVec 32 := Scalar.select v927 v928 v929
  let c64_i32_956 : BitVec 32 := 64#32
  let v990 : BitVec 32 := Scalar.muli v930 c64_i32_956
  let v991 : Index := Scalar.indexCast v990
  let c0_958 : Index := 0#32
  ![0, v991.toNat, 0]
def k0_off29 (d0 : Dev nD) : Fin 3 → Nat :=
  let c0_977 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_912 : BitVec 32 := 0#32
  let v944 : BitVec 1 := Scalar.cmpi .eq v40 c0_i32_912
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_812 : BitVec 32 := 0#32
  let v839 : BitVec 1 := Scalar.cmpi .eq v39 c0_i32_812
  let c0_i32_442 : BitVec 32 := 0#32
  let v443 : BitVec 1 := Scalar.cmpi .eq v21 c0_i32_442
  let c0_i32_445 : BitVec 32 := 0#32
  let c4_i32_446 : BitVec 32 := 4#32
  let v445 : BitVec 32 := Scalar.select v443 c0_i32_445 c4_i32_446
  let c0_i32_586 : BitVec 32 := 0#32
  let v604 : BitVec 1 := Scalar.cmpi .eq v40 c0_i32_586
  let c0_i32_589 : BitVec 32 := 0#32
  let c2_i32_590 : BitVec 32 := 2#32
  let v607 : BitVec 32 := Scalar.select v604 c0_i32_589 c2_i32_590
  let v608 : BitVec 32 := Scalar.addi v445 v607
  let c0_i32_700 : BitVec 32 := 0#32
  let v721 : BitVec 1 := Scalar.cmpi .eq v39 c0_i32_700
  let c0_i32_703 : BitVec 32 := 0#32
  let c1_i32_704 : BitVec 32 := 1#32
  let v724 : BitVec 32 := Scalar.select v721 c0_i32_703 c1_i32_704
  let v725 : BitVec 32 := Scalar.addi v608 v724
  let c1_i32_824 : BitVec 32 := 1#32
  let v853 : BitVec 32 := Scalar.subi v725 c1_i32_824
  let v854 : BitVec 32 := Scalar.select v839 v725 v853
  let c2_i32_913 : BitVec 32 := 2#32
  let v945 : BitVec 32 := Scalar.addi v854 c2_i32_913
  let c2_i32_914 : BitVec 32 := 2#32
  let v946 : BitVec 32 := Scalar.subi v854 c2_i32_914
  let v947 : BitVec 32 := Scalar.select v944 v945 v946
  let c64_i32_976 : BitVec 32 := 64#32
  let v1008 : BitVec 32 := Scalar.muli v947 c64_i32_976
  let v1009 : Index := Scalar.indexCast v1008
  let c384_978 : Index := 384#32
  ![0, v1009.toNat, 384]
def k0_off30 (d0 : Dev nD) : Fin 3 → Nat :=
  let c0_997 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_926 : BitVec 32 := 0#32
  let v961 : BitVec 1 := Scalar.cmpi .eq v39 c0_i32_926
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_826 : BitVec 32 := 0#32
  let v856 : BitVec 1 := Scalar.cmpi .eq v21 c0_i32_826
  let c1_i32_0 : BitVec 32 := 1#32
  let v3 : BitVec 32 := Scalar.andi v2 c1_i32_0
  let v40 : BitVec 32 := Scalar.xori v3 v21
  let c0_i32_462 : BitVec 32 := 0#32
  let v466 : BitVec 1 := Scalar.cmpi .eq v40 c0_i32_462
  let c0_i32_465 : BitVec 32 := 0#32
  let c4_i32_466 : BitVec 32 := 4#32
  let v468 : BitVec 32 := Scalar.select v466 c0_i32_465 c4_i32_466
  let c0_i32_601 : BitVec 32 := 0#32
  let v620 : BitVec 1 := Scalar.cmpi .eq v39 c0_i32_601
  let c0_i32_604 : BitVec 32 := 0#32
  let c2_i32_605 : BitVec 32 := 2#32
  let v623 : BitVec 32 := Scalar.select v620 c0_i32_604 c2_i32_605
  let v624 : BitVec 32 := Scalar.addi v468 v623
  let c0_i32_715 : BitVec 32 := 0#32
  let v737 : BitVec 1 := Scalar.cmpi .eq v21 c0_i32_715
  let c0_i32_718 : BitVec 32 := 0#32
  let c1_i32_719 : BitVec 32 := 1#32
  let v740 : BitVec 32 := Scalar.select v737 c0_i32_718 c1_i32_719
  let v741 : BitVec 32 := Scalar.addi v624 v740
  let c1_i32_838 : BitVec 32 := 1#32
  let v870 : BitVec 32 := Scalar.subi v741 c1_i32_838
  let v871 : BitVec 32 := Scalar.select v856 v741 v870
  let c2_i32_927 : BitVec 32 := 2#32
  let v962 : BitVec 32 := Scalar.addi v871 c2_i32_927
  let c2_i32_928 : BitVec 32 := 2#32
  let v963 : BitVec 32 := Scalar.subi v871 c2_i32_928
  let v964 : BitVec 32 := Scalar.select v961 v962 v963
  let c64_i32_996 : BitVec 32 := 64#32
  let v1026 : BitVec 32 := Scalar.muli v964 c64_i32_996
  let v1027 : Index := Scalar.indexCast v1026
  let c768_998 : Index := 768#32
  ![0, v1027.toNat, 768]
def k0_off31 (d0 : Dev nD) : Fin 3 → Nat :=
  let c0_i32_1004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_899 : BitVec 32 := 0#32
  let v927 : BitVec 1 := Scalar.cmpi .eq v21 c0_i32_899
  let c1_i32_0 : BitVec 32 := 1#32
  let v3 : BitVec 32 := Scalar.andi v2 c1_i32_0
  let v40 : BitVec 32 := Scalar.xori v3 v21
  let c0_i32_799 : BitVec 32 := 0#32
  let v822 : BitVec 1 := Scalar.cmpi .eq v40 c0_i32_799
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_422 : BitVec 32 := 0#32
  let v420 : BitVec 1 := Scalar.cmpi .eq v39 c0_i32_422
  let c0_i32_425 : BitVec 32 := 0#32
  let c4_i32_426 : BitVec 32 := 4#32
  let v422 : BitVec 32 := Scalar.select v420 c0_i32_425 c4_i32_426
  let c0_i32_572 : BitVec 32 := 0#32
  let v588 : BitVec 1 := Scalar.cmpi .eq v21 c0_i32_572
  let c0_i32_575 : BitVec 32 := 0#32
  let c2_i32_576 : BitVec 32 := 2#32
  let v591 : BitVec 32 := Scalar.select v588 c0_i32_575 c2_i32_576
  let v592 : BitVec 32 := Scalar.addi v422 v591
  let c0_i32_685 : BitVec 32 := 0#32
  let v705 : BitVec 1 := Scalar.cmpi .eq v40 c0_i32_685
  let c0_i32_688 : BitVec 32 := 0#32
  let c1_i32_689 : BitVec 32 := 1#32
  let v708 : BitVec 32 := Scalar.select v705 c0_i32_688 c1_i32_689
  let v709 : BitVec 32 := Scalar.addi v592 v708
  let c1_i32_810 : BitVec 32 := 1#32
  let v836 : BitVec 32 := Scalar.subi v709 c1_i32_810
  let v837 : BitVec 32 := Scalar.select v822 v709 v836
  let c2_i32_910 : BitVec 32 := 2#32
  let v941 : BitVec 32 := Scalar.subi v837 c2_i32_910
  let v942 : BitVec 32 := Scalar.select v927 v837 v941
  let c64_i32_1003 : BitVec 32 := 64#32
  let v1036 : BitVec 32 := Scalar.muli v942 c64_i32_1003
  let c0_i32_1010 : BitVec 32 := 0#32
  ![0, v1036.toNat, 0]
def k0_dev19 (d0 : Dev nD) : Nat :=
  let c0_i32_1008 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_999 : BitVec 32 := 4#32
  let v1031 : BitVec 32 := Scalar.xori v2 c4_i32_999
  let c1_i32_1007 : BitVec 32 := 1#32
  let v1037 : BitVec 32 := Scalar.muli v1031 c1_i32_1007
  let v1038 : BitVec 32 := Scalar.addi c0_i32_1008 v1037
  v1038.toNat
def k0_off32 (d0 : Dev nD) : Fin 3 → Nat :=
  let c0_i32_1016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_912 : BitVec 32 := 0#32
  let v944 : BitVec 1 := Scalar.cmpi .eq v40 c0_i32_912
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_812 : BitVec 32 := 0#32
  let v839 : BitVec 1 := Scalar.cmpi .eq v39 c0_i32_812
  let c0_i32_442 : BitVec 32 := 0#32
  let v443 : BitVec 1 := Scalar.cmpi .eq v21 c0_i32_442
  let c0_i32_445 : BitVec 32 := 0#32
  let c4_i32_446 : BitVec 32 := 4#32
  let v445 : BitVec 32 := Scalar.select v443 c0_i32_445 c4_i32_446
  let c0_i32_586 : BitVec 32 := 0#32
  let v604 : BitVec 1 := Scalar.cmpi .eq v40 c0_i32_586
  let c0_i32_589 : BitVec 32 := 0#32
  let c2_i32_590 : BitVec 32 := 2#32
  let v607 : BitVec 32 := Scalar.select v604 c0_i32_589 c2_i32_590
  let v608 : BitVec 32 := Scalar.addi v445 v607
  let c0_i32_700 : BitVec 32 := 0#32
  let v721 : BitVec 1 := Scalar.cmpi .eq v39 c0_i32_700
  let c0_i32_703 : BitVec 32 := 0#32
  let c1_i32_704 : BitVec 32 := 1#32
  let v724 : BitVec 32 := Scalar.select v721 c0_i32_703 c1_i32_704
  let v725 : BitVec 32 := Scalar.addi v608 v724
  let c1_i32_824 : BitVec 32 := 1#32
  let v853 : BitVec 32 := Scalar.subi v725 c1_i32_824
  let v854 : BitVec 32 := Scalar.select v839 v725 v853
  let c2_i32_924 : BitVec 32 := 2#32
  let v958 : BitVec 32 := Scalar.subi v854 c2_i32_924
  let v959 : BitVec 32 := Scalar.select v944 v854 v958
  let c64_i32_1015 : BitVec 32 := 64#32
  let v1051 : BitVec 32 := Scalar.muli v959 c64_i32_1015
  let c384_i32_1023 : BitVec 32 := 384#32
  ![0, v1051.toNat, 384]
def k0_dev20 (d0 : Dev nD) : Nat :=
  let c0_i32_1020 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1011 : BitVec 32 := 3#32
  let v1046 : BitVec 32 := Scalar.xori v2 c3_i32_1011
  let c1_i32_1019 : BitVec 32 := 1#32
  let v1052 : BitVec 32 := Scalar.muli v1046 c1_i32_1019
  let v1053 : BitVec 32 := Scalar.addi c0_i32_1020 v1052
  v1053.toNat
def k0_off33 (d0 : Dev nD) : Fin 3 → Nat :=
  let c0_i32_1029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_926 : BitVec 32 := 0#32
  let v961 : BitVec 1 := Scalar.cmpi .eq v39 c0_i32_926
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_826 : BitVec 32 := 0#32
  let v856 : BitVec 1 := Scalar.cmpi .eq v21 c0_i32_826
  let c1_i32_0 : BitVec 32 := 1#32
  let v3 : BitVec 32 := Scalar.andi v2 c1_i32_0
  let v40 : BitVec 32 := Scalar.xori v3 v21
  let c0_i32_462 : BitVec 32 := 0#32
  let v466 : BitVec 1 := Scalar.cmpi .eq v40 c0_i32_462
  let c0_i32_465 : BitVec 32 := 0#32
  let c4_i32_466 : BitVec 32 := 4#32
  let v468 : BitVec 32 := Scalar.select v466 c0_i32_465 c4_i32_466
  let c0_i32_601 : BitVec 32 := 0#32
  let v620 : BitVec 1 := Scalar.cmpi .eq v39 c0_i32_601
  let c0_i32_604 : BitVec 32 := 0#32
  let c2_i32_605 : BitVec 32 := 2#32
  let v623 : BitVec 32 := Scalar.select v620 c0_i32_604 c2_i32_605
  let v624 : BitVec 32 := Scalar.addi v468 v623
  let c0_i32_715 : BitVec 32 := 0#32
  let v737 : BitVec 1 := Scalar.cmpi .eq v21 c0_i32_715
  let c0_i32_718 : BitVec 32 := 0#32
  let c1_i32_719 : BitVec 32 := 1#32
  let v740 : BitVec 32 := Scalar.select v737 c0_i32_718 c1_i32_719
  let v741 : BitVec 32 := Scalar.addi v624 v740
  let c1_i32_838 : BitVec 32 := 1#32
  let v870 : BitVec 32 := Scalar.subi v741 c1_i32_838
  let v871 : BitVec 32 := Scalar.select v856 v741 v870
  let c2_i32_938 : BitVec 32 := 2#32
  let v975 : BitVec 32 := Scalar.subi v871 c2_i32_938
  let v976 : BitVec 32 := Scalar.select v961 v871 v975
  let c64_i32_1028 : BitVec 32 := 64#32
  let v1066 : BitVec 32 := Scalar.muli v976 c64_i32_1028
  let c768_i32_1036 : BitVec 32 := 768#32
  ![0, v1066.toNat, 768]
def k0_dev21 (d0 : Dev nD) : Nat :=
  let c0_i32_1033 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1024 : BitVec 32 := 1#32
  let v1061 : BitVec 32 := Scalar.xori v2 c1_i32_1024
  let c1_i32_1032 : BitVec 32 := 1#32
  let v1067 : BitVec 32 := Scalar.muli v1061 c1_i32_1032
  let v1068 : BitVec 32 := Scalar.addi c0_i32_1033 v1067
  v1068.toNat
def k0_off34 (d0 : Dev nD) : Fin 3 → Nat :=
  let c0_1055 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_1000 : BitVec 32 := 0#32
  let v1032 : BitVec 1 := Scalar.cmpi .eq v39 c0_i32_1000
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_899 : BitVec 32 := 0#32
  let v927 : BitVec 1 := Scalar.cmpi .eq v21 c0_i32_899
  let c1_i32_0 : BitVec 32 := 1#32
  let v3 : BitVec 32 := Scalar.andi v2 c1_i32_0
  let v40 : BitVec 32 := Scalar.xori v3 v21
  let c0_i32_799 : BitVec 32 := 0#32
  let v822 : BitVec 1 := Scalar.cmpi .eq v40 c0_i32_799
  let c0_i32_422 : BitVec 32 := 0#32
  let v420 : BitVec 1 := Scalar.cmpi .eq v39 c0_i32_422
  let c0_i32_425 : BitVec 32 := 0#32
  let c4_i32_426 : BitVec 32 := 4#32
  let v422 : BitVec 32 := Scalar.select v420 c0_i32_425 c4_i32_426
  let c0_i32_572 : BitVec 32 := 0#32
  let v588 : BitVec 1 := Scalar.cmpi .eq v21 c0_i32_572
  let c0_i32_575 : BitVec 32 := 0#32
  let c2_i32_576 : BitVec 32 := 2#32
  let v591 : BitVec 32 := Scalar.select v588 c0_i32_575 c2_i32_576
  let v592 : BitVec 32 := Scalar.addi v422 v591
  let c0_i32_685 : BitVec 32 := 0#32
  let v705 : BitVec 1 := Scalar.cmpi .eq v40 c0_i32_685
  let c0_i32_688 : BitVec 32 := 0#32
  let c1_i32_689 : BitVec 32 := 1#32
  let v708 : BitVec 32 := Scalar.select v705 c0_i32_688 c1_i32_689
  let v709 : BitVec 32 := Scalar.addi v592 v708
  let c1_i32_810 : BitVec 32 := 1#32
  let v836 : BitVec 32 := Scalar.subi v709 c1_i32_810
  let v837 : BitVec 32 := Scalar.select v822 v709 v836
  let c2_i32_910 : BitVec 32 := 2#32
  let v941 : BitVec 32 := Scalar.subi v837 c2_i32_910
  let v942 : BitVec 32 := Scalar.select v927 v837 v941
  let c4_i32_1001 : BitVec 32 := 4#32
  let v1033 : BitVec 32 := Scalar.addi v942 c4_i32_1001
  let c4_i32_1002 : BitVec 32 := 4#32
  let v1034 : BitVec 32 := Scalar.subi v942 c4_i32_1002
  let v1035 : BitVec 32 := Scalar.select v1032 v1033 v1034
  let c64_i32_1054 : BitVec 32 := 64#32
  let v1089 : BitVec 32 := Scalar.muli v1035 c64_i32_1054
  let v1090 : Index := Scalar.indexCast v1089
  let c0_1056 : Index := 0#32
  ![0, v1090.toNat, 0]
def k0_off35 (d0 : Dev nD) : Fin 3 → Nat :=
  let c0_1075 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_1012 : BitVec 32 := 0#32
  let v1047 : BitVec 1 := Scalar.cmpi .eq v21 c0_i32_1012
  let c1_i32_0 : BitVec 32 := 1#32
  let v3 : BitVec 32 := Scalar.andi v2 c1_i32_0
  let v40 : BitVec 32 := Scalar.xori v3 v21
  let c0_i32_912 : BitVec 32 := 0#32
  let v944 : BitVec 1 := Scalar.cmpi .eq v40 c0_i32_912
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_812 : BitVec 32 := 0#32
  let v839 : BitVec 1 := Scalar.cmpi .eq v39 c0_i32_812
  let c0_i32_442 : BitVec 32 := 0#32
  let v443 : BitVec 1 := Scalar.cmpi .eq v21 c0_i32_442
  let c0_i32_445 : BitVec 32 := 0#32
  let c4_i32_446 : BitVec 32 := 4#32
  let v445 : BitVec 32 := Scalar.select v443 c0_i32_445 c4_i32_446
  let c0_i32_586 : BitVec 32 := 0#32
  let v604 : BitVec 1 := Scalar.cmpi .eq v40 c0_i32_586
  let c0_i32_589 : BitVec 32 := 0#32
  let c2_i32_590 : BitVec 32 := 2#32
  let v607 : BitVec 32 := Scalar.select v604 c0_i32_589 c2_i32_590
  let v608 : BitVec 32 := Scalar.addi v445 v607
  let c0_i32_700 : BitVec 32 := 0#32
  let v721 : BitVec 1 := Scalar.cmpi .eq v39 c0_i32_700
  let c0_i32_703 : BitVec 32 := 0#32
  let c1_i32_704 : BitVec 32 := 1#32
  let v724 : BitVec 32 := Scalar.select v721 c0_i32_703 c1_i32_704
  let v725 : BitVec 32 := Scalar.addi v608 v724
  let c1_i32_824 : BitVec 32 := 1#32
  let v853 : BitVec 32 := Scalar.subi v725 c1_i32_824
  let v854 : BitVec 32 := Scalar.select v839 v725 v853
  let c2_i32_924 : BitVec 32 := 2#32
  let v958 : BitVec 32 := Scalar.subi v854 c2_i32_924
  let v959 : BitVec 32 := Scalar.select v944 v854 v958
  let c4_i32_1013 : BitVec 32 := 4#32
  let v1048 : BitVec 32 := Scalar.addi v959 c4_i32_1013
  let c4_i32_1014 : BitVec 32 := 4#32
  let v1049 : BitVec 32 := Scalar.subi v959 c4_i32_1014
  let v1050 : BitVec 32 := Scalar.select v1047 v1048 v1049
  let c64_i32_1074 : BitVec 32 := 64#32
  let v1107 : BitVec 32 := Scalar.muli v1050 c64_i32_1074
  let v1108 : Index := Scalar.indexCast v1107
  let c384_1076 : Index := 384#32
  ![0, v1108.toNat, 384]
def k0_off36 (d0 : Dev nD) : Fin 3 → Nat :=
  let c0_1095 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_1025 : BitVec 32 := 0#32
  let v1062 : BitVec 1 := Scalar.cmpi .eq v40 c0_i32_1025
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_926 : BitVec 32 := 0#32
  let v961 : BitVec 1 := Scalar.cmpi .eq v39 c0_i32_926
  let c0_i32_826 : BitVec 32 := 0#32
  let v856 : BitVec 1 := Scalar.cmpi .eq v21 c0_i32_826
  let c0_i32_462 : BitVec 32 := 0#32
  let v466 : BitVec 1 := Scalar.cmpi .eq v40 c0_i32_462
  let c0_i32_465 : BitVec 32 := 0#32
  let c4_i32_466 : BitVec 32 := 4#32
  let v468 : BitVec 32 := Scalar.select v466 c0_i32_465 c4_i32_466
  let c0_i32_601 : BitVec 32 := 0#32
  let v620 : BitVec 1 := Scalar.cmpi .eq v39 c0_i32_601
  let c0_i32_604 : BitVec 32 := 0#32
  let c2_i32_605 : BitVec 32 := 2#32
  let v623 : BitVec 32 := Scalar.select v620 c0_i32_604 c2_i32_605
  let v624 : BitVec 32 := Scalar.addi v468 v623
  let c0_i32_715 : BitVec 32 := 0#32
  let v737 : BitVec 1 := Scalar.cmpi .eq v21 c0_i32_715
  let c0_i32_718 : BitVec 32 := 0#32
  let c1_i32_719 : BitVec 32 := 1#32
  let v740 : BitVec 32 := Scalar.select v737 c0_i32_718 c1_i32_719
  let v741 : BitVec 32 := Scalar.addi v624 v740
  let c1_i32_838 : BitVec 32 := 1#32
  let v870 : BitVec 32 := Scalar.subi v741 c1_i32_838
  let v871 : BitVec 32 := Scalar.select v856 v741 v870
  let c2_i32_938 : BitVec 32 := 2#32
  let v975 : BitVec 32 := Scalar.subi v871 c2_i32_938
  let v976 : BitVec 32 := Scalar.select v961 v871 v975
  let c4_i32_1026 : BitVec 32 := 4#32
  let v1063 : BitVec 32 := Scalar.addi v976 c4_i32_1026
  let c4_i32_1027 : BitVec 32 := 4#32
  let v1064 : BitVec 32 := Scalar.subi v976 c4_i32_1027
  let v1065 : BitVec 32 := Scalar.select v1062 v1063 v1064
  let c64_i32_1094 : BitVec 32 := 64#32
  let v1125 : BitVec 32 := Scalar.muli v1065 c64_i32_1094
  let v1126 : Index := Scalar.indexCast v1125
  let c768_1096 : Index := 768#32
  ![0, v1126.toNat, 768]
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x512x1024 : Shape := ⟨3, ![1, 512, 1024]⟩
abbrev S1024x8192 : Shape := ⟨2, ![1024, 8192]⟩
abbrev S8192x1024 : Shape := ⟨2, ![8192, 1024]⟩
abbrev S1x2048x64x128 : Shape := ⟨4, ![1, 2048, 64, 128]⟩
abbrev S1x512x8192 : Shape := ⟨3, ![1, 512, 8192]⟩
abbrev S1x512x64x128 : Shape := ⟨4, ![1, 512, 64, 128]⟩
abbrev S_ : Shape := ⟨0, ![]⟩
abbrev S1x64x512x1 : Shape := ⟨4, ![1, 64, 512, 1]⟩
abbrev S1x1024x64x128 : Shape := ⟨4, ![1, 1024, 64, 128]⟩
abbrev S1x64x512x1024 : Shape := ⟨4, ![1, 64, 512, 1024]⟩
abbrev S1x64x512 : Shape := ⟨3, ![1, 64, 512]⟩
abbrev S1x512x64x1 : Shape := ⟨4, ![1, 512, 64, 1]⟩
abbrev S1x64x128x512 : Shape := ⟨4, ![1, 64, 128, 512]⟩

abbrev nBuf : Space → Nat
  | .hbm => 70
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x8192, .f32⟩
  | .hbm, ⟨2, _⟩ => ⟨S8192x1024, .f32⟩
  | .hbm, ⟨3, _⟩ => ⟨S1x2048x64x128, .f32⟩
  | .hbm, ⟨4, _⟩ => ⟨S1x2048x64x128, .f32⟩
  | .hbm, ⟨5, _⟩ => ⟨S1x512x8192, .f32⟩
  | .hbm, ⟨6, _⟩ => ⟨S1x512x64x128, .f32⟩
  | .hbm, ⟨7, _⟩ => ⟨S_, .f32⟩
  | .hbm, ⟨8, _⟩ => ⟨S1x512x64x128, .f32⟩
  | .hbm, ⟨9, _⟩ => ⟨S_, .f32⟩
  | .hbm, ⟨10, _⟩ => ⟨S1x64x512x1, .f32⟩
  | .hbm, ⟨11, _⟩ => ⟨S_, .f32⟩
  | .hbm, ⟨12, _⟩ => ⟨S1x64x512x1, .f32⟩
  | .hbm, ⟨13, _⟩ => ⟨S1x1024x64x128, .f32⟩
  | .hbm, ⟨14, _⟩ => ⟨S1x1024x64x128, .f32⟩
  | .hbm, ⟨15, _⟩ => ⟨S1x64x512x1024, .f32⟩
  | .hbm, ⟨16, _⟩ => ⟨S_, .f32⟩
  | .hbm, ⟨17, _⟩ => ⟨S1x64x512x1024, .f32⟩
  | .hbm, ⟨18, _⟩ => ⟨S1x64x512x1024, .f32⟩
  | .hbm, ⟨19, _⟩ => ⟨S_, .f32⟩
  | .hbm, ⟨20, _⟩ => ⟨S1x64x512, .f32⟩
  | .hbm, ⟨21, _⟩ => ⟨S1x64x512x1, .f32⟩
  | .hbm, ⟨22, _⟩ => ⟨S1x64x512x1, .f32⟩
  | .hbm, ⟨23, _⟩ => ⟨S1x64x512x1, .f32⟩
  | .hbm, ⟨24, _⟩ => ⟨S1x64x512x1, .f32⟩
  | .hbm, ⟨25, _⟩ => ⟨S1x64x512x1024, .f32⟩
  | .hbm, ⟨26, _⟩ => ⟨S1x64x512x1024, .f32⟩
  | .hbm, ⟨27, _⟩ => ⟨S1x64x512x1024, .f32⟩
  | .hbm, ⟨28, _⟩ => ⟨S1x64x512x1, .f32⟩
  | .hbm, ⟨29, _⟩ => ⟨S_, .f32⟩
  | .hbm, ⟨30, _⟩ => ⟨S1x64x512, .f32⟩
  | .hbm, ⟨31, _⟩ => ⟨S1x64x512x1, .f32⟩
  | .hbm, ⟨32, _⟩ => ⟨S1x64x512x1, .f32⟩
  | .hbm, ⟨33, _⟩ => ⟨S1x512x64x1, .f32⟩
  | .hbm, ⟨34, _⟩ => ⟨S1x512x64x128, .f32⟩
  | .hbm, ⟨35, _⟩ => ⟨S1x512x64x128, .f32⟩
  | .hbm, ⟨36, _⟩ => ⟨S1x64x128x512, .f32⟩
  | .hbm, ⟨37, _⟩ => ⟨S1x512x64x128, .f32⟩
  | .hbm, ⟨38, _⟩ => ⟨S1x512x64x128, .f32⟩
  | .hbm, ⟨39, _⟩ => ⟨S1x1024x64x128, .f32⟩
  | .hbm, ⟨40, _⟩ => ⟨S1x1024x64x128, .f32⟩
  | .hbm, ⟨41, _⟩ => ⟨S1x64x512x1024, .f32⟩
  | .hbm, ⟨42, _⟩ => ⟨S_, .f32⟩
  | .hbm, ⟨43, _⟩ => ⟨S1x64x512x1024, .f32⟩
  | .hbm, ⟨44, _⟩ => ⟨S1x64x512x1024, .f32⟩
  | .hbm, ⟨45, _⟩ => ⟨S_, .f32⟩
  | .hbm, ⟨46, _⟩ => ⟨S1x64x512, .f32⟩
  | .hbm, ⟨47, _⟩ => ⟨S1x64x512x1, .f32⟩
  | .hbm, ⟨48, _⟩ => ⟨S1x64x512x1, .f32⟩
  | .hbm, ⟨49, _⟩ => ⟨S1x64x512x1, .f32⟩
  | .hbm, ⟨50, _⟩ => ⟨S1x64x512x1, .f32⟩
  | .hbm, ⟨51, _⟩ => ⟨S1x64x512x1024, .f32⟩
  | .hbm, ⟨52, _⟩ => ⟨S1x64x512x1024, .f32⟩
  | .hbm, ⟨53, _⟩ => ⟨S1x64x512x1024, .f32⟩
  | .hbm, ⟨54, _⟩ => ⟨S1x64x512x1, .f32⟩
  | .hbm, ⟨55, _⟩ => ⟨S_, .f32⟩
  | .hbm, ⟨56, _⟩ => ⟨S1x64x512, .f32⟩
  | .hbm, ⟨57, _⟩ => ⟨S1x64x512x1, .f32⟩
  | .hbm, ⟨58, _⟩ => ⟨S1x64x512x1, .f32⟩
  | .hbm, ⟨59, _⟩ => ⟨S1x512x64x1, .f32⟩
  | .hbm, ⟨60, _⟩ => ⟨S1x512x64x128, .f32⟩
  | .hbm, ⟨61, _⟩ => ⟨S1x512x64x128, .f32⟩
  | .hbm, ⟨62, _⟩ => ⟨S1x64x128x512, .f32⟩
  | .hbm, ⟨63, _⟩ => ⟨S1x512x64x128, .f32⟩
  | .hbm, ⟨64, _⟩ => ⟨S1x512x64x128, .f32⟩
  | .hbm, ⟨65, _⟩ => ⟨S1x512x64x1, .f32⟩
  | .hbm, ⟨66, _⟩ => ⟨S1x512x64x128, .f32⟩
  | .hbm, ⟨67, _⟩ => ⟨S1x512x64x128, .f32⟩
  | .hbm, ⟨68, _⟩ => ⟨S1x512x8192, .f32⟩
  | .hbm, ⟨69, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.Common.lean ====
/-
The vocabulary of the proof: the mesh, the messages of the reduce-scatter and all-gather, the offsets they use in closed form,
the memrefs, cells and levels.

The eight devices have three coordinates (`co`); in direction `d` a device's partner is `nb c d`. The output's columns are cut
in three bands `p`, each reduced over its own order of the directions (`dir`). A message is a pair `(p, t)`: for `t < 3` round
`t` of the reduce-scatter of band `p`, for `t ≥ 3` step `t - 3` of its all-gather. Message `(p, t)` of device `c` carries
`NN t` rows of the band, from row `sr c p t` of the output buffer, to rows `crow t ..` of the partner's landing buffer of the band.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.MeshAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The mesh -/

set_option backward.proofsInPublic true in
/-- The partner of device `c` in direction `d`: the device differing from it in coordinate `d` alone. -/
def nb (c : Dev nD) (d : Fin 3) : Dev nD := ⟨(c.val ^^^ (![1, 3, 4] : Fin 3 → ℕ) d) % 8, Nat.mod_lt _ (by decide)⟩

/-- Coordinate `d` of device `c`. -/
def co (c : Dev nD) (d : Fin 3) : ℕ := (![(c.val + c.val / 2) % 2, c.val / 2 % 2, c.val / 4 % 2] : Fin 3 → ℕ) d

theorem nb_nb (c : Dev nD) (d : Fin 3) : nb (nb c d) d = c := by revert c d; decide

/-- The partner maps as permutations of the devices. -/
def nbE (d : Fin 3) : Dev nD ≃ Dev nD := ⟨fun c => nb c d, fun c => nb c d, fun c => nb_nb c d, fun c => nb_nb c d⟩

/-- The direction of the reduce-scatter's round `r` in band `p`. -/
def dirT : Fin 3 → Fin 3 → Fin 3 := ![![2, 1, 0], ![1, 0, 2], ![0, 2, 1]]
/-- The reduce-scatter round whose direction message `t` uses: an all-gather step undoes a round. -/
def fold : Fin 6 → Fin 3 := ![0, 1, 2, 2, 1, 0]
/-- The direction of message `(p, t)`. -/
def dir (p : Fin 3) (t : Fin 6) : Fin 3 := dirT p (fold t)
/-- The partner of `c` in message `(p, t)`. -/
abbrev prt (c : Dev nD) (p : Fin 3) (t : Fin 6) : Dev nD := nb c (dir p t)

theorem prt_prt (c : Dev nD) (p : Fin 3) (t : Fin 6) : prt (prt c p t) p t = c := nb_nb c _

/-- The rows a message carries, -/
def NN : Fin 6 → ℕ := ![256, 128, 64, 64, 128, 256]
/-- the row of the landing buffer it lands at, -/
def crow : Fin 6 → ℕ := ![0, 256, 384, 448, 512, 640]
/-- a band's width -/
def W3 : Fin 3 → ℕ := ![384, 384, 256]
/-- and its first column. -/
def C0 : Fin 3 → ℕ := ![0, 384, 768]

/-- The first row of the output buffer that message `(p, t)` of device `c` carries. -/
def sr (c : Dev nD) (p : Fin 3) : Fin 6 → ℕ :=
  let b : Fin 3 → ℕ := fun r => co c (dirT p r)
  ![256 * (1 - b 0), 256 * b 0 + 128 * (1 - b 1), 256 * b 0 + 128 * b 1 + 64 * (1 - b 2),
    256 * b 0 + 128 * b 1 + 64 * b 2, 256 * b 0 + 128 * b 1, 256 * b 0]

/-- The message that undoes message `t`: its rows are those message `t` of the partner carries. -/
def opp : Fin 6 → Fin 6 := ![5, 4, 3, 2, 1, 0]

theorem NN_opp (t : Fin 6) : NN (opp t) = NN t := by revert t; decide
/-- The rows that the partner's message `(p, t)` carries. -/
theorem sr_prt (c : Dev nD) (p : Fin 3) (t : Fin 6) : sr (prt c p t) p t = sr c p (opp t) := by revert c p t; decide

theorem out_inb (c : Dev nD) (p : Fin 3) (t : Fin 6) :
    ∀ a, (![0, sr c p t, C0 p] : Fin 3 → ℕ) a + (![1, NN t, W3 p] : Fin 3 → ℕ) a ≤ S1x512x1024.size a := by
  revert c p t; decide +kernel
theorem comm_inb (p : Fin 3) (t : Fin 6) :
    ∀ a, (![crow t, 0] : Fin 2 → ℕ) a + (![NN t, W3 p] : Fin 2 → ℕ) a ≤ (![896, W3 p] : Fin 2 → ℕ) a := by
  revert p t; decide +kernel
theorem squeeze_msg (p : Fin 3) (t : Fin 6) : (⟨3, ![1, NN t, W3 p]⟩ : Shape).Squeezes ⟨2, ![NN t, W3 p]⟩ := by
  revert p t; decide +kernel

/-! ## The printed offsets and devices in closed form -/

theorem off_ext {n : ℕ} {f g : Dev nD → Fin n → ℕ} (h : ∀ c a, f c a = g c a) (c : Dev nD) : f c = g c := funext (h c)

theorem off4_eq : ∀ c, k0_off4 c = ![0, sr c 0 0, C0 0] := off_ext (by decide +kernel)
theorem off6_eq : ∀ c, k0_off6 c = ![0, sr c 1 0, C0 1] := off_ext (by decide +kernel)
theorem off9_eq : ∀ c, k0_off9 c = ![0, sr c 2 0, C0 2] := off_ext (by decide +kernel)
theorem off10_eq : ∀ c, k0_off10 c = ![0, sr c 0 1, C0 0] := off_ext (by decide +kernel)
theorem off11_eq : ∀ c, k0_off11 c = ![0, sr c 1 1, C0 1] := off_ext (by decide +kernel)
theorem off12_eq : ∀ c, k0_off12 c = ![0, sr c 2 1, C0 2] := off_ext (by decide +kernel)
theorem off16_eq : ∀ c, k0_off16 c 1#32 0#32 = ![0, sr c 0 2, C0 0] := off_ext (by decide +kernel)
theorem off17_eq : ∀ c, k0_off17 c 1#32 0#32 = ![0, sr c 1 2, C0 1] := off_ext (by decide +kernel)
theorem off18_eq : ∀ c, k0_off18 c 1#32 0#32 = ![0, sr c 2 2, C0 2] := off_ext (by decide +kernel)
theorem off16'_eq : ∀ c, k0_off16 c 0#32 1#32 = ![0, sr c 0 3, C0 0] := off_ext (by decide +kernel)
theorem off17'_eq : ∀ c, k0_off17 c 0#32 1#32 = ![0, sr c 1 3, C0 1] := off_ext (by decide +kernel)
theorem off18'_eq : ∀ c, k0_off18 c 0#32 1#32 = ![0, sr c 2 3, C0 2] := off_ext (by decide +kernel)
theorem off25_eq : ∀ c, k0_off25 c = ![0, sr c 0 4, C0 0] := off_ext (by decide +kernel)
theorem off26_eq : ∀ c, k0_off26 c = ![0, sr c 1 4, C0 1] := off_ext (by decide +kernel)
theorem off27_eq : ∀ c, k0_off27 c = ![0, sr c 2 4, C0 2] := off_ext (by decide +kernel)
theorem off31_eq : ∀ c, k0_off31 c = ![0, sr c 0 5, C0 0] := off_ext (by decide +kernel)
theorem off32_eq : ∀ c, k0_off32 c = ![0, sr c 1 5, C0 1] := off_ext (by decide +kernel)
theorem off33_eq : ∀ c, k0_off33 c = ![0, sr c 2 5, C0 2] := off_ext (by decide +kernel)

theorem off3_eq : ∀ c, k0_off3 c 4#32 0#32 = ![0, sr c 0 0, C0 0] := off_ext (by decide +kernel)
theorem off5_eq : ∀ c, k0_off5 c 4#32 0#32 = ![0, sr c 1 0, C0 1] := off_ext (by decide +kernel)
theorem off8_eq : ∀ c, k0_off8 c 4#32 0#32 = ![0, sr c 2 0, C0 2] := off_ext (by decide +kernel)
theorem off3'_eq : ∀ c, k0_off3 c 0#32 4#32 = ![0, sr c 0 5, C0 0] := off_ext (by decide +kernel)
theorem off5'_eq : ∀ c, k0_off5 c 0#32 4#32 = ![0, sr c 1 5, C0 1] := off_ext (by decide +kernel)
theorem off8'_eq : ∀ c, k0_off8 c 0#32 4#32 = ![0, sr c 2 5, C0 2] := off_ext (by decide +kernel)
theorem off13_eq : ∀ c, k0_off13 c = ![0, sr c 0 4, C0 0] := off_ext (by decide +kernel)
theorem off14_eq : ∀ c, k0_off14 c = ![0, sr c 1 4, C0 1] := off_ext (by decide +kernel)
theorem off15_eq : ∀ c, k0_off15 c = ![0, sr c 2 4, C0 2] := off_ext (by decide +kernel)
theorem off19_eq : ∀ c, k0_off19 c = ![0, sr c 0 3, C0 0] := off_ext (by decide +kernel)
theorem off20_eq : ∀ c, k0_off20 c = ![0, sr c 1 3, C0 1] := off_ext (by decide +kernel)
theorem off21_eq : ∀ c, k0_off21 c = ![0, sr c 2 3, C0 2] := off_ext (by decide +kernel)
theorem off22_eq : ∀ c, k0_off22 c = ![0, sr c 0 2, C0 0] := off_ext (by decide +kernel)
theorem off23_eq : ∀ c, k0_off23 c = ![0, sr c 1 2, C0 1] := off_ext (by decide +kernel)
theorem off24_eq : ∀ c, k0_off24 c = ![0, sr c 2 2, C0 2] := off_ext (by decide +kernel)
theorem off28_eq : ∀ c, k0_off28 c = ![0, sr c 0 1, C0 0] := off_ext (by decide +kernel)
theorem off29_eq : ∀ c, k0_off29 c = ![0, sr c 1 1, C0 1] := off_ext (by decide +kernel)
theorem off30_eq : ∀ c, k0_off30 c = ![0, sr c 2 1, C0 2] := off_ext (by decide +kernel)
theorem off34_eq : ∀ c, k0_off34 c = ![0, sr c 0 0, C0 0] := off_ext (by decide +kernel)
theorem off35_eq : ∀ c, k0_off35 c = ![0, sr c 1 0, C0 1] := off_ext (by decide +kernel)
theorem off36_eq : ∀ c, k0_off36 c = ![0, sr c 2 0, C0 2] := off_ext (by decide +kernel)

/-- The rows of the attention result that the product of band `p` reads, for the half it sends and the half it keeps. -/
theorem off2a_eq : ∀ c, k0_off2 c 4#32 4#32 0#32 = ![sr c 0 0, 0] := off_ext (by decide +kernel)
theorem off2b_eq : ∀ c, k0_off2 c 2#32 4#32 0#32 = ![sr c 1 0, 0] := off_ext (by decide +kernel)
theorem off7a_eq : ∀ c, k0_off7 c 4#32 0#32 = ![sr c 2 0, 0] := off_ext (by decide +kernel)
theorem off2c_eq : ∀ c, k0_off2 c 4#32 0#32 4#32 = ![sr c 0 5, 0] := off_ext (by decide +kernel)
theorem off2d_eq : ∀ c, k0_off2 c 2#32 0#32 4#32 = ![sr c 1 5, 0] := off_ext (by decide +kernel)
theorem off7b_eq : ∀ c, k0_off7 c 0#32 4#32 = ![sr c 2 5, 0] := off_ext (by decide +kernel)

/-- The head of the key and value arrays that device `c`'s copy `h` reads. -/
theorem off1_eq (c : Dev nD) (h : Fin 8) : k0_off1 c (BitVec.ofNat 32 h.val) = ![0, 0, 8 * c.val + h.val, 0] :=
  funext ((by decide +kernel : ∀ (c : Dev nD) (h : Fin 8) a, k0_off1 c (BitVec.ofNat 32 h.val) a = (![0, 0, 8 * c.val + h.val, 0] : Fin 4 → ℕ) a) c h)

theorem dev1_eq : ∀ c, (⟨k0_dev1 c, k0_dev1_lt c⟩ : Dev nD) = nb c 0 := by decide +kernel
theorem dev2_eq : ∀ c, (⟨k0_dev2 c, k0_dev2_lt c⟩ : Dev nD) = nb c 1 := by decide +kernel
theorem dev3_eq : ∀ c, (⟨k0_dev3 c, k0_dev3_lt c⟩ : Dev nD) = nb c 2 := by decide +kernel
theorem dev4_eq : ∀ c, (⟨k0_dev4 c, k0_dev4_lt c⟩ : Dev nD) = prt c 0 0 := by decide +kernel
theorem dev5_eq : ∀ c, (⟨k0_dev5 c, k0_dev5_lt c⟩ : Dev nD) = prt c 1 0 := by decide +kernel
theorem dev6_eq : ∀ c, (⟨k0_dev6 c, k0_dev6_lt c⟩ : Dev nD) = prt c 2 0 := by decide +kernel
theorem dev7_eq : ∀ c, (⟨k0_dev7 c, k0_dev7_lt c⟩ : Dev nD) = prt c 0 1 := by decide +kernel
theorem dev8_eq : ∀ c, (⟨k0_dev8 c, k0_dev8_lt c⟩ : Dev nD) = prt c 1 1 := by decide +kernel
theorem dev9_eq : ∀ c, (⟨k0_dev9 c, k0_dev9_lt c⟩ : Dev nD) = prt c 2 1 := by decide +kernel
theorem dev10_eq : ∀ c, (⟨k0_dev10 c, k0_dev10_lt c⟩ : Dev nD) = prt c 0 2 := by decide +kernel
theorem dev11_eq : ∀ c, (⟨k0_dev11 c, k0_dev11_lt c⟩ : Dev nD) = prt c 1 2 := by decide +kernel
theorem dev12_eq : ∀ c, (⟨k0_dev12 c, k0_dev12_lt c⟩ : Dev nD) = prt c 2 2 := by decide +kernel
theorem dev13_eq : ∀ c, (⟨k0_dev13 c, k0_dev13_lt c⟩ : Dev nD) = prt c 0 3 := by decide +kernel
theorem dev14_eq : ∀ c, (⟨k0_dev14 c, k0_dev14_lt c⟩ : Dev nD) = prt c 1 3 := by decide +kernel
theorem dev15_eq : ∀ c, (⟨k0_dev15 c, k0_dev15_lt c⟩ : Dev nD) = prt c 2 3 := by decide +kernel
theorem dev16_eq : ∀ c, (⟨k0_dev16 c, k0_dev16_lt c⟩ : Dev nD) = prt c 0 4 := by decide +kernel
theorem dev17_eq : ∀ c, (⟨k0_dev17 c, k0_dev17_lt c⟩ : Dev nD) = prt c 1 4 := by decide +kernel
theorem dev18_eq : ∀ c, (⟨k0_dev18 c, k0_dev18_lt c⟩ : Dev nD) = prt c 2 4 := by decide +kernel
theorem dev19_eq : ∀ c, (⟨k0_dev19 c, k0_dev19_lt c⟩ : Dev nD) = prt c 0 5 := by decide +kernel
theorem dev20_eq : ∀ c, (⟨k0_dev20 c, k0_dev20_lt c⟩ : Dev nD) = prt c 1 5 := by decide +kernel
theorem dev21_eq : ∀ c, (⟨k0_dev21 c, k0_dev21_lt c⟩ : Dev nD) = prt c 2 5 := by decide +kernel

/-! ## Memrefs -/

abbrev xM : Memref sig .tc .vmem S1x512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1x512x1024 .f32 := Memref.whole cc0_stg3_0
abbrev kArr : Memref sig .tc .hbm S1x2048x64x128 .f32 := Memref.whole main_arg3
abbrev vArr : Memref sig .tc .hbm S1x2048x64x128 .f32 := Memref.whole main_arg4
abbrev kScr : Memref sig .tc .vmem S2x2048x1x128 .f32 := Memref.whole cc0_scratch0
abbrev vScr : Memref sig .tc .vmem S2x2048x1x128 .f32 := Memref.whole cc0_scratch1
abbrev atM : Memref sig .tc .vmem S512x1024 .f32 := Memref.whole cc0_scratch2

/-- The landing buffer of band `p`. -/
def commM : (p : Fin 3) → Memref sig .tc .vmem ⟨2, ![896, W3 p]⟩ .f32
  | 0 => Memref.whole cc0_scratch3
  | 1 => Memref.whole cc0_scratch4
  | 2 => Memref.whole cc0_scratch5

abbrev outR (c : Dev nD) (p : Fin 3) (t : Fin 6) : Rect S1x512x1024 := Rect.unit (s := S1x512x1024) ![0, sr c p t, C0 p] ![1, NN t, W3 p] (out_inb c p t)
abbrev commR (p : Fin 3) (t : Fin 6) : Rect (⟨2, ![896, W3 p]⟩ : Shape) := Rect.unit (s := ⟨2, ![896, W3 p]⟩) ![crow t, 0] ![NN t, W3 p] (comm_inb p t)

/-- The rows of the output buffer that message `(p, t)` of device `c` carries, -/
abbrev srcM (c : Dev nD) (p : Fin 3) (t : Fin 6) : Memref sig .tc .vmem ⟨2, ![NN t, W3 p]⟩ .f32 :=
  (outM.slice (outR c p t) (fun _ => rfl)).squeeze ⟨2, ![NN t, W3 p]⟩ (squeeze_msg p t)
/-- and the rows of the landing buffer it lands in. -/
abbrev dstM (p : Fin 3) (t : Fin 6) : Memref sig .tc .vmem ⟨2, ![NN t, W3 p]⟩ .f32 := (commM p).slice (commR p t) (fun _ => rfl)

/-- The units a message's transfer credits. -/
def NC (p : Fin 3) (t : Fin 6) : ℕ := (dstM p t).view.dmaCredit

theorem NC_pos (p : Fin 3) (t : Fin 6) : 0 < NC p t := View.dmaCredit_pos _ (by revert p t; decide +kernel)

/-! ## Semaphores -/

/-- A message's semaphores: `false` the sender's, `true` the receiver's. -/
abbrev Msg : Type := Fin 3 × Fin 6

set_option backward.proofsInPublic true in
/-- The semaphore of message `(p, t)`: the sender's (`b = false`) and the receiver's (`b = true`). -/
def xS (p : Fin 3) (t : Fin 6) (b : Bool) : DmaSem sig :=
  ⟨(if b then 9 else 0) + 3 * p.val + (if t.val < 3 then 4 + t.val else 19 + t.val), by
    have h1 := p.isLt; have h2 := t.isLt
    show _ < 44
    split <;> split <;> omega⟩

/-- The kernel's barrier semaphore. -/
abbrev barS : Sem sig := (SemArray.scalar (sig.barrier 0 rfl) : Sems sig S_).sem

/-- A device's cells: the barrier, and each message's two. -/
abbrev Ck : Type := Option (Msg × Bool)
def csem : Ck → SemLoc sig
  | none => .reg barS
  | some ((p, t), b) => .dma (xS p t b)

abbrev kcell (ck : Dev nD × Ck) : GSem nD τ sig := ((ck.1 : Thread nD τ), csem ck.2)
abbrev barCell (c : Dev nD) : GSem nD τ sig := ((c : Thread nD τ), .reg barS)
abbrev xCell (c : Dev nD) (p : Fin 3) (t : Fin 6) (b : Bool) : GSem nD τ sig := ((c : Thread nD τ), .dma (xS p t b))

theorem xS_inj : ∀ p t b p' t' b', xS p t b = xS p' t' b' → p = p' ∧ t = t' ∧ b = b' := by decide +kernel

theorem csem_injective : Function.Injective csem := by
  intro k k' h
  match k, k' with
  | none, none => rfl
  | none, some _ => cases h
  | some _, none => cases h
  | some ((p, t), b), some ((p', t'), b') =>
    obtain ⟨rfl, rfl, rfl⟩ := xS_inj p t b p' t' b' (by injection h)
    rfl

end Cert.MeshAttn
-- ==== Proof.Contents.lean ====
/-
The contents of every buffer the kernel passes through, as functions of the memory at launch: the attention rows of a device,
its partial product, the reduce-scatter's partial sums, the finished output, and what each message carries.
All of it is stated over any float values `F`.
-/
module

public import proofs.«01_k».proof.Proof.Common

@[expose] public section

noncomputable section

namespace Cert.MeshAttn

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ)

/-! ## The inputs -/

/-- Device `c`'s `x`, `Wq` and `Wo` as the pipeline stages them. -/
def xC (c : Dev nD) : (cc0_stg0_0 : Ref sig .tc).ty.Contents (Elt F) :=
  (win0_0.blk (0 : Fin 1)).view.read (Elt F) (m ((c : Thread nD τ).loc main_arg0))
def wqC (c : Dev nD) : (cc0_stg1_0 : Ref sig .tc).ty.Contents (Elt F) :=
  (win0_1.blk (0 : Fin 1)).view.read (Elt F) (m ((c : Thread nD τ).loc main_arg1))
def woC (c : Dev nD) : (cc0_stg2_0 : Ref sig .tc).ty.Contents (Elt F) :=
  (win0_2.blk (0 : Fin 1)).view.read (Elt F) (m ((c : Thread nD τ).loc main_arg2))
/-- Its key and value arrays. -/
def kC (c : Dev nD) : (main_arg3 : Ref sig .tc).ty.Contents (Elt F) := m ((c : Thread nD τ).loc main_arg3)
def vC (c : Dev nD) : (main_arg4 : Ref sig .tc).ty.Contents (Elt F) := m ((c : Thread nD τ).loc main_arg4)

/-! ## Attention -/

theorem head_inb (c : Dev nD) (h : Fin 8) :
    ∀ a, (![0, 0, 8 * c.val + h.val, 0] : Fin 4 → ℕ) a + S1x2048x1x128.size a ≤ S1x2048x64x128.size a := by
  revert c h; decide +kernel
/-- Head `8 c + h` of an array of heads. -/
abbrev headR (c : Dev nD) (h : Fin 8) : Rect S1x2048x64x128 :=
  Rect.unit (s := S1x2048x64x128) ![0, 0, 8 * c.val + h.val, 0] S1x2048x1x128.size (head_inb c h)

/-- The scaled queries. -/
def qC (c : Dev nD) : FVec F S512x1024 .f32 := k0_pay2 (xC m c) (wqC m c)
/-- The keys and the values of head `8 c + h`. -/
def khC (c : Dev nD) (h : Fin 8) : Vec F S1x2048x1x128 .f32 := kArr.view.readAt (Elt F) (headR c h).toLoadRect (kC m c)
def vhC (c : Dev nD) (h : Fin 8) : Vec F S1x2048x1x128 .f32 := vArr.view.readAt (Elt F) (headR c h).toLoadRect (vC m c)

/-- One head's rows: the function the body stores at head `h`. -/
def headF : (h : Fin 8) → FVec F S512x1024 .f32 → Vec F S1x2048x1x128 .f32 → Vec F S1x2048x1x128 .f32 → FVec F S512x128 .f32
  | 0 => k0_pay3
  | 1 => k0_pay4
  | 2 => fun q k v => k0_pay7 (k0_pay5 q k) (k0_pay6 q k) v
  | 3 => k0_pay8
  | 4 => k0_pay9
  | 5 => fun q k v => k0_pay12 (k0_pay10 q k) (k0_pay11 q k) v
  | 6 => k0_pay13
  | 7 => fun q k v => k0_pay15 (k0_pay14 q k v)

/-- The head an attention column belongs to, and its column inside the head. -/
def hd (i : S512x1024.Idx) : Fin 8 := ⟨(i 1).val / 128, by have h : (i 1).val < 1024 := (i 1).isLt; omega⟩
def hcol (i : S512x1024.Idx) : S512x128.Idx := fun a => match a with
  | ⟨0, _⟩ => i 0
  | ⟨1, _⟩ => ⟨(i 1).val % 128, Nat.mod_lt _ (by decide)⟩

/-- The attention rows of device `c`'s eight heads, side by side. -/
def attC (c : Dev nD) : (cc0_scratch2 : Ref sig .tc).ty.Contents (Elt F) :=
  fun i => headF (hd i) (qC m c) (khC m c (hd i)) (vhC m c (hd i)) (hcol i)

/-! ## The partial product -/

/-- The message whose rows a half of the product fills: the half sent in round 0, and the half kept. -/
def half (b : Bool) : Fin 6 := if b then 5 else 0

theorem rows_inb (c : Dev nD) (p : Fin 3) (b : Bool) :
    ∀ a, (![sr c p (half b), 0] : Fin 2 → ℕ) a + S256x1024.size a ≤ S512x1024.size a := by
  revert c p b; decide +kernel
/-- The attention rows of a half of the product. -/
def rowsC (c : Dev nD) (p : Fin 3) (b : Bool) : Vec F S256x1024 .f32 :=
  atM.view.readAt (Elt F) (Rect.unit (s := S512x1024) ![sr c p (half b), 0] S256x1024.size (rows_inb c p b)).toLoadRect (attC m c)

/-- A half of the product in band `p`, from its rows and the whole of `Wo`. -/
def mmF : (p : Fin 3) → Vec F S256x1024 .f32 → (cc0_stg2_0 : Ref sig .tc).ty.Contents (Elt F) → ((⟨3, ![1, 256, W3 p]⟩ : Shape).Idx → Elt F .f32)
  | 0 => fun a w => k0_pay16 a (woM.view.readAt (Elt F) (Rect.unit (s := S1024x1024) ![0, 0] S1024x384.size inb_S1024x1024_S1024x384_0_0).toLoadRect w)
  | 1 => fun a w => k0_pay17 a (woM.view.readAt (Elt F) (Rect.unit (s := S1024x1024) ![0, 384] S1024x384.size inb_S1024x1024_S1024x384_0_384).toLoadRect w)
  | 2 => fun a w => k0_pay19 (k0_pay18 a (woM.view.readAt (Elt F) (Rect.unit (s := S1024x1024) ![0, 768] S1024x256.size inb_S1024x1024_S1024x256_0_768).toLoadRect w))

/-- Some contents, for the places nothing reads. -/
def noneC : (cc0_stg3_0 : Ref sig .tc).ty.Contents (Elt F) := fun _ => (Scalar.ofBits .f32 0#32 : F .f32)

/-- Device `c`'s partial product in band `p`: its two halves written over. -/
def dC (c : Dev nD) (p : Fin 3) : (cc0_stg3_0 : Ref sig .tc).ty.Contents (Elt F) :=
  (outM.access (outR c p 5)).write (Elt F)
    ((outM.access (outR c p 0)).write (Elt F) noneC (mmF p (rowsC m c p false) (woC m c)) Finset.univ)
    (mmF p (rowsC m c p true) (woC m c)) Finset.univ

/-! ## The reduce-scatter's sums, the finished output, the messages -/

/-- A round of the reduce-scatter: each device adds its partner's contents to its own. -/
def addStep (p : Fin 3) (t : Fin 6) (A : Dev nD → (cc0_stg3_0 : Ref sig .tc).ty.Contents (Elt F)) (c : Dev nD) : (cc0_stg3_0 : Ref sig .tc).ty.Contents (Elt F) :=
  addf (s := S1x512x1024) (φ := .f32) (A c) (A (prt c p t))

/-- Device `c`'s sum in band `p` before round `r`. -/
def aC (p : Fin 3) (r : ℕ) : Dev nD → (cc0_stg3_0 : Ref sig .tc).ty.Contents (Elt F) :=
  match r with
  | 0 => fun c => dC m c p
  | 1 => addStep p 0 fun c => dC m c p
  | 2 => addStep p 1 (addStep p 0 fun c => dC m c p)
  | _ => addStep p 2 (addStep p 1 (addStep p 0 fun c => dC m c p))

/-- The finished output in band `p`: each chunk as the device that finished it left it. -/
def finC (p : Fin 3) : (cc0_stg3_0 : Ref sig .tc).ty.Contents (Elt F) := fun i =>
  open Classical in if h : ∃ c : Dev nD, i ∈ (outR c p 3).set then aC m p 3 h.choose i else noneC i

/-- What message `(p, t)` of device `c` carries. -/
def msgC (c : Dev nD) (p : Fin 3) (t : Fin 6) : (cc0_stg3_0 : Ref sig .tc).ty.Contents (Elt F) :=
  if t.val < 3 then aC m p t.val c else finC m p

/-- The column's band. -/
def bandOf (i : S1x512x1024.Idx) : Fin 3 := if (i 2).val < 384 then 0 else if (i 2).val < 768 then 1 else 2

/-- The output: each band finished. -/
def outC : (cc0_stg3_0 : Ref sig .tc).ty.Contents (Elt F) := fun i => finC m (bandOf i) i

end Cert.MeshAttn
-- ==== Proof.Sched.lean ====
/-
The protocol: what each device's cells are paid, by whom, and what each payment hands over.

A device's barrier cell is paid one unit by each of its three partners; partner `nb c d` hands over the landing rows of its
messages of direction `d`, which device `c` fills. A message's sender cell is paid when the transfer has read its rows, and
hands them back; its receiver cell when it has landed, and hands over the landing rows with the message in them.
-/
module

public import proofs.«01_k».proof.Proof.Contents

@[expose] public section

noncomputable section

namespace Cert.MeshAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's own component. -/
def ER : Emb UB 𝕄 :=
  ((Emb.inl : Emb UB (UB × Counters)).trans (Emb.inr : Emb (UB × Counters) UU)).trans (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## Regions -/

/-- Rows of the output buffer of device `c` holding `X`. -/
def outP (c : Dev nD) (S : Finset S1x512x1024.Idx) (X : (cc0_stg3_0 : Ref sig .tc).ty.Contents (Elt F)) : sProp 𝕄 :=
  ((c : Thread nD τ).loc cc0_stg3_0) ↦[S]{fullShare} X
/-- The landing rows of message `(p, t)` on device `c`. -/
def commP (c : Dev nD) (p : Fin 3) (t : Fin 6) (f : Buf (Elt F) ((dstM p t).view.loc (c : Thread nD τ))) : sProp 𝕄 :=
  (dstM p t).view.loc (c : Thread nD τ) ↦[(dstM p t).view.set]{fullShare} f
/-- The landing rows, whatever they hold, -/
def commE (c : Dev nD) (p : Fin 3) (t : Fin 6) : sProp 𝕄 := iprop(∃ f, commP (F := F) c p t f)
/-- and holding the vector `w`. -/
def commV (c : Dev nD) (p : Fin 3) (t : Fin 6) (w : FVec F ⟨2, ![NN t, W3 p]⟩ .f32) : sProp 𝕄 :=
  iprop(∃ f, ⌜(dstM p t).view.read (Elt F) f = w⌝ ∗ commP (F := F) c p t f)

instance outP_storable (c : Dev nD) (S) (X) : BI.Storable (upEmb : UEmb _ 𝕄) (outP (F := F) c S X) := by unfold outP; infer_instance
instance commP_storable (c : Dev nD) (p t f) : BI.Storable (upEmb : UEmb _ 𝕄) (commP (F := F) c p t f) := by unfold commP; infer_instance
instance commE_storable (c : Dev nD) (p t) : BI.Storable (upEmb : UEmb _ 𝕄) (commE (F := F) c p t) := by unfold commE; infer_instance
instance commV_storable (c : Dev nD) (p t w) : BI.Storable (upEmb : UEmb _ 𝕄) (commV (F := F) c p t w) := by unfold commV; infer_instance

/-- The rows of message `(p, t)` of device `c`. -/
abbrev oS (c : Dev nD) (p : Fin 3) (t : Fin 6) : Finset S1x512x1024.Idx := (outR c p t).set

/-- The vector that message `(p, t)` of device `c` carries. -/
def msgV (c : Dev nD) (p : Fin 3) (t : Fin 6) : FVec F ⟨2, ![NN t, W3 p]⟩ .f32 := (srcM c p t).view.read (Elt F) (msgC m c p t)

/-! ## The schedule -/

/-- Which of a device's cells a semaphore is. -/
def decSem (s : SemLoc sig) : Option Ck := open Classical in if h : ∃ k, csem k = s then some h.choose else none

theorem decSem_csem (k : Ck) : decSem (csem k) = some k := by
  unfold decSem
  have h : ∃ k', csem k' = csem k := ⟨k, rfl⟩
  rw [dif_pos h]; exact congrArg some (csem_injective h.choose_spec)
theorem decSem_bar : decSem (.reg barS) = some none := decSem_csem none
theorem decSem_x (p t b) : decSem (.dma (xS p t b)) = some (some ((p, t), b)) := decSem_csem (some ((p, t), b))
theorem decSem_none (s : SemLoc sig) (h : ∀ k, csem k ≠ s) : decSem s = none := by
  unfold decSem; exact dif_neg fun ⟨k, hk⟩ => h k hk

def barPay (c : Dev nD) (d : Fin 3) : sProp 𝕄 :=
  bigSep ((Finset.univ : Finset Msg).filter fun k => dir k.1 k.2 = d) fun k => commE (F := F) (nb c d) k.1 k.2
def recvPay (c : Dev nD) (p : Fin 3) (t : Fin 6) : sProp 𝕄 := commV c p t (msgV m (prt c p t) p t)
def sendPay (c : Dev nD) (p : Fin 3) (t : Fin 6) : sProp 𝕄 := outP c (oS c p t) (msgC m c p t)

instance barPay_storable (c : Dev nD) (d) : BI.Storable (upEmb : UEmb _ 𝕄) (barPay (F := F) c d) := by unfold barPay; infer_instance
instance recvPay_storable (c : Dev nD) (p t) : BI.Storable (upEmb : UEmb _ 𝕄) (recvPay (F := F) m c p t) := by unfold recvPay; infer_instance
instance sendPay_storable (c : Dev nD) (p t) : BI.Storable (upEmb : UEmb _ 𝕄) (sendPay (F := F) m c p t) := by unfold sendPay; infer_instance

def dutF : Option Ck → Finset (Fin 3)
  | some none => Finset.univ
  | some (some _) => {0}
  | none => ∅
def amtF : Option Ck → ℕ
  | some (some ((p, t), _)) => NC p t
  | _ => 1
def payF (c : Dev nD) : Option Ck → Fin 3 → sProp 𝕄
  | some none, d => barPay c d
  | some (some ((p, t), true)), _ => recvPay m c p t
  | some (some ((p, t), false)), _ => sendPay m c p t
  | none, _ => iprop(emp)

def Rd : Rounds.Schedule (GSem nD τ sig) (Fin 3) 𝕄 where
  duties g r := if r = 0 ∧ g.1.2 = .tc then dutF (decSem g.2) else ∅
  unitless _ := False
  amount g _ _ := amtF (decSem g.2)
  payload g _ d := payF m g.1.1 (decSem g.2) d
  amount_pos g _ _ _ := by
    show 0 < amtF (decSem g.2)
    unfold amtF
    split
    · exact NC_pos _ _
    · exact Nat.one_pos

instance Rd_payload_storable (g : GSem nD τ sig) (r : ℕ) (d : Fin 3) : BI.Storable (upEmb : UEmb _ 𝕄) ((Rd (F := F) m).payload g r d) := by
  show BI.Storable upEmb (payF m g.1.1 (decSem g.2) d)
  unfold payF
  split <;> infer_instance

section Sched
variable (c : Dev nD) (p : Fin 3) (t : Fin 6) (b : Bool)

theorem duties_bar : (Rd (F := F) m).duties (barCell c) 0 = Finset.univ := by
  dsimp only [Rd]; rw [if_pos ⟨rfl, rfl⟩, decSem_bar]; rfl
theorem duties_x : (Rd (F := F) m).duties (xCell c p t b) 0 = {0} := by
  dsimp only [Rd]; rw [if_pos ⟨rfl, rfl⟩, decSem_x]; rfl
theorem duties_later (g : GSem nD τ sig) : ∀ r, 1 ≤ r → (Rd (F := F) m).duties g r = ∅ :=
  fun r hr => by dsimp only [Rd]; rw [if_neg fun h => by omega]
theorem amount_bar (d : Fin 3) : (Rd (F := F) m).amount (barCell c) 0 d = 1 := by dsimp only [Rd]; rw [decSem_bar]; rfl
theorem amount_x (d : Fin 3) : (Rd (F := F) m).amount (xCell c p t b) 0 d = NC p t := by dsimp only [Rd]; rw [decSem_x]; rfl
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_x : (Rd (F := F) m).expect (xCell c p t b) 0 = NC p t := by
  unfold Schedule.expect Schedule.amountOf; rw [duties_x, Finset.sum_singleton, amount_x]
theorem payload_bar (d : Fin 3) : (Rd (F := F) m).payload (barCell c) 0 d = barPay c d := by dsimp only [Rd]; rw [decSem_bar]; rfl
theorem payload_send (d : Fin 3) : (Rd (F := F) m).payload (xCell c p t false) 0 d = sendPay m c p t := by dsimp only [Rd]; rw [decSem_x]; rfl
theorem payload_recv (d : Fin 3) : (Rd (F := F) m).payload (xCell c p t true) 0 d = recvPay m c p t := by dsimp only [Rd]; rw [decSem_x]; rfl

/-- A family over the messages, sorted by direction. -/
theorem by_dir (Φ : Msg → sProp 𝕄) :
    bigSep Finset.univ Φ = bigSep (Finset.univ : Finset (Fin 3)) fun d => bigSep ((Finset.univ : Finset Msg).filter fun k => dir k.1 k.2 = d) Φ := by
  rw [bigSep_fiberwise Finset.univ (fun k : Msg => dir k.1 k.2), show (Finset.univ : Finset Msg).image (fun k => dir k.1 k.2) = Finset.univ by decide]

/-- All that the barrier hands device `c`: the landing rows of every message it sends. -/
theorem rest_bar : bigSep ((Rd (F := F) m).duties (barCell c) 0 \ ∅) (fun d => (Rd (F := F) m).payload (barCell c) 0 d)
    = bigSep (Finset.univ : Finset Msg) fun k => commE (F := F) (prt c k.1 k.2) k.1 k.2 := by
  rw [Finset.sdiff_empty, duties_bar, by_dir]
  refine bigSep_congr fun d _ => ?_
  rw [payload_bar]; unfold barPay
  refine bigSep_congr fun k hk => ?_
  rw [← (Finset.mem_filter.mp hk).2]
theorem rest_send : bigSep ((Rd (F := F) m).duties (xCell c p t false) 0 \ ∅) (fun d => (Rd (F := F) m).payload (xCell c p t false) 0 d) = sendPay m c p t := by
  rw [Finset.sdiff_empty, duties_x, bigSep_singleton, payload_send]
theorem rest_recv : bigSep ((Rd (F := F) m).duties (xCell c p t true) 0 \ ∅) (fun d => (Rd (F := F) m).payload (xCell c p t true) 0 d) = recvPay m c p t := by
  rw [Finset.sdiff_empty, duties_x, bigSep_singleton, payload_recv]

/-- The landing rows of all of device `c`'s incoming messages are what it hands its three partners. -/
theorem hand_bar : bigSep (Finset.univ : Finset Msg) (fun k => commE (F := F) c k.1 k.2)
    = bigSep (Finset.univ : Finset (Fin 3)) fun d => barPay (F := F) (nb c d) d := by
  rw [by_dir]
  exact bigSep_congr fun d _ => by unfold barPay; rw [nb_nb]

end Sched

/-! ## What each device owes; the levels -/

set_option backward.proofsInPublic true in
/-- The `s`-th message a device sends. -/
def msgAt (s : ℕ) : Msg := (⟨s % 3, Nat.mod_lt _ (by decide)⟩, ⟨s / 3 % 6, Nat.mod_lt _ (by decide)⟩)

theorem msgAt_num (p : Fin 3) (t : Fin 6) : msgAt (3 * t.val + p.val) = (p, t) := by revert p t; decide

/-- The cell that message `k` of device `c` is to pay, -/
abbrev owedCell (c : Dev nD) (k : Msg) : GSem nD τ sig := xCell (prt c k.1 k.2) k.1 k.2 true
/-- what device `c` owes with `n` messages left to send, -/
def remO (c : Dev nD) (n : ℕ) : CellTallies nD τ sig Unit :=
  ∑ i ∈ Finset.range n, tallyAt (owedCell c (msgAt (17 - i))) () (NC (msgAt (17 - i)).1 (msgAt (17 - i)).2)
/-- and with `n` messages sent. -/
def ow (c : Dev nD) (n : ℕ) : CellTallies nD τ sig Unit := remO c (18 - n)

theorem ow_peel (c : Dev nD) (p : Fin 3) (t : Fin 6) (n : ℕ) (hn : n = 3 * t.val + p.val) :
    ow c n = ow c (n + 1) + tallyAt (xCell (prt c p t) p t true) () (NC p t) := by
  have h1 := p.isLt; have h2 := t.isLt
  unfold ow remO
  rw [show 18 - n = (18 - (n + 1)) + 1 by omega, Finset.sum_range_succ, show 17 - (18 - (n + 1)) = 3 * t.val + p.val by omega, msgAt_num]

theorem ow_done (c : Dev nD) : ow c 18 = 0 := rfl

/-- At launch it also owes its partners' barrier cells a unit each. -/
def O₂ (c : Dev nD) : CellTallies nD τ sig Unit := ow c 0 + tallyAt (barCell (nb c 2)) () 1
def O₁ (c : Dev nD) : CellTallies nD τ sig Unit := O₂ c + tallyAt (barCell (nb c 1)) () 1
def O₀ (c : Dev nD) : CellTallies nD τ sig Unit := O₁ c + tallyAt (barCell (nb c 0)) () 1

def L (g : GSem nD τ sig) : Finset Unit := if g.1.2 = .tc then {()} else ∅
def lvF : Option Ck → ℕ
  | some none => 1
  | some (some ((_, t), true)) => 2 + t.val
  | _ => 0
/-- Barrier cells at 1, the receiver cell of a message of step `t` at `2 + t`, everything else at 0. -/
def lv (g : GSem nD τ sig) (_ : Unit) : ℕ := lvF (decSem g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g₀ g : GSem nD τ sig} {u : Unit} {n : ℕ} (h : 0 < (tallyAt g₀ () n : CellTallies nD τ sig Unit) g u) : g = g₀ := by
  rw [tallyAt_apply] at h
  by_contra hn
  rw [if_neg (fun h' => hn h'.1)] at h
  exact Nat.lt_irrefl 0 h

theorem ow_pos {c : Dev nD} {n : ℕ} {g : GSem nD τ sig} {u : Unit} (h : 0 < ow c n g u) :
    ∃ (p : Fin 3) (t : Fin 6), n < 3 * t.val + 3 ∧ g = xCell (prt c p t) p t true := by
  unfold ow remO at h
  rw [Finset.sum_apply, Finsupp.finset_sum_apply] at h
  obtain ⟨i, hi, hp⟩ := Finset.exists_ne_zero_of_sum_ne_zero h.ne'
  have hi := Finset.mem_range.mp hi
  refine ⟨(msgAt (17 - i)).1, (msgAt (17 - i)).2, ?_, tally_pos (Nat.pos_of_ne_zero hp)⟩
  show n < 3 * ((17 - i) / 3 % 6) + 3
  omega

theorem lv_recv (c : Dev nD) (p t) (u : Unit) : lv (xCell c p t true) u = 2 + t.val := by unfold lv; rw [decSem_x]; rfl
theorem lv_send (c : Dev nD) (p t) (u : Unit) : lv (xCell c p t false) u = 0 := by unfold lv; rw [decSem_x]; rfl
theorem lv_bar (c : Dev nD) (u : Unit) : lv (barCell c) u = 1 := by unfold lv; rw [decSem_bar]; rfl

/-- A device may wait at a cell whose level lies below the receiver cells it still owes. -/
theorem mayWait_ow (c : Dev nD) (sm : SemLoc sig) (n cut : ℕ) (h : lv ((c : Thread nD τ), sm) () ≤ cut)
    (hn : ∀ t : Fin 6, n < 3 * t.val + 3 → cut < 2 + t.val) :
    (levAts L lv : sProp 𝕄) ⊢ MayWait (c : Thread nD τ) sm () (ow c n) :=
  MayOwe.of_cut (L := L) (lev := lv) cut (fun p hp => by rw [Finset.mem_singleton.mp hp, L_tc]; exact Finset.mem_singleton_self _)
    (fun g u hg => by obtain ⟨p, t, _, rfl⟩ := ow_pos hg; rw [L_tc]; exact Finset.mem_singleton_self _)
    (fun p hp => by rw [Finset.mem_singleton.mp hp]; exact h)
    (fun g u hg => by obtain ⟨p, t, ht, rfl⟩ := ow_pos hg; rw [lv_recv]; exact hn t ht)

theorem add_pos_or {A B : CellTallies nD τ sig Unit} {g : GSem nD τ sig} {u : Unit} (h : 0 < (A + B) g u) : 0 < A g u ∨ 0 < B g u := by
  rw [Pi.add_apply, Finsupp.add_apply] at h
  omega

theorem O₀_pos {c : Dev nD} {g : GSem nD τ sig} {u : Unit} (h : 0 < O₀ c g u) : 0 < ow c 0 g u ∨ ∃ d, g = barCell (nb c d) := by
  unfold O₀ at h
  rcases add_pos_or h with h | h
  · unfold O₁ at h
    rcases add_pos_or h with h | h
    · unfold O₂ at h
      rcases add_pos_or h with h | h
      · exact Or.inl h
      · exact Or.inr ⟨2, tally_pos h⟩
    · exact Or.inr ⟨1, tally_pos h⟩
  · exact Or.inr ⟨0, tally_pos h⟩

/-- A wait at a cell of level 0 is always allowed. -/
theorem mayWait_stage (c : Dev nD) (sm : SemLoc sig) (hs : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact hs.le) (fun g u hg => ?_)
    · rcases O₀_pos hg with h | ⟨d, rfl⟩
      · obtain ⟨p, t, _, rfl⟩ := ow_pos h; rw [L_tc]; exact Finset.mem_singleton_self _
      · rw [L_tc]; exact Finset.mem_singleton_self _
    · rcases O₀_pos hg with h | ⟨d, rfl⟩
      · obtain ⟨p, t, _, rfl⟩ := ow_pos h; rw [lv_recv]; omega
      · rw [lv_bar]; exact Nat.one_pos
  · rw [MayWait_zero]; iintro -; iempintro

end Cert.MeshAttn
-- ==== Proof.Ops.lean ====
/-
One rule for each kind of step the exchange takes, each stated once for a message `(p, t)`: send, the two waits, the loads of
the output buffer and of the landing rows, the store; and the equations between a stored vector and the contents it stands for.
-/
module

public import proofs.«01_k».proof.Proof.Sched

@[expose] public section

noncomputable section

namespace Cert.MeshAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

abbrev 𝒱₀ : Variants := Variants.none

/-- The weakest precondition of a program on device `c`. -/
abbrev WP {α : Type} (c : Dev nD) (k : Prog (TpuEff nD τ sig (Elt F) Λ₀ .tc) α) (Q : α → sProp 𝕄) : sProp 𝕄 :=
  wp frame (wpE (defs₀ (F := F)) 𝒱₀ (c : Thread nD τ) none) Set.univ k Q

/-! ## The persistent records, the packages -/

/-- Every cell's invariant, at the names `K`, and that its round 0 is reached; the levels. -/
def records (K : Dev nD × Ck → ℕ) : sProp 𝕄 :=
  iprop((bigSep Finset.univ fun ck : Dev nD × Ck => cellInv ER (Rd m) (K ck) (kcell ck))
    ∗ bigSep Finset.univ fun ck : Dev nD × Ck => reached ER (kcell ck) 0)
instance records_persistent (K : Dev nD × Ck → ℕ) : BI.Persistent (records (F := F) m K) := by unfold records; infer_instance

def PC (K : Dev nD × Ck → ℕ) : sProp 𝕄 := iprop(records m K ∗ levAts L lv)
instance PC_persistent (K : Dev nD × Ck → ℕ) : BI.Persistent (PC (F := F) m K) := by unfold PC; infer_instance

theorem inv_at (K : Dev nD × Ck → ℕ) (ck : Dev nD × Ck) :
    (bigSep Finset.univ fun ck : Dev nD × Ck => (cellInv ER (Rd m) (K ck) (kcell ck) : sProp 𝕄)) ⊢ cellInv ER (Rd m) (K ck) (kcell ck) :=
  bigSep_elim (Finset.mem_univ ck)
theorem reached_at (ck : Dev nD × Ck) :
    (bigSep Finset.univ fun ck : Dev nD × Ck => (reached ER (kcell ck) 0 : sProp 𝕄)) ⊢ reached ER (kcell ck) 0 :=
  bigSep_elim (Finset.mem_univ ck)

theorem PC_inv (K : Dev nD × Ck → ℕ) (c : Dev nD) (k : Ck) : PC (F := F) m K ⊢ cellInv ER (Rd m) (K (c, k)) (kcell (c, k)) := by
  unfold PC records
  iintro ⟨⟨H, -⟩, -⟩
  iapply (inv_at m K (c, k)); iexact H
theorem PC_reached (K : Dev nD × Ck → ℕ) (c : Dev nD) (k : Ck) : PC (F := F) m K ⊢ reached ER (kcell (c, k)) 0 := by
  unfold PC records
  iintro ⟨⟨-, H⟩, -⟩
  iapply (reached_at (F := F) (c, k)); iexact H
theorem PC_lev (K : Dev nD × Ck → ℕ) : PC (F := F) m K ⊢ levAts L lv := by
  unfold PC
  iintro ⟨-, H⟩; iexact H

theorem PC_xinv (K : Dev nD × Ck → ℕ) (c : Dev nD) (p t b) : PC (F := F) m K ⊢ cellInv ER (Rd m) (K (c, some ((p, t), b))) (xCell c p t b) := PC_inv m K c (some ((p, t), b))
theorem PC_xreached (K : Dev nD × Ck → ℕ) (c : Dev nD) (p t b) : PC (F := F) m K ⊢ reached ER (xCell c p t b) 0 := PC_reached m K c (some ((p, t), b))

/-- What device `c` holds for message `(p, t)` before the barrier, -/
def pk (c : Dev nD) (k : Msg) : sProp 𝕄 :=
  iprop(atPos ER (xCell c k.1 k.2 false) 0 ∅ 0 ∗ atPos ER (xCell c k.1 k.2 true) 0 ∅ 0
    ∗ dutyTok ER (xCell c k.1 k.2 false) 0 0 ∗ dutyTok ER (xCell (prt c k.1 k.2) k.1 k.2 true) 0 0
    ∗ cred (tallyAt (xCell c k.1 k.2 true) () (NC k.1 k.2)))
/-- after it, with the partner's landing rows, -/
def pk0 (c : Dev nD) (p : Fin 3) (t : Fin 6) : sProp 𝕄 := iprop(pk c (p, t) ∗ commE (prt c p t) p t)
/-- once the message is sent, -/
def pk1 (c : Dev nD) (p : Fin 3) (t : Fin 6) : sProp 𝕄 :=
  iprop(atPos ER (xCell c p t false) 0 ∅ 0 ∗ atPos ER (xCell c p t true) 0 ∅ 0
    ∗ cred (tallyAt (xCell c p t true) () (NC p t)) ∗ cred (tallyAt (xCell c p t false) () (NC p t)))
/-- once its sender cell has been waited on, -/
def pk2 (c : Dev nD) (p : Fin 3) (t : Fin 6) : sProp 𝕄 :=
  iprop(atPos ER (xCell c p t true) 0 ∅ 0 ∗ cred (tallyAt (xCell c p t true) () (NC p t)) ∗ semVal (xCell c p t false) 0)
/-- and once its receiver cell has. -/
def pk3 (c : Dev nD) (p : Fin 3) (t : Fin 6) : sProp 𝕄 := iprop(semVal (xCell c p t false) 0 ∗ semVal (xCell c p t true) 0)

/-- What the device owes after `n` sends. -/
def owX (c : Dev nD) (n : ℕ) : sProp 𝕄 := iprop(∃ W, owes (c : Thread nD τ) (ow c n) W)

/-! ## Memrefs -/

/-- The printed source of a message, its offset given in closed form. -/
theorem src_eq {c : Dev nD} {p : Fin 3} {t : Fin 6} {off : Fin 3 → ℕ} (h : off = ![0, sr c p t, C0 p])
    (inb : ∀ a, off a + (![1, NN t, W3 p] : Fin 3 → ℕ) a ≤ S1x512x1024.size a) (hr) (hq) :
    (outM.slice (Rect.unit (s := S1x512x1024) off ![1, NN t, W3 p] inb) hr).squeeze ⟨2, ![NN t, W3 p]⟩ hq = srcM c p t := by
  subst h; rfl

theorem srcM_set (c : Dev nD) (p : Fin 3) (t : Fin 6) : (srcM c p t).view.set = oS c p t := by
  rw [Memref.set_view_squeeze]
  exact View.set_slice_whole (cc0_stg3_0 : Ref sig .tc) (outR c p t)

/-! ## Send -/

section Ops
variable (K : Dev nD × Ck → ℕ)

theorem wp_send (c n : Dev nD) (p : Fin 3) (t : Fin 6) (hn : n = prt c p t) (s : ℕ) (hs : s = 3 * t.val + p.val)
    {src dst : Memref sig .tc .vmem ⟨2, ![NN t, W3 p]⟩ .f32} (hsr : src = srcM c p t) (hds : dst = dstM p t)
    {sS sR : DmaSem sig} (hS : sS = xS p t false) (hR : sR = xS p t true)
    {hsc : (dst : Memref sig (Dev.tc n : Thread nD τ).2.kind .vmem ⟨2, ![NN t, W3 p]⟩ .f32).view.ref.isScScratch = false}
    {hsrc : src.view.WordExact} {hdst : dst.view.WordExact}
    {hsem : DmaTarget.Typed .vmem (.dma sR) (.remote (Dev.tc n : Thread nD τ) (dst : Memref sig .tc .vmem ⟨2, ![NN t, W3 p]⟩ .f32) (.dma sS) hsc)}
    {α : Type} {Q : α → sProp 𝕄} {k : PUnit → Prog (TpuEff nD τ sig (Elt F) Λ₀ .tc) α} :
    iprop(PC m K ∗ pk0 c p t ∗ outP c (oS c p t) (msgC m c p t) ∗ owX c s)
      ⊢ iprop(((pk1 c p t ∗ owX c (s + 1)) -∗ WP c (k ⟨⟩) Q)
          -∗ WP c (.op (.enqueueDma src (.remote (Dev.tc n : Thread nD τ) dst (.dma sS) hsc) (.dma sR) hsrc hdst hsem) k) Q) := by
  subst hn hsr hds hS hR
  unfold pk0 pk pk1 owX commE
  iintro ⟨#HP, ⟨⟨HaS, HaR, HtS, HtR, HcR⟩, ⟨%fd, Hd⟩⟩, Hsrc, ⟨%W, Ho⟩⟩ Hk
  unfold outP commP
  iapply (Rounds.wp_send_pointsTo 𝒱₀ ER (Rd m) (c : Thread nD τ) none (κ₁ := K (c, some ((p, t), false))) (κ₂ := K (prt c p t, some ((p, t), true)))
    (r₁ := 0) (r₂ := 0) (d₁ := (0 : Fin 3)) (d₂ := (0 : Fin 3)) (fd := fd) (fs := msgC m c p t)
    (by rw [duties_x]; exact Finset.mem_singleton_self _) (by rw [duties_x]; exact Finset.mem_singleton_self _)
    () () (NC p t) rfl (amount_x m c p t false 0) (amount_x m (prt c p t) p t true 0) (ow c (s + 1)) (ow_peel c p t s hs) (W := W)
    (by rw [payload_send]; unfold sendPay outP; rw [srcM_set])
    (by
      rw [payload_recv]; unfold recvPay commV commP
      iintro H
      iexists ((dstM p t).view.write (Elt F) fd ((srcM c p t).view.read (Elt F) (msgC m c p t)) Finset.univ)
      isplitr
      · ipureintro
        rw [View.read_write_univ, prt_prt]; rfl
      · iexact H)) $$ [Hsrc Hd Ho HtS HtR]
  · isplitr; · iapply (PC_xinv m K c p t false); iexact HP
    isplitr; · iapply (PC_xinv m K (prt c p t) p t true); iexact HP
    isplitl [Hsrc]; · rw [srcM_set]; iexact Hsrc
    isplitl [Hd]; · iexact Hd
    isplitl [Ho]; · iexact Ho
    isplitl [HtS]; · iexact HtS
    isplitr; · iapply (PC_xreached m K c p t false); iexact HP
    isplitl [HtR]; · iexact HtR
    iapply (PC_xreached m K (prt c p t) p t true); iexact HP
  iintro ⟨HcS, Ho⟩
  iapply Hk
  isplitl [HaS HaR HcR HcS]
  · isplitl [HaS]; · iexact HaS
    isplitl [HaR]; · iexact HaR
    isplitl [HcR]; · iexact HcR
    iexact HcS
  · iexists W; iexact Ho

/-! ## The waits -/

theorem src_credit (c : Dev nD) (p : Fin 3) (t : Fin 6) : (srcM c p t).view.dmaCredit = NC p t := rfl

theorem wp_waitSend (c : Dev nD) (p : Fin 3) (t : Fin 6) (s : ℕ) (hs : 3 * t.val + 3 ≤ s)
    {sm : DmaSem sig} (hS : sm = xS p t false) {s₁ : Shape} {e₁ : EltTy}
    {src : Memref sig .tc .vmem s₁ e₁} {dst : Memref sig .tc .vmem ⟨2, ![NN t, W3 p]⟩ .f32} (hd : dst = srcM c p t)
    {hsrc : src.view.WordExact} {hdst : dst.view.WordExact}
    {α : Type} {Q : α → sProp 𝕄} {k : PUnit → Prog (TpuEff nD τ sig (Elt F) Λ₀ .tc) α} :
    iprop(PC m K ∗ pk1 c p t ∗ owX c s)
      ⊢ iprop(((pk2 c p t ∗ outP c (oS c p t) (msgC m c p t) ∗ owX c s) -∗ WP c (k ⟨⟩) Q)
          -∗ WP c (.op (.waitDma2 sm src dst hsrc hdst) k) Q) := by
  subst hS
  have hN : dst.view.dmaCredit = NC p t := hd ▸ src_credit c p t
  unfold pk1 pk2 owX
  iintro ⟨#HP, ⟨HaS, HaR, HcR, HcS⟩, ⟨%W, Ho⟩⟩ Hk
  iapply (Rounds.wp_wait_rest_token 𝒱₀ ER (Rd m) (c : Thread nD τ) none (κ := K (c, some ((p, t), false)))
      (wpE_waitDma2_eq 𝒱₀ (c : Thread nD τ) none Set.univ) (Set.mem_univ _) () (O := ow c s) (W := W) (R := 0) (m := 0) (T := ∅)
      (by rw [Nat.zero_add, hN]; exact (expect_x m c p t false).symm)) $$ [HcS Ho HaS]
  · isplitr; · iapply (PC_xinv m K c p t false); iexact HP
    isplitl [HcS]; · rw [hN]; iexact HcS
    isplitl [Ho]; · iexact Ho
    isplitr
    · iapply (mayWait_ow (F := F) c (.dma (xS p t false)) s 1 (by rw [lv_send]; omega) (fun t' h => by omega))
      iapply (PC_lev m K); iexact HP
    iexact HaS
  iintro ⟨Ho, HaS, -, Hpay⟩
  ihave Hp := (Entails.of_eq (rest_send m c p t)) $$ Hpay
  imod (Rounds.cell_close ER (Rd m) (Set.mem_univ (K (c, some ((p, t), false)))) (fun h => h) (R := 0 + 1) (duties_later m (xCell c p t false))) $$ [HaS] with HzS
  · isplitr; · iapply (PC_xinv m K c p t false); iexact HP
    iexact HaS
  iapply Hk
  unfold sendPay
  isplitl [HaR HcR HzS]
  · isplitl [HaR]; · iexact HaR
    isplitl [HcR]; · iexact HcR
    iexact HzS
  isplitl [Hp]; · iexact Hp
  iexists _; iexact Ho

theorem wp_waitRecv (c : Dev nD) (p : Fin 3) (t : Fin 6) (s : ℕ) (hs : 3 * t.val + 3 ≤ s)
    {sm : DmaSem sig} (hS : sm = xS p t true) {s₁ : Shape} {e₁ : EltTy}
    {src : Memref sig .tc .vmem s₁ e₁} {dst : Memref sig .tc .vmem ⟨2, ![NN t, W3 p]⟩ .f32} (hd : dst = dstM p t)
    {hsrc : src.view.WordExact} {hdst : dst.view.WordExact}
    {α : Type} {Q : α → sProp 𝕄} {k : PUnit → Prog (TpuEff nD τ sig (Elt F) Λ₀ .tc) α} :
    iprop(PC m K ∗ pk2 c p t ∗ owX c s)
      ⊢ iprop(((pk3 c p t ∗ commV c p t (msgV m (prt c p t) p t) ∗ owX c s) -∗ WP c (k ⟨⟩) Q)
          -∗ WP c (.op (.waitDma2 sm src dst hsrc hdst) k) Q) := by
  subst hS
  have hN : dst.view.dmaCredit = NC p t := hd ▸ rfl
  unfold pk2 pk3 owX
  iintro ⟨#HP, ⟨HaR, HcR, HzS⟩, ⟨%W, Ho⟩⟩ Hk
  iapply (Rounds.wp_wait_rest_token 𝒱₀ ER (Rd m) (c : Thread nD τ) none (κ := K (c, some ((p, t), true)))
      (wpE_waitDma2_eq 𝒱₀ (c : Thread nD τ) none Set.univ) (Set.mem_univ _) () (O := ow c s) (W := W) (R := 0) (m := 0) (T := ∅)
      (by rw [Nat.zero_add, hN]; exact (expect_x m c p t true).symm)) $$ [HcR Ho HaR]
  · isplitr; · iapply (PC_xinv m K c p t true); iexact HP
    isplitl [HcR]; · rw [hN]; iexact HcR
    isplitl [Ho]; · iexact Ho
    isplitr
    · iapply (mayWait_ow (F := F) c (.dma (xS p t true)) s (2 + t.val) (by rw [lv_recv]) (fun t' h => by omega))
      iapply (PC_lev m K); iexact HP
    iexact HaR
  iintro ⟨Ho, HaR, -, Hpay⟩
  ihave Hp := (Entails.of_eq (rest_recv m c p t)) $$ Hpay
  imod (Rounds.cell_close ER (Rd m) (Set.mem_univ (K (c, some ((p, t), true)))) (fun h => h) (R := 0 + 1) (duties_later m (xCell c p t true))) $$ [HaR] with HzR
  · isplitr; · iapply (PC_xinv m K c p t true); iexact HP
    iexact HaR
  iapply Hk
  unfold recvPay
  isplitl [HzR HzS]
  · isplitl [HzS]; · iexact HzS
    iexact HzR
  isplitl [Hp]; · iexact Hp
  iexists _; iexact Ho

end Ops

/-! ## Loads and stores -/

/-- The rows of message `(p, t)` of device `c` in contents `X`. -/
abbrev rdO (c : Dev nD) (p : Fin 3) (t : Fin 6) (X : (cc0_stg3_0 : Ref sig .tc).ty.Contents (Elt F)) : Vec F ⟨3, ![1, NN t, W3 p]⟩ .f32 :=
  (outM.access (outR c p t)).read (Elt F) X

theorem access_set (c : Dev nD) (p : Fin 3) (t : Fin 6) : (outM.access (outR c p t)).set = oS c p t :=
  View.set_slice_whole (cc0_stg3_0 : Ref sig .tc) (outR c p t)

theorem wp_loadO (c c' : Dev nD) (p : Fin 3) (t : Fin 6) {off : Fin 3 → ℕ} (h : off = ![0, sr c' p t, C0 p])
    {inb : ∀ a, off a + (![1, NN t, W3 p] : Fin 3 → ℕ) a ≤ S1x512x1024.size a} {hl}
    (X : (cc0_stg3_0 : Ref sig .tc).ty.Contents (Elt F))
    {α : Type} {Q : α → sProp 𝕄} {k : Vec F ⟨3, ![1, NN t, W3 p]⟩ .f32 → Prog (TpuEff nD τ sig (Elt F) Λ₀ .tc) α} :
    outP c (oS c' p t) X
      ⊢ iprop((outP c (oS c' p t) X -∗ WP c (k (rdO c' p t X)) Q)
          -∗ WP c (.op (.load outM (Rect.unit (s := S1x512x1024) off ![1, NN t, W3 p] inb).toLoadRect hl) k) Q) := by
  subst h
  unfold outP
  exact wp_load_rect 𝒱₀ (c : Thread nD τ) none Set.univ (m := outM) (r := outR c' p t) (by rw [access_set])

theorem wp_storeO (c c' : Dev nD) (p : Fin 3) (t : Fin 6) {off : Fin 3 → ℕ} (h : off = ![0, sr c' p t, C0 p])
    {inb : ∀ a, off a + (![1, NN t, W3 p] : Fin 3 → ℕ) a ≤ S1x512x1024.size a}
    {w : Vec F ⟨3, ![1, NN t, W3 p]⟩ .f32} {hx hm}
    (X Y : (cc0_stg3_0 : Ref sig .tc).ty.Contents (Elt F)) (hw : w = rdO c' p t Y)
    {α : Type} {Q : α → sProp 𝕄} {k : PUnit → Prog (TpuEff nD τ sig (Elt F) Λ₀ .tc) α} :
    outP c (oS c' p t) X
      ⊢ iprop((outP c (oS c' p t) Y -∗ WP c (k ⟨⟩) Q)
          -∗ WP c (.op (.store outM (Rect.unit (s := S1x512x1024) off ![1, NN t, W3 p] inb) w Finset.univ hx hm) k) Q) := by
  subst h hw
  have e : outP (F := F) c (oS c' p t) Y
      = outP c (oS c' p t) ((outM.access (outR c' p t)).write (Elt F) X (rdO c' p t Y) Finset.univ) := by
    unfold outP
    refine pointsTo_congr fun i hi => ?_
    rw [← access_set] at hi
    obtain ⟨j, -, rfl⟩ := Finset.mem_map.mp hi
    rw [View.write_emb_of_mem _ _ (Finset.mem_univ j)]
    rfl
  rw [e]
  unfold outP
  exact wp_store 𝒱₀ (c : Thread nD τ) none Set.univ (m := outM) (r := outR c' p t) (Mk := Finset.univ)
    (by rw [View.setOn_univ, access_set])

theorem wp_loadC (c : Dev nD) (p : Fin 3) (t : Fin 6) (w : FVec F ⟨2, ![NN t, W3 p]⟩ .f32) {hl}
    {α : Type} {Q : α → sProp 𝕄} {k : Vec F ⟨2, ![NN t, W3 p]⟩ .f32 → Prog (TpuEff nD τ sig (Elt F) Λ₀ .tc) α} :
    commV c p t w
      ⊢ iprop((commE c p t -∗ WP c (k w) Q)
          -∗ WP c (.op (.load (commM p) (commR p t).toLoadRect hl) k) Q) := by
  unfold commV commE commP
  iintro ⟨%f, %hf, H⟩ Hk
  subst hf
  iapply (wp_load_rect 𝒱₀ (c : Thread nD τ) none Set.univ (m := commM p) (r := commR p t) (f := f) (q := fullShare)
    (S := (dstM p t).view.set) (Finset.Subset.refl _)) $$ H
  iintro H
  iapply Hk
  iexists f; iexact H

end Cert.MeshAttn
-- ==== Proof.Regions.lean ====
/-
How the messages' row ranges cut the output buffer, and which contents a stored vector stands for: a received half added in, a
received chunk copied, a half of the product.
-/
module

public import proofs.«01_k».proof.Proof.Ops
public import Idealize.ShloMosaic.Lib.Pipeline.Value

@[expose] public section

noncomputable section

namespace Cert.MeshAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

local notation "𝕄" => MT nD τ sig Unit (Elt F) ℕ UU ℕ

/-! ## The row ranges -/

theorem mem_oS {c : Dev nD} {p : Fin 3} {t : Fin 6} {i : S1x512x1024.Idx} :
    i ∈ oS c p t ↔ (sr c p t ≤ (i 1).val ∧ (i 1).val < sr c p t + NN t) ∧ C0 p ≤ (i 2).val ∧ (i 2).val < C0 p + W3 p := by
  rw [Rect.mem_set_unit]
  have h0 : (i 0).val < 1 := (i 0).isLt
  constructor
  · intro h
    exact ⟨h 1, h 2⟩
  · intro h a
    match a with
    | ⟨0, _⟩ => exact ⟨Nat.zero_le _, h0⟩
    | ⟨1, _⟩ => exact h.1
    | ⟨2, _⟩ => exact h.2

theorem oS_opp (c : Dev nD) (p : Fin 3) (t : Fin 6) : oS (prt c p t) p t = oS c p (opp t) := by
  ext i; rw [mem_oS, mem_oS, sr_prt, NN_opp]

/-- The three coordinates' bits give the row ranges. -/
theorem sr_cut (c : Dev nD) (p : Fin 3) :
    (sr c p 4 = sr c p 2 ∧ sr c p 3 = sr c p 2 + 64 ∨ sr c p 4 = sr c p 3 ∧ sr c p 2 = sr c p 3 + 64)
    ∧ (sr c p 5 = sr c p 1 ∧ sr c p 4 = sr c p 1 + 128 ∨ sr c p 5 = sr c p 4 ∧ sr c p 1 = sr c p 4 + 128)
    ∧ (sr c p 5 = 0 ∧ sr c p 0 = 256 ∨ sr c p 0 = 0 ∧ sr c p 5 = 256) := by
  revert c p; decide +kernel

theorem NN_vals : NN 0 = 256 ∧ NN 1 = 128 ∧ NN 2 = 64 ∧ NN 3 = 64 ∧ NN 4 = 128 ∧ NN 5 = 256 := by decide

theorem cut5 (c : Dev nD) (p : Fin 3) : oS c p 5 = oS c p 1 ∪ oS c p 4 := by
  ext i
  obtain ⟨h1, h2, h3⟩ := sr_cut c p
  obtain ⟨n0, n1, n2, n3, n4, n5⟩ := NN_vals
  rw [Finset.mem_union, mem_oS, mem_oS, mem_oS, n1, n4, n5]
  omega
theorem cut4 (c : Dev nD) (p : Fin 3) : oS c p 4 = oS c p 2 ∪ oS c p 3 := by
  ext i
  obtain ⟨h1, h2, h3⟩ := sr_cut c p
  obtain ⟨n0, n1, n2, n3, n4, n5⟩ := NN_vals
  rw [Finset.mem_union, mem_oS, mem_oS, mem_oS, n2, n3, n4]
  omega
theorem dis5 (c : Dev nD) (p : Fin 3) : Disjoint (oS c p 1) (oS c p 4) := by
  rw [Finset.disjoint_left]; intro i
  obtain ⟨h1, h2, h3⟩ := sr_cut c p
  obtain ⟨n0, n1, n2, n3, n4, n5⟩ := NN_vals
  rw [mem_oS, mem_oS, n1, n4]
  omega
theorem dis4 (c : Dev nD) (p : Fin 3) : Disjoint (oS c p 2) (oS c p 3) := by
  rw [Finset.disjoint_left]; intro i
  obtain ⟨h1, h2, h3⟩ := sr_cut c p
  obtain ⟨n0, n1, n2, n3, n4, n5⟩ := NN_vals
  rw [mem_oS, mem_oS, n2, n3]
  omega
theorem disB (c : Dev nD) (p : Fin 3) : Disjoint (oS c p 0) (oS c p 5) := by
  rw [Finset.disjoint_left]; intro i
  obtain ⟨h1, h2, h3⟩ := sr_cut c p
  obtain ⟨n0, n1, n2, n3, n4, n5⟩ := NN_vals
  rw [mem_oS, mem_oS, n0, n5]
  omega

/-- Band `p` of the output buffer. -/
abbrev bandS (c : Dev nD) (p : Fin 3) : Finset S1x512x1024.Idx := oS c p 0 ∪ oS c p 5

theorem mem_bandS {c : Dev nD} {p : Fin 3} {i : S1x512x1024.Idx} : i ∈ bandS c p ↔ C0 p ≤ (i 2).val ∧ (i 2).val < C0 p + W3 p := by
  obtain ⟨h1, h2, h3⟩ := sr_cut c p
  obtain ⟨n0, n1, n2, n3, n4, n5⟩ := NN_vals
  have hi : (i 1).val < 512 := (i 1).isLt
  rw [Finset.mem_union, mem_oS, mem_oS, n0, n5]
  omega

theorem band_vals : C0 0 = 0 ∧ C0 1 = 384 ∧ C0 2 = 768 ∧ W3 0 = 384 ∧ W3 1 = 384 ∧ W3 2 = 256 := by decide

theorem cutAll (c : Dev nD) : (Finset.univ : Finset S1x512x1024.Idx) = bandS c 0 ∪ (bandS c 1 ∪ bandS c 2) := by
  ext i
  obtain ⟨a0, a1, a2, w0, w1, w2⟩ := band_vals
  have hi : (i 2).val < 1024 := (i 2).isLt
  refine ⟨fun _ => ?_, fun _ => Finset.mem_univ _⟩
  rw [Finset.mem_union (s := bandS c 0), Finset.mem_union (s := bandS c 1), mem_bandS, mem_bandS, mem_bandS, a0, a1, a2, w0, w1, w2]
  omega
theorem disA (c : Dev nD) : Disjoint (bandS c 1) (bandS c 2) := by
  rw [Finset.disjoint_left]; intro i
  obtain ⟨a0, a1, a2, w0, w1, w2⟩ := band_vals
  intro h
  rw [mem_bandS, a1, w1] at h
  rw [mem_bandS, a2, w2]
  omega
theorem disA' (c : Dev nD) : Disjoint (bandS c 0) (bandS c 1 ∪ bandS c 2) := by
  rw [Finset.disjoint_left]; intro i
  obtain ⟨a0, a1, a2, w0, w1, w2⟩ := band_vals
  intro h
  rw [mem_bandS, a0, w0] at h
  rw [Finset.mem_union (s := bandS c 1), mem_bandS, mem_bandS, a1, a2, w1, w2]
  omega

/-! ## Rows cut and joined -/

theorem out_cut (c : Dev nD) {S A B : Finset S1x512x1024.Idx} (h : S = A ∪ B) (hd : Disjoint A B) (X : (cc0_stg3_0 : Ref sig .tc).ty.Contents (Elt F)) :
    outP (F := F) c S X = iprop(outP c A X ∗ outP c B X) := by
  subst h
  unfold outP
  exact (pointsTo_union hd).1.antisymm (pointsTo_union hd).2

theorem out_congr (c : Dev nD) {S : Finset S1x512x1024.Idx} {X Y : (cc0_stg3_0 : Ref sig .tc).ty.Contents (Elt F)} (h : ∀ i ∈ S, X i = Y i) :
    outP (F := F) c S X = outP c S Y := by
  unfold outP; exact pointsTo_congr h

theorem out_cut5 (c : Dev nD) (p : Fin 3) (X) : outP (F := F) c (oS c p 5) X = iprop(outP c (oS c p 1) X ∗ outP c (oS c p 4) X) := out_cut c (cut5 c p) (dis5 c p) X
theorem out_cut4 (c : Dev nD) (p : Fin 3) (X) : outP (F := F) c (oS c p 4) X = iprop(outP c (oS c p 2) X ∗ outP c (oS c p 3) X) := out_cut c (cut4 c p) (dis4 c p) X
theorem out_cutB (c : Dev nD) (p : Fin 3) (X) : outP (F := F) c (bandS c p) X = iprop(outP c (oS c p 0) X ∗ outP c (oS c p 5) X) := out_cut c rfl (disB c p) X
theorem out_cutAll (c : Dev nD) (X) : outP (F := F) c Finset.univ X
    = iprop((outP c (oS c 0 0) X ∗ outP c (oS c 0 5) X) ∗ (outP c (oS c 1 0) X ∗ outP c (oS c 1 5) X) ∗ (outP c (oS c 2 0) X ∗ outP c (oS c 2 5) X)) := by
  rw [out_cut c (cutAll c) (disA' c), out_cut c rfl (disA c), out_cutB, out_cutB, out_cutB]

/-! ## The finished output -/

theorem own_inj : ∀ (p : Fin 3) (c c' : Dev nD), sr c p 3 = sr c' p 3 → c = c' := by decide +kernel
theorem sr3_mul (c : Dev nD) (p : Fin 3) : sr c p 3 % 64 = 0 := by revert c p; decide +kernel

theorem own_unique {p : Fin 3} {c c' : Dev nD} {i : S1x512x1024.Idx} (h : i ∈ oS c p 3) (h' : i ∈ oS c' p 3) : c = c' := by
  rw [mem_oS] at h h'
  obtain ⟨n0, n1, n2, n3, n4, n5⟩ := NN_vals
  rw [n3] at h h'
  have := sr3_mul c p; have := sr3_mul c' p
  exact own_inj p c c' (by omega)

/-- On the chunk device `c` finishes, the finished output is its sum. -/
theorem fin_own {c : Dev nD} {p : Fin 3} {i : S1x512x1024.Idx} (h : i ∈ oS c p 3) : finC m p i = aC m p 3 c i := by
  have he : ∃ c : Dev nD, i ∈ (outR c p 3).set := ⟨c, h⟩
  unfold finC
  rw [dif_pos he, own_unique he.choose_spec h]

theorem out_eq_fin {p : Fin 3} {c : Dev nD} {i : S1x512x1024.Idx} (h : i ∈ bandS c p) : outC m i = finC m p i := by
  rw [mem_bandS] at h
  obtain ⟨a0, a1, a2, w0, w1, w2⟩ := band_vals
  have e : bandOf i = p := by
    unfold bandOf
    match p, h with
    | 0, h => rw [a0, w0] at h; rw [if_pos (by omega)]
    | 1, h => rw [a1, w1] at h; rw [if_neg (by omega), if_pos (by omega)]
    | 2, h => rw [a2, w2] at h; rw [if_neg (by omega), if_neg (by omega)]
  unfold outC; rw [e]

/-! ## Stored vectors -/

theorem msgC_rs (c : Dev nD) (p : Fin 3) (t : Fin 6) (h : t.val < 3) : msgC m c p t = aC m p t.val c := if_pos h
theorem msgC_ag (c : Dev nD) (p : Fin 3) (t : Fin 6) (h : ¬ t.val < 3) : msgC m c p t = finC m p := if_neg h

theorem msgV_cast (c : Dev nD) (p : Fin 3) (t : Fin 6) (h : (⟨3, ![1, NN t, W3 p]⟩ : Shape).ShapeCasts ⟨2, ![NN t, W3 p]⟩) :
    msgV m c p t = shapeCast ⟨2, ![NN t, W3 p]⟩ (rdO c p t (msgC m c p t)) h := rfl

/-- A received half added to the rows held. -/
theorem rs_store (c : Dev nD) (p : Fin 3) (t : Fin 6) (r : ℕ) (ht : t.val = r) (hr : r < 3)
    (h : (⟨3, ![1, NN t, W3 p]⟩ : Shape).ShapeCasts ⟨2, ![NN t, W3 p]⟩) (h' : (⟨2, ![NN t, W3 p]⟩ : Shape).ShapeCasts ⟨3, ![1, NN t, W3 p]⟩) :
    shapeCast ⟨3, ![1, NN t, W3 p]⟩ (addf (φ := .f32) (shapeCast ⟨2, ![NN t, W3 p]⟩ (rdO (prt c p t) p t (aC m p r c)) h) (msgV m (prt c p t) p t)) h'
      = rdO (prt c p t) p t (aC m p (r + 1) c) := by
  rw [msgV_cast m _ p t h, msgC_rs m _ p t (by omega), ht]
  have e : aC m p (r + 1) c = addf (s := S1x512x1024) (φ := .f32) (aC m p r c) (aC m p r (prt c p t)) := by
    have h6 := t.isLt
    obtain rfl | rfl | rfl : r = 0 ∨ r = 1 ∨ r = 2 := by omega
    · obtain rfl : t = 0 := Fin.ext ht
      rfl
    · obtain rfl : t = 1 := Fin.ext ht
      rfl
    · obtain rfl : t = 2 := Fin.ext ht
      rfl
  rw [e]
  exact shapeCast_shapeCast (rdO (prt c p t) p t (addf (s := S1x512x1024) (φ := .f32) (aC m p r c) (aC m p r (prt c p t)))) h h'

/-- A received chunk copied. -/
theorem ag_store (c : Dev nD) (p : Fin 3) (t : Fin 6) (ht : ¬ t.val < 3) (h' : (⟨2, ![NN t, W3 p]⟩ : Shape).ShapeCasts ⟨3, ![1, NN t, W3 p]⟩) :
    shapeCast ⟨3, ![1, NN t, W3 p]⟩ (msgV m (prt c p t) p t) h' = rdO (prt c p t) p t (finC m p) := by
  have h : (⟨3, ![1, NN t, W3 p]⟩ : Shape).ShapeCasts ⟨2, ![NN t, W3 p]⟩ := h'.symm
  rw [msgV_cast m _ p t h, msgC_ag m _ p t ht]
  exact shapeCast_shapeCast _ h h'

theorem d_keep (c : Dev nD) (p : Fin 3) : mmF p (rowsC m c p true) (woC m c) = rdO c p 5 (dC m c p) :=
  (View.read_write_univ (Val := Elt F) (v := outM.access (outR c p 5)) _ _).symm
/-- A write through one rectangle does not change what a disjoint rectangle reads. -/
theorem read_write_apart {b : Ref sig .tc} (r r' : Rect b.ty.shape) (hd : Disjoint ((View.whole b).slice r).set ((View.whole b).slice r').set)
    (f : b.ty.Contents (Elt F)) (w : r'.shape.Idx → Elt F b.ty.elt) :
    ((View.whole b).slice r).read (Elt F) (((View.whole b).slice r').write (Elt F) f w Finset.univ) = ((View.whole b).slice r).read (Elt F) f := by
  funext j
  refine View.write_of_not_mem _ _ _ fun hm => ?_
  rw [View.setOn_univ] at hm
  exact (Finset.disjoint_left.mp hd) (View.emb_mem_set _ j) hm

theorem d_send (c : Dev nD) (p : Fin 3) : mmF p (rowsC m c p false) (woC m c) = rdO c p 0 (dC m c p) := by
  have hd : Disjoint (outM.access (outR c p 0)).set (outM.access (outR c p 5)).set := by rw [access_set, access_set]; exact disB c p
  have e : rdO c p 0 (dC m c p) = rdO c p 0 ((outM.access (outR c p 0)).write (Elt F) noneC (mmF p (rowsC m c p false) (woC m c)) Finset.univ) :=
    read_write_apart (b := cc0_stg3_0) (outR c p 0) (outR c p 5) hd _ _
  exact ((View.read_write_univ (Val := Elt F) (v := outM.access (outR c p 0)) _ _).symm).trans e.symm

end Cert.MeshAttn
-- ==== Proof.LocalOps.lean ====
/-
One rule for each kind of step a device takes by itself: the entry barrier's signals and wait, the copies of the key and value
heads into their two slots, the loads of those slots, the store of a head's attention rows, and the loads of the staged inputs.
-/
module

public import proofs.«01_k».proof.Proof.Regions
public import Idealize.ShloMosaic.Lib.Pipeline.Value

@[expose] public section

noncomputable section

namespace Cert.MeshAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-! ## The entry barrier -/

section Bar
variable (K : Dev nD × Ck → ℕ)

theorem wp_signalBar (c n : Dev nD) (d : Fin 3) (hn : n = nb c d) (O : CellTallies nD τ sig Unit) {sm : Sem sig} (hsm : sm = barS) {a : ℕ} (ha : a = 1)
    {α : Type} {Q : α → sProp 𝕄} {k : PUnit → Prog (TpuEff nD τ sig (Elt F) Λ₀ .tc) α} :
    iprop(PC m K ∗ (∃ W, owes (c : Thread nD τ) (O + tallyAt (barCell (nb c d)) () 1) W) ∗ dutyTok ER (barCell (nb c d)) 0 d ∗ barPay (nb c d) d)
      ⊢ iprop(((∃ W, owes (c : Thread nD τ) O W) -∗ WP c (k ⟨⟩) Q)
          -∗ WP c (.op (.semSignal (n, .tc) sm a) k) Q) := by
  subst hn hsm ha
  iintro ⟨#HP, ⟨%W, Ho⟩, Ht, Hpay⟩ Hk
  iapply (Rounds.wp_signal 𝒱₀ ER (Rd m) (c : Thread nD τ) none (dst := (nb c d : Thread nD τ)) (κ := K (nb c d, none)) (d := d)
    (by rw [duties_bar]; exact Finset.mem_univ _) ((amount_bar m (nb c d) d).trans (by decide)) () O rfl) $$ [Ho Ht Hpay]
  · isplitr; · iapply (PC_inv m K (nb c d) none); iexact HP
    isplitl [Ho]; · iexact Ho
    isplitl [Ht]; · iexact Ht
    isplitl [Hpay]; · iapply (Entails.of_eq (payload_bar m (nb c d) d).symm); iexact Hpay
    iapply (PC_reached m K (nb c d) none); iexact HP
  iintro Ho
  iapply Hk
  iexists W; iexact Ho

theorem wp_waitBar (c : Dev nD) {sm : Sem sig} (hsm : sm = barS) {a : ℕ} (ha : a = 3)
    {α : Type} {Q : α → sProp 𝕄} {k : PUnit → Prog (TpuEff nD τ sig (Elt F) Λ₀ .tc) α} :
    iprop(PC m K ∗ atPos ER (barCell c) 0 ∅ 0 ∗ cred (tallyAt (barCell c) () 3) ∗ owX c 0)
      ⊢ iprop((semVal (barCell c) 0 ∗ (bigSep Finset.univ fun k : Msg => commE (F := F) (prt c k.1 k.2) k.1 k.2) ∗ owX c 0 -∗ WP c (k ⟨⟩) Q)
          -∗ WP c (.op (.semWait sm a) k) Q) := by
  subst hsm ha
  unfold owX
  iintro ⟨#HP, Hat, Hcr, ⟨%W, Ho⟩⟩ Hk
  iapply (Rounds.wp_wait_rest_token 𝒱₀ ER (Rd m) (c : Thread nD τ) none (κ := K (c, none))
      (wpE_semWait_eq 𝒱₀ (c : Thread nD τ) none Set.univ) (Set.mem_univ _) () (O := ow c 0) (W := W) (R := 0) (m := 0) (T := ∅)
      (by rw [expect_bar])) $$ [Hcr Ho Hat]
  · isplitr; · iapply (PC_inv m K c none); iexact HP
    isplitl [Hcr]; · iexact Hcr
    isplitl [Ho]; · iexact Ho
    isplitr
    · iapply (mayWait_ow (F := F) c (.reg barS) 0 1 (by rw [lv_bar]) (fun t' h => by omega))
      iapply (PC_lev m K); iexact HP
    iexact Hat
  iintro ⟨Ho, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (PC_inv m K c none); iexact HP
    iexact Hat
  iapply Hk
  isplitl [Hz]; · iexact Hz
  isplitl [Hp]; · iexact Hp
  iexists _; iexact Ho

theorem ow_fold (c : Dev nD) : iprop(∃ W, owes (c : Thread nD τ) (ow c 0) W) ⊢ owX (F := F) c 0 := by unfold owX; iintro H; iexact H

end Bar

/-! ## Key and value heads -/

/-- The key array (`false`) and the value array (`true`), the two-slot buffers they are copied into, the slots' semaphores. -/
abbrev arrM (a : Bool) : Memref sig .tc .hbm S1x2048x64x128 .f32 := if a then vArr else kArr
abbrev scrM (a : Bool) : Memref sig .tc .vmem S2x2048x1x128 .f32 := if a then vScr else kScr
def locS (a : Bool) (b : Fin 2) : DmaSem sig := ⟨(if a then 42 else 40) + b.val, by have := b.isLt; show (if a then 42 else 40) + b.val < 44; split <;> omega⟩
theorem slot_inb (b : Fin 2) : ∀ x, (![b.val, 0, 0, 0] : Fin 4 → ℕ) x + S1x2048x1x128.size x ≤ S2x2048x1x128.size x := by
  revert b; decide +kernel
abbrev slotR (b : Fin 2) : Rect S2x2048x1x128 := Rect.unit (s := S2x2048x1x128) ![b.val, 0, 0, 0] S1x2048x1x128.size (slot_inb b)
/-- The slot head `h` is copied to. -/
abbrev par (h : Fin 8) : Fin 2 := ⟨h.val % 2, Nat.mod_lt _ (by decide)⟩

/-- Device `c`'s array, whole. -/
def arrC (a : Bool) (c : Dev nD) : Buf (Elt F) ((arrM a).view.loc (c : Thread nD τ)) := m ((arrM a).view.loc (c : Thread nD τ))
def arrP (a : Bool) (c : Dev nD) : sProp 𝕄 := iprop((arrM a).view.loc (c : Thread nD τ) ↦{fullShare} arrC m a c)
/-- A slot holding anything, and a slot holding a head. -/
def slotP (a : Bool) (c : Dev nD) (b : Fin 2) (f : Buf (Elt F) ((scrM a).view.loc (c : Thread nD τ))) : sProp 𝕄 :=
  iprop((scrM a).view.loc (c : Thread nD τ) ↦[((scrM a).access (slotR b)).set]{fullShare} f)
def slotE (a : Bool) (c : Dev nD) (b : Fin 2) : sProp 𝕄 := iprop(∃ f, slotP a c b f)
def hdC (a : Bool) (c : Dev nD) (h : Fin 8) : Vec F S1x2048x1x128 .f32 := ((arrM a).access (headR c h)).read (Elt F) (arrC m a c)
def slotV (a : Bool) (c : Dev nD) (h : Fin 8) : sProp 𝕄 :=
  iprop(∃ f, ⌜((scrM a).access (slotR (par h))).read (Elt F) f = hdC m a c h⌝ ∗ slotP a c (par h) f)
def locV (a : Bool) (c : Dev nD) (b : Fin 2) : sProp 𝕄 := iprop(semVal ((c : Thread nD τ), .dma (locS a b)) 0)

theorem arr_numel : S1x2048x1x128.Squeezes S2048x1x128 := by decide
abbrev headM (a : Bool) (c : Dev nD) (h : Fin 8) : Memref sig .tc .hbm S2048x1x128 .f32 :=
  ((arrM a).slice (headR c h) (fun _ => rfl)).squeeze S2048x1x128 arr_numel
abbrev slotM (a : Bool) (b : Fin 2) : Memref sig .tc .vmem S2048x1x128 .f32 :=
  ((scrM a).slice (slotR b) (fun _ => rfl)).squeeze S2048x1x128 arr_numel

theorem head_eq {a : Bool} {c : Dev nD} {h : Fin 8} {off : Fin 4 → ℕ} (e : off = ![0, 0, 8 * c.val + h.val, 0])
    (inb : ∀ x, off x + S1x2048x1x128.size x ≤ S1x2048x64x128.size x) (hr) (hq) :
    ((arrM a).slice (Rect.unit (s := S1x2048x64x128) off S1x2048x1x128.size inb) hr).squeeze S2048x1x128 hq = headM a c h := by
  subst e; rfl

theorem locS_ne (a : Bool) (b : Fin 2) (p t b') : xS p t b' ≠ locS a b := by revert a b p t b'; decide +kernel
theorem lv_loc (c : Dev nD) (a : Bool) (b : Fin 2) (u : Unit) : lv ((c : Thread nD τ), .dma (locS a b)) u = 0 := by
  unfold lv
  rw [decSem_none _ (fun k => by
    match k with
    | none => exact fun h => nomatch h
    | some ((p, t), b') => exact fun h => locS_ne a b p t b' (SemLoc.dma.inj h))]
  rfl

/-- The bytes a head counts for. -/
abbrev NH : ℕ := (slotM false 0).view.dmaCredit

/-- A head on its way. -/
def flP (a : Bool) (c : Dev nD) (h : Fin 8) : sProp 𝕄 :=
  iprop((∃ fd, Transfers.Flight (countersEmb (U := UU)) (c : Thread nD τ) (.dma (locS a (par h))) () NH
      iprop(((slotM a (par h)).view.loc (c : Thread nD τ) ↦[(slotM a (par h)).view.set]{fullShare}
          (slotM a (par h)).view.write (Elt F) fd ((headM a c h).view.read (Elt F) (arrC m a c)) Finset.univ)
        ∗ (headM a c h).view.loc (c : Thread nD τ) ↦[(headM a c h).view.set]{fullShare} arrC m a c))
    ∗ ((arrM a).view.loc (c : Thread nD τ) ↦[Finset.univ \ (headM a c h).view.set]{fullShare} arrC m a c))

/-- Reading back a copy made through two squeezed slices. -/
theorem read_reshape_write {κ κ' : Kind} {sp sp' : Space} {s s' : Shape} {e : EltTy} (v : View sig κ sp s e) (u : View sig κ' sp' s e) (h h' : s'.numel = s.numel) (f g) :
    v.read (Elt F) ((v.reshape s' h).write (Elt F) f ((u.reshape s' h').read (Elt F) g) Finset.univ) = u.read (Elt F) g := by
  have key := View.read_write_univ (Val := Elt F) (v := v.reshape s' h) f ((u.reshape s' h').read (Elt F) g)
  funext i
  have hi := congrFun key ((Shape.reshapeEquiv h).symm i)
  have e1 : ∀ X, (v.reshape s' h).read (Elt F) X ((Shape.reshapeEquiv h).symm i) = v.read (Elt F) X i := fun X => by
    show v.read (Elt F) X (Shape.reshapeEquiv h ((Shape.reshapeEquiv h).symm i)) = _
    rw [Equiv.apply_symm_apply]
  have e2 : (u.reshape s' h').read (Elt F) g ((Shape.reshapeEquiv h).symm i) = u.read (Elt F) g i := by
    show u.read (Elt F) g (Shape.reshapeEquiv h' ((Shape.reshapeEquiv h).symm i)) = _
    rw [Equiv.apply_symm_apply]
  rw [e1, e2] at hi
  exact hi

theorem slotM_set (a : Bool) (b : Fin 2) : (slotM a b).view.set = ((scrM a).access (slotR b)).set := Memref.set_view_squeeze ..

theorem NH_pos : 0 < NH := by decide +kernel

theorem wp_startCopy (c : Dev nD) (a : Bool) (h : Fin 8) {src : Memref sig .tc .hbm S2048x1x128 .f32} (hsr : src = headM a c h)
    {dst : Memref sig .tc .vmem S2048x1x128 .f32} (hds : dst = slotM a (par h)) {sm : DmaSem sig} (hS : sm = locS a (par h))
    {hsrc : src.view.WordExact} {hdst : dst.view.WordExact} {hsem : DmaTarget.Typed (nD := nD) (τ := τ) (p := .tc) .hbm (.dma sm) (.here dst)}
    {α : Type} {Q : α → sProp 𝕄} {k : PUnit → Prog (TpuEff nD τ sig (Elt F) Λ₀ .tc) α} :
    iprop(arrP m a c ∗ slotE (F := F) a c (par h) ∗ locV (F := F) a c (par h))
      ⊢ iprop((flP m a c h -∗ WP c (k ⟨⟩) Q)
          -∗ WP c (.op (.enqueueDma src (.here dst) (.dma sm) hsrc hdst hsem) k) Q) := by
  subst hsr hds hS
  unfold arrP slotE slotP locV flP
  iintro ⟨Ha, ⟨%fd, Hd⟩, Hv⟩ Hk
  ihave Hs := (pointsTo_split_subset (Finset.subset_univ (headM a c h).view.set)).1 $$ Ha
  icases Hs with ⟨Hs, Hr⟩
  iapply (Transfers.wp_dmaLocal (countersEmb (U := UU)) 𝒱₀ (c : Thread nD τ) none (src := headM a c h) (dst := slotM a (par h)) (sm := .dma (locS a (par h)))
    (Sd := (slotM a (par h)).view.set) (fd := fd) (q := fullShare) () NH (by cases a <;> rfl) NH_pos (Finset.Subset.refl _)) $$ [Hs Hd Hv]
  · isplitl [Hs]; · iexact Hs
    isplitl [Hd]; · rw [slotM_set]; iexact Hd
    iexact Hv
  iintro Hf
  iapply Hk
  isplitl [Hf]
  · iexists fd; iexact Hf
  iexact Hr

theorem wp_waitCopy (K : Dev nD × Ck → ℕ) (c : Dev nD) (a : Bool) (h : Fin 8) {sm : DmaSem sig} (hS : sm = locS a (par h)) {sp₁ : Space} {s₁ : Shape} {e₁ : EltTy}
    {src : Memref sig .tc sp₁ s₁ e₁} {dst : Memref sig .tc .vmem S2048x1x128 .f32} (hd : dst = slotM a (par h))
    {hsrc : src.view.WordExact} {hdst : dst.view.WordExact}
    {α : Type} {Q : α → sProp 𝕄} {k : PUnit → Prog (TpuEff nD τ sig (Elt F) Λ₀ .tc) α} :
    iprop(PC m K ∗ flP m a c h ∗ owX c 0)
      ⊢ iprop((arrP m a c ∗ slotV m a c h ∗ locV (F := F) a c (par h) ∗ owX c 0 -∗ WP c (k ⟨⟩) Q)
          -∗ WP c (.op (.waitDma2 sm src dst hsrc hdst) k) Q) := by
  subst hS
  have hN : dst.view.dmaCredit = NH := by subst hd; cases a <;> rfl
  unfold flP owX
  iintro ⟨#HP, ⟨⟨%fd, Hf⟩, Hr⟩, ⟨%W, Ho⟩⟩ Hk
  iapply (Transfers.wp_waitLocalO (countersEmb (U := UU)) 𝒱₀ (c : Thread nD τ) none (sem := locS a (par h)) () hN (O := ow c 0) (W := W)) $$ [Hf Ho]
  · isplitl [Hf]; · iexact Hf
    isplitl [Ho]; · iexact Ho
    iapply (mayWait_ow (F := F) c (.dma (locS a (par h))) 0 0 (by rw [lv_loc]) (fun t' h => by omega))
    iapply (PC_lev m K); iexact HP
  iintro ⟨⟨Hd, Hs⟩, Hv, Ho⟩
  iapply Hk
  unfold arrP slotV slotP locV
  isplitl [Hs Hr]
  · iapply (pointsTo_split_subset (Finset.subset_univ (headM a c h).view.set)).2
    isplitl [Hs]; · iexact Hs
    iexact Hr
  isplitl [Hd]
  · iexists ((slotM a (par h)).view.write (Elt F) fd ((headM a c h).view.read (Elt F) (arrC m a c)) Finset.univ)
    isplitr
    · ipureintro
      exact read_reshape_write (F := F) ((scrM a).access (slotR (par h))) ((arrM a).access (headR c h)) _ _ _ _
    · rw [← slotM_set]; iexact Hd
  isplitl [Hv]; · iexact Hv
  iexists _; iexact Ho

theorem slot_any (c : Dev nD) (a : Bool) (h : Fin 8) : slotV m a c h ⊢ slotE (F := F) a c (par h) := by
  unfold slotV slotE
  iintro ⟨%f, -, H⟩
  iexists f; iexact H

theorem wp_loadSlot (c : Dev nD) (a : Bool) (h : Fin 8) {off : Fin 4 → ℕ} (e : off = ![(par h).val, 0, 0, 0])
    {inb : ∀ x, off x + S1x2048x1x128.size x ≤ S2x2048x1x128.size x} {hl}
    {α : Type} {Q : α → sProp 𝕄} {k : Vec F S1x2048x1x128 .f32 → Prog (TpuEff nD τ sig (Elt F) Λ₀ .tc) α} :
    slotV m a c h
      ⊢ iprop((slotV m a c h -∗ WP c (k (hdC m a c h)) Q)
          -∗ WP c (.op (.load (scrM a) (Rect.unit (s := S2x2048x1x128) off S1x2048x1x128.size inb).toLoadRect hl) k) Q) := by
  subst e
  unfold slotV slotP
  iintro ⟨%f, %hf, H⟩ Hk
  rw [← hf]
  iapply (wp_load_rect 𝒱₀ (c : Thread nD τ) none Set.univ (m := scrM a) (r := slotR (par h)) (f := f) (q := fullShare)
    (S := ((scrM a).access (slotR (par h))).set) (Finset.Subset.refl _)) $$ H
  iintro H
  iapply Hk
  iexists f
  isplitr; · ipureintro; rfl
  iexact H

/-! ## The attention rows -/

/-- The attention buffer with the first `h` heads' columns filled. -/
def atP (c : Dev nD) (h : ℕ) : sProp 𝕄 :=
  iprop(∃ f : (cc0_scratch2 : Ref sig .tc).ty.Contents (Elt F), ⌜∀ i : S512x1024.Idx, (i 1).val < 128 * h → f i = attC m c i⌝ ∗ atM.view.loc (c : Thread nD τ) ↦{fullShare} f)
def atV (c : Dev nD) : sProp 𝕄 := iprop(atM.view.loc (c : Thread nD τ) ↦{fullShare} attC m c)

theorem at_start (c : Dev nD) : iprop(∃ f : (cc0_scratch2 : Ref sig .tc).ty.Contents (Elt F), atM.view.loc (c : Thread nD τ) ↦{fullShare} f) ⊢ atP m c 0 := by
  unfold atP
  iintro ⟨%f, H⟩
  iexists f
  isplitr; · ipureintro; intro i h; omega
  iexact H

theorem at_full (c : Dev nD) : atP m c 8 ⊢ atV m c := by
  unfold atP atV
  iintro ⟨%f, %hf, H⟩
  have e : f = attC m c := by
    funext i
    have h : (i 1).val < 1024 := (i 1).isLt
    exact hf i (by omega)
  rw [e]; iexact H

theorem wp_loadAtAny (c : Dev nD) (h : ℕ) {r : LoadRect S512x1024} {hl}
    {α : Type} {Q : α → sProp 𝕄} {k : Vec F r.shape .f32 → Prog (TpuEff nD τ sig (Elt F) Λ₀ .tc) α} :
    atP m c h
      ⊢ iprop((∀ v, atP m c h -∗ WP c (k v) Q)
          -∗ WP c (.op (.load atM r hl) k) Q) := by
  unfold atP
  iintro ⟨%f, %hf, H⟩ Hk
  iapply (wp_load 𝒱₀ (c : Thread nD τ) none Set.univ (m := atM) (r := r) (f := f) (q := fullShare) (Finset.subset_univ _)) $$ H
  iintro H
  iapply Hk
  iexists f
  isplitr; · ipureintro; exact hf
  iexact H

theorem col_inb (h : Fin 8) : ∀ x, (![0, 128 * h.val] : Fin 2 → ℕ) x + S512x128.size x ≤ S512x1024.size x := by revert h; decide +kernel

theorem wp_storeAt (c : Dev nD) (h : Fin 8) (n n' : ℕ) (hn : n = h.val) (hn' : n' = h.val + 1) {off : Fin 2 → ℕ} (e : off = ![0, 128 * h.val])
    {inb : ∀ x, off x + S512x128.size x ≤ S512x1024.size x} {w : Vec F S512x128 .f32}
    (hw : w = headF h (qC m c) (hdC m false c h) (hdC m true c h)) {hx hm}
    {α : Type} {Q : α → sProp 𝕄} {k : PUnit → Prog (TpuEff nD τ sig (Elt F) Λ₀ .tc) α} :
    atP m c n
      ⊢ iprop((atP m c n' -∗ WP c (k ⟨⟩) Q)
          -∗ WP c (.op (.store atM (Rect.unit (s := S512x1024) off S512x128.size inb) w Finset.univ hx hm) k) Q) := by
  subst e hw hn hn'
  unfold atP
  iintro ⟨%f, %hf, H⟩ Hk
  iapply (wp_store 𝒱₀ (c : Thread nD τ) none Set.univ (m := atM) (r := Rect.unit (s := S512x1024) ![0, 128 * h.val] S512x128.size inb) (Mk := Finset.univ)
    (S := Finset.univ) (Finset.subset_univ _)) $$ H
  iintro H
  iapply Hk
  iexists _
  isplitr
  swap
  · iexact H
  ipureintro
  intro i hi
  by_cases hm : i ∈ (Rect.unit (s := S512x1024) ![0, 128 * h.val] S512x128.size inb).set
  · have hm' : i ∈ (atM.access (Rect.unit (s := S512x1024) ![0, 128 * h.val] S512x128.size inb)).set := by
      rw [show (atM.access (Rect.unit (s := S512x1024) ![0, 128 * h.val] S512x128.size inb)).set = _ from View.set_slice_whole (cc0_scratch2 : Ref sig .tc) _]; exact hm
    obtain ⟨j, -, rfl⟩ := Finset.mem_map.mp hm'
    rw [View.write_emb_of_mem _ _ (Finset.mem_univ j)]
    have j1 : (j 1).val < 128 := (j 1).isLt
    have e1 : (((atM.access (Rect.unit (s := S512x1024) ![0, 128 * h.val] S512x128.size inb)).emb j : S512x1024.Idx) 1).val = 128 * h.val + (j 1).val := by
      show 128 * h.val + 1 * (j 1).val = _; omega
    have e0 : (((atM.access (Rect.unit (s := S512x1024) ![0, 128 * h.val] S512x128.size inb)).emb j : S512x1024.Idx) 0).val = (j 0).val := by
      show 0 + 1 * (j 0).val = _; omega
    have eh : hd ((atM.access (Rect.unit (s := S512x1024) ![0, 128 * h.val] S512x128.size inb)).emb j : S512x1024.Idx) = h := by
      apply Fin.ext; show _ / 128 = _; rw [e1]; omega
    have ec : hcol ((atM.access (Rect.unit (s := S512x1024) ![0, 128 * h.val] S512x128.size inb)).emb j : S512x1024.Idx) = j := by
      funext x; apply Fin.ext
      match x with
      | ⟨0, _⟩ => exact e0
      | ⟨1, _⟩ => show _ % 128 = (j 1).val; rw [e1]; omega
    unfold attC
    rw [eh, ec]
    rfl
  · rw [View.write_of_not_mem _ _ _ (by
      rw [View.setOn_univ, show (atM.access (Rect.unit (s := S512x1024) ![0, 128 * h.val] S512x128.size inb)).set = _ from View.set_slice_whole (cc0_scratch2 : Ref sig .tc) _]; exact hm)]
    refine hf i ?_
    by_contra hlt
    apply hm
    rw [Rect.mem_set_unit]
    have hi' : (i 1).val < 128 * (h.val + 1) := hi
    have i0 : (i 0).val < 512 := (i 0).isLt
    intro x
    match x with
    | ⟨0, _⟩ => exact ⟨Nat.zero_le _, by show (i 0).val < 0 + 512; omega⟩
    | ⟨1, _⟩ => exact ⟨by show 128 * h.val ≤ (i 1).val; omega, by show (i 1).val < 128 * h.val + 128; omega⟩

/-- The rows of a half of the product, once the attention rows are complete. -/
theorem wp_loadRows (c : Dev nD) (p : Fin 3) (b : Bool) {off : Fin 2 → ℕ} (e : off = ![sr c p (half b), 0])
    {inb : ∀ x, off x + S256x1024.size x ≤ S512x1024.size x} {hl}
    {α : Type} {Q : α → sProp 𝕄} {k : Vec F S256x1024 .f32 → Prog (TpuEff nD τ sig (Elt F) Λ₀ .tc) α} :
    atV m c
      ⊢ iprop((atV m c -∗ WP c (k (rowsC m c p b)) Q)
          -∗ WP c (.op (.load atM (Rect.unit (s := S512x1024) off S256x1024.size inb).toLoadRect hl) k) Q) := by
  subst e
  unfold atV
  exact wp_load 𝒱₀ (c : Thread nD τ) none Set.univ (m := atM) (f := attC m c) (q := fullShare) (S := Finset.univ) (Finset.subset_univ _)

/-! ## The staged inputs -/

def xP (c : Dev nD) : sProp 𝕄 := iprop(xM.view.loc (c : Thread nD τ) ↦{fullShare} xC m c)
def wqP (c : Dev nD) : sProp 𝕄 := iprop(wqM.view.loc (c : Thread nD τ) ↦{fullShare} wqC m c)
def woP (c : Dev nD) : sProp 𝕄 := iprop(woM.view.loc (c : Thread nD τ) ↦{fullShare} woC m c)

theorem wp_loadEq (c : Dev nD) {s : Shape} (M : Memref sig .tc .vmem s .f32) (r : LoadRect s) (f : Buf (Elt F) (M.view.loc (c : Thread nD τ))) (v : Vec F r.shape .f32)
    (hv : M.view.readAt (Elt F) r f = v) {hl} {α : Type} {Q : α → sProp 𝕄} {k : Vec F r.shape .f32 → Prog (TpuEff nD τ sig (Elt F) Λ₀ .tc) α} :
    iprop(M.view.loc (c : Thread nD τ) ↦{fullShare} f)
      ⊢ iprop(((M.view.loc (c : Thread nD τ) ↦{fullShare} f) -∗ WP c (k v) Q) -∗ WP c (.op (.load M r hl) k) Q) := by
  subst hv
  exact wp_load 𝒱₀ (c : Thread nD τ) none Set.univ (m := M) (f := f) (q := fullShare) (S := Finset.univ) (Finset.subset_univ _)

theorem wp_loadX (c : Dev nD) {inb : ∀ x, (![0, 0, 0] : Fin 3 → ℕ) x + S1x512x1024.size x ≤ S1x512x1024.size x} {hl}
    {α : Type} {Q : α → sProp 𝕄} {k : Vec F S1x512x1024 .f32 → Prog (TpuEff nD τ sig (Elt F) Λ₀ .tc) α} :
    xP m c ⊢ iprop((xP m c -∗ WP c (k (xC m c)) Q)
          -∗ WP c (.op (.load xM (Rect.unit (s := S1x512x1024) ![0, 0, 0] S1x512x1024.size inb).toLoadRect hl) k) Q) := by
  have hz : (![0, 0, 0] : Fin 3 → ℕ) = fun _ => 0 := by decide
  unfold xP
  exact wp_loadEq (F := F) c xM _ _ _ (Memref.readAt_unit_zero (Elt F) (cc0_stg0_0 : Ref sig .tc) hz inb (xC m c))

theorem wp_loadWq (c : Dev nD) {inb : ∀ x, (![0, 0] : Fin 2 → ℕ) x + S1024x1024.size x ≤ S1024x1024.size x} {hl}
    {α : Type} {Q : α → sProp 𝕄} {k : Vec F S1024x1024 .f32 → Prog (TpuEff nD τ sig (Elt F) Λ₀ .tc) α} :
    wqP m c ⊢ iprop((wqP m c -∗ WP c (k (wqC m c)) Q)
          -∗ WP c (.op (.load wqM (Rect.unit (s := S1024x1024) ![0, 0] S1024x1024.size inb).toLoadRect hl) k) Q) := by
  have hz : (![0, 0] : Fin 2 → ℕ) = fun _ => 0 := by decide
  unfold wqP
  exact wp_loadEq (F := F) c wqM _ _ _ (Memref.readAt_unit_zero (Elt F) (cc0_stg1_0 : Ref sig .tc) hz inb (wqC m c))

theorem wp_loadWo (c : Dev nD) {r : LoadRect S1024x1024} {hl}
    {α : Type} {Q : α → sProp 𝕄} {k : Vec F r.shape .f32 → Prog (TpuEff nD τ sig (Elt F) Λ₀ .tc) α} :
    woP m c ⊢ iprop((woP m c -∗ WP c (k (woM.view.readAt (Elt F) r (woC m c))) Q)
          -∗ WP c (.op (.load woM r hl) k) Q) := by
  unfold woP
  exact wp_load 𝒱₀ (c : Thread nD τ) none Set.univ (m := woM) (f := woC m c) (q := fullShare) (S := Finset.univ) (Finset.subset_univ _)

end Cert.MeshAttn
-- ==== Proof.Steps.lean ====
/-
How the ownership of the output buffer changes hands inside one band: the rows kept in a round become the next round's sent and
kept rows; in the all-gather the finished rows join the rows sent; in the end both halves of the band are finished.
-/
module

public import proofs.«01_k».proof.Proof.LocalOps

@[expose] public section

noncomputable section

namespace Cert.MeshAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

theorem WP_ret {α : Type} (c : Dev nD) (a : α) (Q : α → sProp 𝕄) : Q a ⊢ WP c (.ret a) Q := by
  show _ ⊢ wp frame (wpE (defs₀ (F := F)) 𝒱₀ (c : Thread nD τ) none) Set.univ (.ret a) Q
  rw [wp_ret]
  iintro H
  imodintro
  iexact H

theorem WP_bind {α β : Type} (c : Dev nD) (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q :=
  Entails.of_eq (wp_bind ..).symm

abbrev OutC (F : FTy → Type) : Type := (cc0_stg3_0 : Ref sig .tc).ty.Contents (Elt F)

/-- The offset of the rows that pair with message `(p, t)`. -/
theorem T_off (c : Dev nD) (p : Fin 3) (t : Fin 6) : (![0, sr c p (opp t), C0 p] : Fin 3 → ℕ) = ![0, sr (prt c p t) p t, C0 p] := by
  rw [sr_prt]

theorem d_send' (c : Dev nD) (p : Fin 3) : mmF p (rowsC m c p false) (woC m c) = rdO c p 0 (msgC m c p 0) :=
  (d_send m c p).trans (by rw [msgC_rs m c p 0 (by decide)]; rfl)
theorem d_keep' (c : Dev nD) (p : Fin 3) : mmF p (rowsC m c p true) (woC m c) = rdO c p 5 (aC m p 0 c) := d_keep m c p

theorem out_T (c : Dev nD) (p : Fin 3) (t : Fin 6) (X : OutC F) : outP c (oS c p (opp t)) X = outP c (oS (prt c p t) p t) X := by
  rw [oS_opp]

theorem step0 (c : Dev nD) (p : Fin 3) : outP c (oS c p 5) (aC m p 0 c) = outP c (oS (prt c p 0) p 0) (aC m p 0 c) := out_T c p 0 _

theorem step1 (c : Dev nD) (p : Fin 3) : outP c (oS (prt c p 0) p 0) (aC m p 1 c)
    = iprop(outP c (oS c p 1) (msgC m c p 1) ∗ outP c (oS (prt c p 1) p 1) (aC m p 1 c)) := by
  rw [← out_T c p 0, ← out_T c p 1, msgC_rs m c p 1 (by decide)]; exact out_cut5 c p _
theorem step2 (c : Dev nD) (p : Fin 3) : outP c (oS (prt c p 1) p 1) (aC m p 2 c)
    = iprop(outP c (oS c p 2) (msgC m c p 2) ∗ outP c (oS (prt c p 2) p 2) (aC m p 2 c)) := by
  rw [← out_T c p 1, ← out_T c p 2, msgC_rs m c p 2 (by decide)]; exact out_cut4 c p _
theorem step3 (c : Dev nD) (p : Fin 3) : outP c (oS (prt c p 2) p 2) (aC m p 3 c) = outP c (oS c p 3) (msgC m c p 3) := by
  rw [← out_T c p 2, msgC_ag m c p 3 (by decide)]
  exact out_congr c fun i hi => (fin_own m hi).symm
theorem step3' (c : Dev nD) (p : Fin 3) (X : OutC F) : outP c (oS c p 2) X = outP c (oS (prt c p 3) p 3) X := out_T c p 3 X
theorem step4 (c : Dev nD) (p : Fin 3) : iprop(outP c (oS (prt c p 3) p 3) (finC m p) ∗ outP c (oS c p 3) (msgC m c p 3))
    = outP c (oS c p 4) (msgC m c p 4) := by
  rw [← out_T c p 3, msgC_ag m c p 3 (by decide), msgC_ag m c p 4 (by decide)]; exact (out_cut4 c p _).symm
theorem step4' (c : Dev nD) (p : Fin 3) (X : OutC F) : outP c (oS c p 1) X = outP c (oS (prt c p 4) p 4) X := out_T c p 4 X
theorem step5 (c : Dev nD) (p : Fin 3) : iprop(outP c (oS (prt c p 4) p 4) (finC m p) ∗ outP c (oS c p 4) (msgC m c p 4))
    = outP c (oS c p 5) (msgC m c p 5) := by
  rw [← out_T c p 4, msgC_ag m c p 4 (by decide), msgC_ag m c p 5 (by decide)]; exact (out_cut5 c p _).symm
theorem step5' (c : Dev nD) (p : Fin 3) (X : OutC F) : outP c (oS c p 0) X = outP c (oS (prt c p 5) p 5) X := out_T c p 5 X
theorem step6 (c : Dev nD) (p : Fin 3) : iprop(outP c (oS (prt c p 5) p 5) (finC m p) ∗ outP c (oS c p 5) (msgC m c p 5))
    = iprop(outP c (oS c p 0) (outC m) ∗ outP c (oS c p 5) (outC m)) := by
  rw [← out_T c p 5, msgC_ag m c p 5 (by decide), show opp 5 = 0 from rfl,
    out_congr c (S := oS c p 0) (fun i hi => (out_eq_fin m (c := c) (Finset.mem_union_left _ hi)).symm),
    out_congr c (S := oS c p 5) (fun i hi => (out_eq_fin m (c := c) (Finset.mem_union_right _ hi)).symm)]

/-- The whole output buffer, finished. -/
theorem out_whole (c : Dev nD) : iprop((outP c (oS (prt c 0 5) 0 5) (finC m 0) ∗ outP c (oS c 0 5) (msgC m c 0 5))
      ∗ (outP c (oS (prt c 1 5) 1 5) (finC m 1) ∗ outP c (oS c 1 5) (msgC m c 1 5))
      ∗ (outP c (oS (prt c 2 5) 2 5) (finC m 2) ∗ outP c (oS c 2 5) (msgC m c 2 5)))
    = outP c Finset.univ (outC m) := by
  rw [step6, step6, step6, out_cutAll]

theorem bigSep_msgs (Φ : Msg → sProp 𝕄) : bigSep Finset.univ Φ
    = iprop(Φ (0, 0) ∗ Φ (1, 0) ∗ Φ (2, 0) ∗ Φ (0, 1) ∗ Φ (1, 1) ∗ Φ (2, 1) ∗ Φ (0, 2) ∗ Φ (1, 2) ∗ Φ (2, 2)
      ∗ Φ (0, 3) ∗ Φ (1, 3) ∗ Φ (2, 3) ∗ Φ (0, 4) ∗ Φ (1, 4) ∗ Φ (2, 4) ∗ Φ (0, 5) ∗ Φ (1, 5) ∗ Φ (2, 5)) := by
  rw [bigSep_univ_eq_bigSepL [(0, 0), (1, 0), (2, 0), (0, 1), (1, 1), (2, 1), (0, 2), (1, 2), (2, 2),
      (0, 3), (1, 3), (2, 3), (0, 4), (1, 4), (2, 4), (0, 5), (1, 5), (2, 5)] (by decide) (by decide) Φ]
  simp only [bigSepL_cons_cons, bigSepL_singleton]
  rfl

/-- After the barrier a device holds every message's package with its partner's landing rows. -/
theorem packs (c : Dev nD) : iprop((bigSep Finset.univ fun k : Msg => pk (F := F) c k) ∗ bigSep Finset.univ fun k : Msg => commE (F := F) (prt c k.1 k.2) k.1 k.2)
    = bigSep Finset.univ fun k : Msg => pk0 (F := F) c k.1 k.2 := by
  rw [← bigSep_sep']; rfl

end Cert.MeshAttn
-- ==== Proof.Attend.lean ====
/-
The body's first eighteen stretches, run on any device `c`: the entry barrier's signals, the keys and values of the eight heads
copied in through two slots while the head before is computed, the attention rows, the barrier's wait, and the first halves of
the product with `Wo`, each sent to the partner of round 0.

Each theorem takes the parts of memory and the tokens its stretch uses and gives back what is left, with the contents written.
-/
module

public import proofs.«01_k».proof.Proof.Steps

@[expose] public section

noncomputable section

namespace Cert.MeshAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

variable (K : Dev nD × Ck → ℕ)

/-- The device's own coordinates: integer arithmetic alone. -/
theorem part1_run (c : Dev nD)
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (d0 : Dev nD) (v2 : BitVec 32) (v3 : BitVec 32) (v21 : BitVec 32), BitVec 32) → sProp 𝕄} :
    iprop(PC m K
      ∗ (∀ (w1 : BitVec 32) (w2 : BitVec 32) (w3 : BitVec 32) (w4 : BitVec 32), Q ⟨c, w1, w2, w3, w4⟩))
    ⊢ WP c (k0_part1 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 ) Q := by
  rw [k0_part1_eq_skeleton]
  unfold k0_part1_skel
  simp only [Prog.lift, Prog.bind_op, Prog.bind_ret, Prog.pure_eq_ret, semSignalWord, semWaitWord, wp_deviceId]
  iintro ⟨#HP, Hk⟩
  iapply (WP_ret c _ Q)
  iapply Hk

/-- The three signals of the entry barrier, and the copy of head 0's keys started. -/
theorem part2_run (c : Dev nD) {v2 : BitVec 32} {v3 : BitVec 32} {v21 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v40 : BitVec 32) (v41 : Sems sig S_), BitVec 32) → sProp 𝕄} :
    iprop(PC m K
      ∗ (∃ W, owes (c : Thread nD τ) (O₀ c) W)
      ∗ dutyTok ER (barCell (nb c 0)) 0 0
      ∗ barPay (F := F) (nb c 0) 0
      ∗ dutyTok ER (barCell (nb c 1)) 0 1
      ∗ barPay (F := F) (nb c 1) 1
      ∗ dutyTok ER (barCell (nb c 2)) 0 2
      ∗ barPay (F := F) (nb c 2) 2
      ∗ arrP m false c
      ∗ slotE (F := F) false c 0
      ∗ locV (F := F) false c 0
      ∗ (∀ (w0 : BitVec 32) (w2 : BitVec 32), (owX c 0 ∗ flP m false c 0) -∗ Q ⟨w0, SemArray.scalar (sig.barrier 0 rfl), w2⟩))
    ⊢ WP c (k0_part2 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v2 v3 v21) Q := by
  rw [k0_part2_eq_skeleton]
  unfold k0_part2_skel
  simp only [Prog.lift, Prog.bind_op, Prog.bind_ret, Prog.pure_eq_ret, semSignalWord, semWaitWord, wp_deviceId]
  iintro ⟨#HP, How, Hbt0, Hbp0, Hbt1, Hbp1, Hbt2, Hbp2, Harr0, Hsl00, Hlv00, Hk⟩
  iapply (wp_signalBar m K c _ 0 (dev1_eq c) (O₁ c) rfl rfl) $$ [How Hbt0 Hbp0]
  · isplitr; · iexact HP
    isplitl [How]; · iexact How
    isplitl [Hbt0]; · iexact Hbt0
    iexact Hbp0
  iintro How
  iapply (wp_signalBar m K c _ 1 (dev2_eq c) (O₂ c) rfl rfl) $$ [How Hbt1 Hbp1]
  · isplitr; · iexact HP
    isplitl [How]; · iexact How
    isplitl [Hbt1]; · iexact Hbt1
    iexact Hbp1
  iintro How
  iapply (wp_signalBar m K c _ 2 (dev3_eq c) (ow c 0) rfl rfl) $$ [How Hbt2 Hbp2]
  · isplitr; · iexact HP
    isplitl [How]; · iexact How
    isplitl [Hbt2]; · iexact Hbt2
    iexact Hbp2
  iintro How
  ihave How := (ow_fold c) $$ How
  iapply (wp_startCopy m c false 0 (head_eq (a := false) (h := 0) (off1_eq c 0) _ _ _) rfl rfl) $$ [Harr0 Hsl00 Hlv00]
  · isplitl [Harr0]; · iexact Harr0
    isplitl [Hsl00]; · iexact Hsl00
    iexact Hlv00
  iintro Hfl0
  iapply (WP_ret c _ Q)
  iapply Hk
  isplitl [How]; · iexact How
  iexact Hfl0

/-- The copy of head 0's values started, the queries computed, both copies awaited. -/
theorem part3_run (c : Dev nD) {v51 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (FVec F S512x1024 .f32) → sProp 𝕄} :
    iprop(PC m K
      ∗ arrP m true c
      ∗ slotE (F := F) true c 0
      ∗ locV (F := F) true c 0
      ∗ xP m c
      ∗ wqP m c
      ∗ flP m false c 0
      ∗ owX c 0
      ∗ ((xP m c ∗ wqP m c ∗ owX c 0 ∗ arrP m false c ∗ slotV m false c 0 ∗ locV (F := F) false c 0 ∗ arrP m true c ∗ slotV m true c 0 ∗ locV (F := F) true c 0) -∗ Q (k0_pay2 (xC m c) (wqC m c))))
    ⊢ WP c (k0_part3 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v51) Q := by
  rw [k0_part3_eq_skeleton]
  unfold k0_part3_skel
  simp only [Prog.lift, Prog.bind_op, Prog.bind_ret, Prog.pure_eq_ret, semSignalWord, semWaitWord, wp_deviceId]
  iintro ⟨#HP, Harr1, Hsl10, Hlv10, HxP, HwqP, Hfl0, How, Hk⟩
  iapply (wp_startCopy m c true 0 (head_eq (a := true) (h := 0) (off1_eq c 0) _ _ _) rfl rfl) $$ [Harr1 Hsl10 Hlv10]
  · isplitl [Harr1]; · iexact Harr1
    isplitl [Hsl10]; · iexact Hsl10
    iexact Hlv10
  iintro Hfl1
  iapply (wp_loadX m c) $$ HxP
  iintro HxP
  iapply (wp_loadWq m c) $$ HwqP
  iintro HwqP
  iapply (wp_waitCopy m K c false 0 rfl rfl) $$ [Hfl0 How]
  · isplitr; · iexact HP
    isplitl [Hfl0]; · iexact Hfl0
    iexact How
  iintro ⟨Harr0, Hsl00, Hlv00, How⟩
  iapply (wp_waitCopy m K c true 0 rfl rfl) $$ [Hfl1 How]
  · isplitr; · iexact HP
    isplitl [Hfl1]; · iexact Hfl1
    iexact How
  iintro ⟨Harr1, Hsl10, Hlv10, How⟩
  iapply (WP_ret c _ Q)
  iapply Hk
  isplitl [HxP]; · iexact HxP
  isplitl [HwqP]; · iexact HwqP
  isplitl [How]; · iexact How
  isplitl [Harr0]; · iexact Harr0
  isplitl [Hsl00]; · iexact Hsl00
  isplitl [Hlv00]; · iexact Hlv00
  isplitl [Harr1]; · iexact Harr1
  isplitl [Hsl10]; · iexact Hsl10
  iexact Hlv10

/-- Head 1's copies started, head 0's attention rows computed and stored. -/
theorem part4_run (c : Dev nD) {v51 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (PUnit) → sProp 𝕄} :
    iprop(PC m K
      ∗ arrP m false c
      ∗ slotE (F := F) false c 1
      ∗ locV (F := F) false c 1
      ∗ arrP m true c
      ∗ slotE (F := F) true c 1
      ∗ locV (F := F) true c 1
      ∗ slotV m false c 0
      ∗ slotV m true c 0
      ∗ atP m c 0
      ∗ ((flP m false c 1 ∗ flP m true c 1 ∗ slotV m false c 0 ∗ slotV m true c 0 ∗ atP m c 1) -∗ Q PUnit.unit))
    ⊢ WP c (k0_part4 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v51 (qC m c)) Q := by
  rw [k0_part4_eq_skeleton]
  unfold k0_part4_skel
  simp only [Prog.lift, Prog.bind_op, Prog.bind_ret, Prog.pure_eq_ret, semSignalWord, semWaitWord, wp_deviceId]
  iintro ⟨#HP, Harr0, Hsl01, Hlv01, Harr1, Hsl11, Hlv11, Hsl00, Hsl10, Hat, Hk⟩
  iapply (wp_startCopy m c false 1 (head_eq (a := false) (h := 1) (off1_eq c 1) _ _ _) rfl rfl) $$ [Harr0 Hsl01 Hlv01]
  · isplitl [Harr0]; · iexact Harr0
    isplitl [Hsl01]; · iexact Hsl01
    iexact Hlv01
  iintro Hfl0
  iapply (wp_startCopy m c true 1 (head_eq (a := true) (h := 1) (off1_eq c 1) _ _ _) rfl rfl) $$ [Harr1 Hsl11 Hlv11]
  · isplitl [Harr1]; · iexact Harr1
    isplitl [Hsl11]; · iexact Hsl11
    iexact Hlv11
  iintro Hfl1
  iapply (wp_loadSlot m c false 0 rfl) $$ Hsl00
  iintro Hsl00
  iapply (wp_loadSlot m c true 0 rfl) $$ Hsl10
  iintro Hsl10
  iapply (wp_loadAtAny m c 0) $$ Hat
  iintro %v Hat
  iapply (wp_storeAt m c 0 0 1 rfl rfl rfl rfl) $$ Hat
  iintro Hat
  iapply (WP_ret c _ Q)
  iapply Hk
  isplitl [Hfl0]; · iexact Hfl0
  isplitl [Hfl1]; · iexact Hfl1
  isplitl [Hsl00]; · iexact Hsl00
  isplitl [Hsl10]; · iexact Hsl10
  iexact Hat

/-- Head 1's copies awaited, the copy of head 2's keys started. -/
theorem part5_run (c : Dev nD) {v51 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (PUnit) → sProp 𝕄} :
    iprop(PC m K
      ∗ flP m false c 1
      ∗ owX c 0
      ∗ flP m true c 1
      ∗ slotV m false c 0
      ∗ locV (F := F) false c 0
      ∗ ((owX c 0 ∗ slotV m false c 1 ∗ locV (F := F) false c 1 ∗ arrP m true c ∗ slotV m true c 1 ∗ locV (F := F) true c 1 ∗ flP m false c 2) -∗ Q PUnit.unit))
    ⊢ WP c (k0_part5 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v51) Q := by
  rw [k0_part5_eq_skeleton]
  unfold k0_part5_skel
  simp only [Prog.lift, Prog.bind_op, Prog.bind_ret, Prog.pure_eq_ret, semSignalWord, semWaitWord, wp_deviceId]
  iintro ⟨#HP, Hfl0, How, Hfl1, Hsl00, Hlv00, Hk⟩
  iapply (wp_waitCopy m K c false 1 rfl rfl) $$ [Hfl0 How]
  · isplitr; · iexact HP
    isplitl [Hfl0]; · iexact Hfl0
    iexact How
  iintro ⟨Harr0, Hsl01, Hlv01, How⟩
  iapply (wp_waitCopy m K c true 1 rfl rfl) $$ [Hfl1 How]
  · isplitr; · iexact HP
    isplitl [Hfl1]; · iexact Hfl1
    iexact How
  iintro ⟨Harr1, Hsl11, Hlv11, How⟩
  ihave Hsl00 := (slot_any m c false 0) $$ Hsl00
  iapply (wp_startCopy m c false 2 (head_eq (a := false) (h := 2) (off1_eq c 2) _ _ _) rfl rfl) $$ [Harr0 Hsl00 Hlv00]
  · isplitl [Harr0]; · iexact Harr0
    isplitl [Hsl00]; · iexact Hsl00
    iexact Hlv00
  iintro Hfl0
  iapply (WP_ret c _ Q)
  iapply Hk
  isplitl [How]; · iexact How
  isplitl [Hsl01]; · iexact Hsl01
  isplitl [Hlv01]; · iexact Hlv01
  isplitl [Harr1]; · iexact Harr1
  isplitl [Hsl11]; · iexact Hsl11
  isplitl [Hlv11]; · iexact Hlv11
  iexact Hfl0

/-- The copy of head 2's values started, head 1's rows stored, the copy of head 2's keys awaited. -/
theorem part6_run (c : Dev nD) {v51 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (PUnit) → sProp 𝕄} :
    iprop(PC m K
      ∗ arrP m true c
      ∗ slotV m true c 0
      ∗ locV (F := F) true c 0
      ∗ slotV m false c 1
      ∗ slotV m true c 1
      ∗ atP m c 1
      ∗ flP m false c 2
      ∗ owX c 0
      ∗ ((flP m true c 2 ∗ slotV m false c 1 ∗ slotV m true c 1 ∗ atP m c 2 ∗ owX c 0 ∗ arrP m false c ∗ slotV m false c 2 ∗ locV (F := F) false c 0) -∗ Q PUnit.unit))
    ⊢ WP c (k0_part6 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v51 (qC m c)) Q := by
  rw [k0_part6_eq_skeleton]
  unfold k0_part6_skel
  simp only [Prog.lift, Prog.bind_op, Prog.bind_ret, Prog.pure_eq_ret, semSignalWord, semWaitWord, wp_deviceId]
  iintro ⟨#HP, Harr1, Hsl10, Hlv10, Hsl01, Hsl11, Hat, Hfl0, How, Hk⟩
  ihave Hsl10 := (slot_any m c true 0) $$ Hsl10
  iapply (wp_startCopy m c true 2 (head_eq (a := true) (h := 2) (off1_eq c 2) _ _ _) rfl rfl) $$ [Harr1 Hsl10 Hlv10]
  · isplitl [Harr1]; · iexact Harr1
    isplitl [Hsl10]; · iexact Hsl10
    iexact Hlv10
  iintro Hfl1
  iapply (wp_loadSlot m c false 1 rfl) $$ Hsl01
  iintro Hsl01
  iapply (wp_loadSlot m c true 1 rfl) $$ Hsl11
  iintro Hsl11
  iapply (wp_loadAtAny m c 1) $$ Hat
  iintro %v Hat
  iapply (wp_storeAt m c 1 1 2 rfl rfl rfl rfl) $$ Hat
  iintro Hat
  iapply (wp_waitCopy m K c false 2 rfl rfl) $$ [Hfl0 How]
  · isplitr; · iexact HP
    isplitl [Hfl0]; · iexact Hfl0
    iexact How
  iintro ⟨Harr0, Hsl00, Hlv00, How⟩
  iapply (WP_ret c _ Q)
  iapply Hk
  isplitl [Hfl1]; · iexact Hfl1
  isplitl [Hsl01]; · iexact Hsl01
  isplitl [Hsl11]; · iexact Hsl11
  isplitl [Hat]; · iexact Hat
  isplitl [How]; · iexact How
  isplitl [Harr0]; · iexact Harr0
  isplitl [Hsl00]; · iexact Hsl00
  iexact Hlv00

/-- The copy of head 2's values awaited, head 3's copies started, head 2's keys loaded. -/
theorem part7_run (c : Dev nD) {v51 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v195 : FVec F S512x2048 .f32), FVec F S512x1 .f32) → sProp 𝕄} :
    iprop(PC m K
      ∗ flP m true c 2
      ∗ owX c 0
      ∗ arrP m false c
      ∗ slotV m false c 1
      ∗ locV (F := F) false c 1
      ∗ slotV m true c 1
      ∗ locV (F := F) true c 1
      ∗ slotV m false c 2
      ∗ ((owX c 0 ∗ slotV m true c 2 ∗ locV (F := F) true c 0 ∗ flP m false c 3 ∗ flP m true c 3 ∗ slotV m false c 2) -∗ Q ⟨k0_pay5 (qC m c) (hdC m false c 2), k0_pay6 (qC m c) (hdC m false c 2)⟩))
    ⊢ WP c (k0_part7 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v51 (qC m c)) Q := by
  rw [k0_part7_eq_skeleton]
  unfold k0_part7_skel
  simp only [Prog.lift, Prog.bind_op, Prog.bind_ret, Prog.pure_eq_ret, semSignalWord, semWaitWord, wp_deviceId]
  iintro ⟨#HP, Hfl1, How, Harr0, Hsl01, Hlv01, Hsl11, Hlv11, Hsl00, Hk⟩
  iapply (wp_waitCopy m K c true 2 rfl rfl) $$ [Hfl1 How]
  · isplitr; · iexact HP
    isplitl [Hfl1]; · iexact Hfl1
    iexact How
  iintro ⟨Harr1, Hsl10, Hlv10, How⟩
  ihave Hsl01 := (slot_any m c false 1) $$ Hsl01
  iapply (wp_startCopy m c false 3 (head_eq (a := false) (h := 3) (off1_eq c 3) _ _ _) rfl rfl) $$ [Harr0 Hsl01 Hlv01]
  · isplitl [Harr0]; · iexact Harr0
    isplitl [Hsl01]; · iexact Hsl01
    iexact Hlv01
  iintro Hfl0
  ihave Hsl11 := (slot_any m c true 1) $$ Hsl11
  iapply (wp_startCopy m c true 3 (head_eq (a := true) (h := 3) (off1_eq c 3) _ _ _) rfl rfl) $$ [Harr1 Hsl11 Hlv11]
  · isplitl [Harr1]; · iexact Harr1
    isplitl [Hsl11]; · iexact Hsl11
    iexact Hlv11
  iintro Hfl1
  iapply (wp_loadSlot m c false 2 rfl) $$ Hsl00
  iintro Hsl00
  iapply (WP_ret c _ Q)
  iapply Hk
  isplitl [How]; · iexact How
  isplitl [Hsl10]; · iexact Hsl10
  isplitl [Hlv10]; · iexact Hlv10
  isplitl [Hfl0]; · iexact Hfl0
  isplitl [Hfl1]; · iexact Hfl1
  iexact Hsl00

/-- Head 2's rows stored, head 3's copies awaited. -/
theorem part8_run (c : Dev nD) {v51 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (PUnit) → sProp 𝕄} :
    iprop(PC m K
      ∗ slotV m true c 2
      ∗ atP m c 2
      ∗ flP m false c 3
      ∗ owX c 0
      ∗ flP m true c 3
      ∗ ((slotV m true c 2 ∗ atP m c 3 ∗ owX c 0 ∗ arrP m false c ∗ slotV m false c 3 ∗ locV (F := F) false c 1 ∗ arrP m true c ∗ slotV m true c 3 ∗ locV (F := F) true c 1) -∗ Q PUnit.unit))
    ⊢ WP c (k0_part8 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v51 (k0_pay5 (qC m c) (hdC m false c 2)) (k0_pay6 (qC m c) (hdC m false c 2))) Q := by
  rw [k0_part8_eq_skeleton]
  unfold k0_part8_skel
  simp only [Prog.lift, Prog.bind_op, Prog.bind_ret, Prog.pure_eq_ret, semSignalWord, semWaitWord, wp_deviceId]
  iintro ⟨#HP, Hsl10, Hat, Hfl0, How, Hfl1, Hk⟩
  iapply (wp_loadSlot m c true 2 rfl) $$ Hsl10
  iintro Hsl10
  iapply (wp_loadAtAny m c 2) $$ Hat
  iintro %v Hat
  iapply (wp_storeAt m c 2 2 3 rfl rfl rfl rfl) $$ Hat
  iintro Hat
  iapply (wp_waitCopy m K c false 3 rfl rfl) $$ [Hfl0 How]
  · isplitr; · iexact HP
    isplitl [Hfl0]; · iexact Hfl0
    iexact How
  iintro ⟨Harr0, Hsl01, Hlv01, How⟩
  iapply (wp_waitCopy m K c true 3 rfl rfl) $$ [Hfl1 How]
  · isplitr; · iexact HP
    isplitl [Hfl1]; · iexact Hfl1
    iexact How
  iintro ⟨Harr1, Hsl11, Hlv11, How⟩
  iapply (WP_ret c _ Q)
  iapply Hk
  isplitl [Hsl10]; · iexact Hsl10
  isplitl [Hat]; · iexact Hat
  isplitl [How]; · iexact How
  isplitl [Harr0]; · iexact Harr0
  isplitl [Hsl01]; · iexact Hsl01
  isplitl [Hlv01]; · iexact Hlv01
  isplitl [Harr1]; · iexact Harr1
  isplitl [Hsl11]; · iexact Hsl11
  iexact Hlv11

/-- Head 4's copies started, head 3's rows stored. -/
theorem part9_run (c : Dev nD) {v51 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (PUnit) → sProp 𝕄} :
    iprop(PC m K
      ∗ arrP m false c
      ∗ slotV m false c 2
      ∗ locV (F := F) false c 0
      ∗ arrP m true c
      ∗ slotV m true c 2
      ∗ locV (F := F) true c 0
      ∗ slotV m false c 3
      ∗ slotV m true c 3
      ∗ atP m c 3
      ∗ ((flP m false c 4 ∗ flP m true c 4 ∗ slotV m false c 3 ∗ slotV m true c 3 ∗ atP m c 4) -∗ Q PUnit.unit))
    ⊢ WP c (k0_part9 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v51 (qC m c)) Q := by
  rw [k0_part9_eq_skeleton]
  unfold k0_part9_skel
  simp only [Prog.lift, Prog.bind_op, Prog.bind_ret, Prog.pure_eq_ret, semSignalWord, semWaitWord, wp_deviceId]
  iintro ⟨#HP, Harr0, Hsl00, Hlv00, Harr1, Hsl10, Hlv10, Hsl01, Hsl11, Hat, Hk⟩
  ihave Hsl00 := (slot_any m c false 2) $$ Hsl00
  iapply (wp_startCopy m c false 4 (head_eq (a := false) (h := 4) (off1_eq c 4) _ _ _) rfl rfl) $$ [Harr0 Hsl00 Hlv00]
  · isplitl [Harr0]; · iexact Harr0
    isplitl [Hsl00]; · iexact Hsl00
    iexact Hlv00
  iintro Hfl0
  ihave Hsl10 := (slot_any m c true 2) $$ Hsl10
  iapply (wp_startCopy m c true 4 (head_eq (a := true) (h := 4) (off1_eq c 4) _ _ _) rfl rfl) $$ [Harr1 Hsl10 Hlv10]
  · isplitl [Harr1]; · iexact Harr1
    isplitl [Hsl10]; · iexact Hsl10
    iexact Hlv10
  iintro Hfl1
  iapply (wp_loadSlot m c false 3 rfl) $$ Hsl01
  iintro Hsl01
  iapply (wp_loadSlot m c true 3 rfl) $$ Hsl11
  iintro Hsl11
  iapply (wp_loadAtAny m c 3) $$ Hat
  iintro %v Hat
  iapply (wp_storeAt m c 3 3 4 rfl rfl rfl rfl) $$ Hat
  iintro Hat
  iapply (WP_ret c _ Q)
  iapply Hk
  isplitl [Hfl0]; · iexact Hfl0
  isplitl [Hfl1]; · iexact Hfl1
  isplitl [Hsl01]; · iexact Hsl01
  isplitl [Hsl11]; · iexact Hsl11
  iexact Hat

/-- Head 4's copies awaited, the copy of head 5's keys started. -/
theorem part10_run (c : Dev nD) {v51 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (PUnit) → sProp 𝕄} :
    iprop(PC m K
      ∗ flP m false c 4
      ∗ owX c 0
      ∗ flP m true c 4
      ∗ slotV m false c 3
      ∗ locV (F := F) false c 1
      ∗ ((owX c 0 ∗ slotV m false c 4 ∗ locV (F := F) false c 0 ∗ arrP m true c ∗ slotV m true c 4 ∗ locV (F := F) true c 0 ∗ flP m false c 5) -∗ Q PUnit.unit))
    ⊢ WP c (k0_part10 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v51) Q := by
  rw [k0_part10_eq_skeleton]
  unfold k0_part10_skel
  simp only [Prog.lift, Prog.bind_op, Prog.bind_ret, Prog.pure_eq_ret, semSignalWord, semWaitWord, wp_deviceId]
  iintro ⟨#HP, Hfl0, How, Hfl1, Hsl01, Hlv01, Hk⟩
  iapply (wp_waitCopy m K c false 4 rfl rfl) $$ [Hfl0 How]
  · isplitr; · iexact HP
    isplitl [Hfl0]; · iexact Hfl0
    iexact How
  iintro ⟨Harr0, Hsl00, Hlv00, How⟩
  iapply (wp_waitCopy m K c true 4 rfl rfl) $$ [Hfl1 How]
  · isplitr; · iexact HP
    isplitl [Hfl1]; · iexact Hfl1
    iexact How
  iintro ⟨Harr1, Hsl10, Hlv10, How⟩
  ihave Hsl01 := (slot_any m c false 3) $$ Hsl01
  iapply (wp_startCopy m c false 5 (head_eq (a := false) (h := 5) (off1_eq c 5) _ _ _) rfl rfl) $$ [Harr0 Hsl01 Hlv01]
  · isplitl [Harr0]; · iexact Harr0
    isplitl [Hsl01]; · iexact Hsl01
    iexact Hlv01
  iintro Hfl0
  iapply (WP_ret c _ Q)
  iapply Hk
  isplitl [How]; · iexact How
  isplitl [Hsl00]; · iexact Hsl00
  isplitl [Hlv00]; · iexact Hlv00
  isplitl [Harr1]; · iexact Harr1
  isplitl [Hsl10]; · iexact Hsl10
  isplitl [Hlv10]; · iexact Hlv10
  iexact Hfl0

/-- The copy of head 5's values started, head 4's rows stored, the copy of head 5's keys awaited. -/
theorem part11_run (c : Dev nD) {v51 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (PUnit) → sProp 𝕄} :
    iprop(PC m K
      ∗ arrP m true c
      ∗ slotV m true c 3
      ∗ locV (F := F) true c 1
      ∗ slotV m false c 4
      ∗ slotV m true c 4
      ∗ atP m c 4
      ∗ flP m false c 5
      ∗ owX c 0
      ∗ ((flP m true c 5 ∗ slotV m false c 4 ∗ slotV m true c 4 ∗ atP m c 5 ∗ owX c 0 ∗ arrP m false c ∗ slotV m false c 5 ∗ locV (F := F) false c 1) -∗ Q PUnit.unit))
    ⊢ WP c (k0_part11 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v51 (qC m c)) Q := by
  rw [k0_part11_eq_skeleton]
  unfold k0_part11_skel
  simp only [Prog.lift, Prog.bind_op, Prog.bind_ret, Prog.pure_eq_ret, semSignalWord, semWaitWord, wp_deviceId]
  iintro ⟨#HP, Harr1, Hsl11, Hlv11, Hsl00, Hsl10, Hat, Hfl0, How, Hk⟩
  ihave Hsl11 := (slot_any m c true 3) $$ Hsl11
  iapply (wp_startCopy m c true 5 (head_eq (a := true) (h := 5) (off1_eq c 5) _ _ _) rfl rfl) $$ [Harr1 Hsl11 Hlv11]
  · isplitl [Harr1]; · iexact Harr1
    isplitl [Hsl11]; · iexact Hsl11
    iexact Hlv11
  iintro Hfl1
  iapply (wp_loadSlot m c false 4 rfl) $$ Hsl00
  iintro Hsl00
  iapply (wp_loadSlot m c true 4 rfl) $$ Hsl10
  iintro Hsl10
  iapply (wp_loadAtAny m c 4) $$ Hat
  iintro %v Hat
  iapply (wp_storeAt m c 4 4 5 rfl rfl rfl rfl) $$ Hat
  iintro Hat
  iapply (wp_waitCopy m K c false 5 rfl rfl) $$ [Hfl0 How]
  · isplitr; · iexact HP
    isplitl [Hfl0]; · iexact Hfl0
    iexact How
  iintro ⟨Harr0, Hsl01, Hlv01, How⟩
  iapply (WP_ret c _ Q)
  iapply Hk
  isplitl [Hfl1]; · iexact Hfl1
  isplitl [Hsl00]; · iexact Hsl00
  isplitl [Hsl10]; · iexact Hsl10
  isplitl [Hat]; · iexact Hat
  isplitl [How]; · iexact How
  isplitl [Harr0]; · iexact Harr0
  isplitl [Hsl01]; · iexact Hsl01
  iexact Hlv01

/-- The copy of head 5's values awaited, head 6's copies started, head 5's keys loaded. -/
theorem part12_run (c : Dev nD) {v51 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v330 : FVec F S512x2048 .f32), FVec F S512x1 .f32) → sProp 𝕄} :
    iprop(PC m K
      ∗ flP m true c 5
      ∗ owX c 0
      ∗ arrP m false c
      ∗ slotV m false c 4
      ∗ locV (F := F) false c 0
      ∗ slotV m true c 4
      ∗ locV (F := F) true c 0
      ∗ slotV m false c 5
      ∗ ((owX c 0 ∗ slotV m true c 5 ∗ locV (F := F) true c 1 ∗ flP m false c 6 ∗ flP m true c 6 ∗ slotV m false c 5) -∗ Q ⟨k0_pay10 (qC m c) (hdC m false c 5), k0_pay11 (qC m c) (hdC m false c 5)⟩))
    ⊢ WP c (k0_part12 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v51 (qC m c)) Q := by
  rw [k0_part12_eq_skeleton]
  unfold k0_part12_skel
  simp only [Prog.lift, Prog.bind_op, Prog.bind_ret, Prog.pure_eq_ret, semSignalWord, semWaitWord, wp_deviceId]
  iintro ⟨#HP, Hfl1, How, Harr0, Hsl00, Hlv00, Hsl10, Hlv10, Hsl01, Hk⟩
  iapply (wp_waitCopy m K c true 5 rfl rfl) $$ [Hfl1 How]
  · isplitr; · iexact HP
    isplitl [Hfl1]; · iexact Hfl1
    iexact How
  iintro ⟨Harr1, Hsl11, Hlv11, How⟩
  ihave Hsl00 := (slot_any m c false 4) $$ Hsl00
  iapply (wp_startCopy m c false 6 (head_eq (a := false) (h := 6) (off1_eq c 6) _ _ _) rfl rfl) $$ [Harr0 Hsl00 Hlv00]
  · isplitl [Harr0]; · iexact Harr0
    isplitl [Hsl00]; · iexact Hsl00
    iexact Hlv00
  iintro Hfl0
  ihave Hsl10 := (slot_any m c true 4) $$ Hsl10
  iapply (wp_startCopy m c true 6 (head_eq (a := true) (h := 6) (off1_eq c 6) _ _ _) rfl rfl) $$ [Harr1 Hsl10 Hlv10]
  · isplitl [Harr1]; · iexact Harr1
    isplitl [Hsl10]; · iexact Hsl10
    iexact Hlv10
  iintro Hfl1
  iapply (wp_loadSlot m c false 5 rfl) $$ Hsl01
  iintro Hsl01
  iapply (WP_ret c _ Q)
  iapply Hk
  isplitl [How]; · iexact How
  isplitl [Hsl11]; · iexact Hsl11
  isplitl [Hlv11]; · iexact Hlv11
  isplitl [Hfl0]; · iexact Hfl0
  isplitl [Hfl1]; · iexact Hfl1
  iexact Hsl01

/-- Head 5's rows stored, head 6's copies awaited. -/
theorem part13_run (c : Dev nD) {v51 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (PUnit) → sProp 𝕄} :
    iprop(PC m K
      ∗ slotV m true c 5
      ∗ atP m c 5
      ∗ flP m false c 6
      ∗ owX c 0
      ∗ flP m true c 6
      ∗ ((slotV m true c 5 ∗ atP m c 6 ∗ owX c 0 ∗ arrP m false c ∗ slotV m false c 6 ∗ locV (F := F) false c 0 ∗ arrP m true c ∗ slotV m true c 6 ∗ locV (F := F) true c 0) -∗ Q PUnit.unit))
    ⊢ WP c (k0_part13 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v51 (k0_pay10 (qC m c) (hdC m false c 5)) (k0_pay11 (qC m c) (hdC m false c 5))) Q := by
  rw [k0_part13_eq_skeleton]
  unfold k0_part13_skel
  simp only [Prog.lift, Prog.bind_op, Prog.bind_ret, Prog.pure_eq_ret, semSignalWord, semWaitWord, wp_deviceId]
  iintro ⟨#HP, Hsl11, Hat, Hfl0, How, Hfl1, Hk⟩
  iapply (wp_loadSlot m c true 5 rfl) $$ Hsl11
  iintro Hsl11
  iapply (wp_loadAtAny m c 5) $$ Hat
  iintro %v Hat
  iapply (wp_storeAt m c 5 5 6 rfl rfl rfl rfl) $$ Hat
  iintro Hat
  iapply (wp_waitCopy m K c false 6 rfl rfl) $$ [Hfl0 How]
  · isplitr; · iexact HP
    isplitl [Hfl0]; · iexact Hfl0
    iexact How
  iintro ⟨Harr0, Hsl00, Hlv00, How⟩
  iapply (wp_waitCopy m K c true 6 rfl rfl) $$ [Hfl1 How]
  · isplitr; · iexact HP
    isplitl [Hfl1]; · iexact Hfl1
    iexact How
  iintro ⟨Harr1, Hsl10, Hlv10, How⟩
  iapply (WP_ret c _ Q)
  iapply Hk
  isplitl [Hsl11]; · iexact Hsl11
  isplitl [Hat]; · iexact Hat
  isplitl [How]; · iexact How
  isplitl [Harr0]; · iexact Harr0
  isplitl [Hsl00]; · iexact Hsl00
  isplitl [Hlv00]; · iexact Hlv00
  isplitl [Harr1]; · iexact Harr1
  isplitl [Hsl10]; · iexact Hsl10
  iexact Hlv10

/-- Head 7's copies started, head 6's rows stored. -/
theorem part14_run (c : Dev nD) {v51 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (PUnit) → sProp 𝕄} :
    iprop(PC m K
      ∗ arrP m false c
      ∗ slotV m false c 5
      ∗ locV (F := F) false c 1
      ∗ arrP m true c
      ∗ slotV m true c 5
      ∗ locV (F := F) true c 1
      ∗ slotV m false c 6
      ∗ slotV m true c 6
      ∗ atP m c 6
      ∗ ((flP m false c 7 ∗ flP m true c 7 ∗ slotV m false c 6 ∗ slotV m true c 6 ∗ atP m c 7) -∗ Q PUnit.unit))
    ⊢ WP c (k0_part14 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v51 (qC m c)) Q := by
  rw [k0_part14_eq_skeleton]
  unfold k0_part14_skel
  simp only [Prog.lift, Prog.bind_op, Prog.bind_ret, Prog.pure_eq_ret, semSignalWord, semWaitWord, wp_deviceId]
  iintro ⟨#HP, Harr0, Hsl01, Hlv01, Harr1, Hsl11, Hlv11, Hsl00, Hsl10, Hat, Hk⟩
  ihave Hsl01 := (slot_any m c false 5) $$ Hsl01
  iapply (wp_startCopy m c false 7 (head_eq (a := false) (h := 7) (off1_eq c 7) _ _ _) rfl rfl) $$ [Harr0 Hsl01 Hlv01]
  · isplitl [Harr0]; · iexact Harr0
    isplitl [Hsl01]; · iexact Hsl01
    iexact Hlv01
  iintro Hfl0
  ihave Hsl11 := (slot_any m c true 5) $$ Hsl11
  iapply (wp_startCopy m c true 7 (head_eq (a := true) (h := 7) (off1_eq c 7) _ _ _) rfl rfl) $$ [Harr1 Hsl11 Hlv11]
  · isplitl [Harr1]; · iexact Harr1
    isplitl [Hsl11]; · iexact Hsl11
    iexact Hlv11
  iintro Hfl1
  iapply (wp_loadSlot m c false 6 rfl) $$ Hsl00
  iintro Hsl00
  iapply (wp_loadSlot m c true 6 rfl) $$ Hsl10
  iintro Hsl10
  iapply (wp_loadAtAny m c 6) $$ Hat
  iintro %v Hat
  iapply (wp_storeAt m c 6 6 7 rfl rfl rfl rfl) $$ Hat
  iintro Hat
  iapply (WP_ret c _ Q)
  iapply Hk
  isplitl [Hfl0]; · iexact Hfl0
  isplitl [Hfl1]; · iexact Hfl1
  isplitl [Hsl00]; · iexact Hsl00
  isplitl [Hsl10]; · iexact Hsl10
  iexact Hat

/-- Head 7's copies awaited, its keys and values loaded. -/
theorem part15_run (c : Dev nD)
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (FVec F S512x128 .f32) → sProp 𝕄} :
    iprop(PC m K
      ∗ flP m false c 7
      ∗ owX c 0
      ∗ flP m true c 7
      ∗ atP m c 7
      ∗ ((owX c 0 ∗ arrP m false c ∗ slotV m false c 7 ∗ locV (F := F) false c 1 ∗ arrP m true c ∗ slotV m true c 7 ∗ locV (F := F) true c 1 ∗ atP m c 7) -∗ Q (k0_pay14 (qC m c) (hdC m false c 7) (hdC m true c 7))))
    ⊢ WP c (k0_part15 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c (qC m c)) Q := by
  rw [k0_part15_eq_skeleton]
  unfold k0_part15_skel
  simp only [Prog.lift, Prog.bind_op, Prog.bind_ret, Prog.pure_eq_ret, semSignalWord, semWaitWord, wp_deviceId]
  iintro ⟨#HP, Hfl0, How, Hfl1, Hat, Hk⟩
  iapply (wp_waitCopy m K c false 7 rfl rfl) $$ [Hfl0 How]
  · isplitr; · iexact HP
    isplitl [Hfl0]; · iexact Hfl0
    iexact How
  iintro ⟨Harr0, Hsl01, Hlv01, How⟩
  iapply (wp_waitCopy m K c true 7 rfl rfl) $$ [Hfl1 How]
  · isplitr; · iexact HP
    isplitl [Hfl1]; · iexact Hfl1
    iexact How
  iintro ⟨Harr1, Hsl11, Hlv11, How⟩
  iapply (wp_loadSlot m c false 7 rfl) $$ Hsl01
  iintro Hsl01
  iapply (wp_loadSlot m c true 7 rfl) $$ Hsl11
  iintro Hsl11
  iapply (wp_loadAtAny m c 7) $$ Hat
  iintro %v Hat
  iapply (WP_ret c _ Q)
  iapply Hk
  isplitl [How]; · iexact How
  isplitl [Harr0]; · iexact Harr0
  isplitl [Hsl01]; · iexact Hsl01
  isplitl [Hlv01]; · iexact Hlv01
  isplitl [Harr1]; · iexact Harr1
  isplitl [Hsl11]; · iexact Hsl11
  isplitl [Hlv11]; · iexact Hlv11
  iexact Hat

/-- Head 7's rows stored, the entry barrier awaited; band 0's first half of the product stored and sent in round 0. -/
theorem part16_run (c : Dev nD) {f : OutC F} {v2 : BitVec 32} {v21 : BitVec 32} {v39 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v419 : BitVec 32) (v422 : BitVec 32) (v442 : BitVec 32) (v443 : BitVec 1) (v444 : BitVec 32) (c0_i32_445 : BitVec 32), BitVec 32) → sProp 𝕄} :
    iprop(PC m K
      ∗ atP m c 7
      ∗ atPos ER (barCell c) 0 ∅ 0
      ∗ cred (tallyAt (barCell c) () 3)
      ∗ owX c 0
      ∗ (bigSep Finset.univ fun k : Msg => pk (F := F) c k)
      ∗ woP m c
      ∗ outP c (oS c 0 0) f
      ∗ (∀ (w0 : BitVec 32) (w1 : BitVec 32) (w2 : BitVec 32) (w3 : BitVec 1) (w4 : BitVec 32) (w5 : BitVec 32) (w6 : BitVec 32), (atV m c ∗ semVal (barCell c) 0 ∗ owX c 1 ∗ pk1 (F := F) c 0 0 ∗ pk0 c 1 0 ∗ pk0 c 2 0 ∗ pk0 c 0 1 ∗ pk0 c 1 1 ∗ pk0 c 2 1 ∗ pk0 c 0 2 ∗ pk0 c 1 2 ∗ pk0 c 2 2 ∗ pk0 c 0 3 ∗ pk0 c 1 3 ∗ pk0 c 2 3 ∗ pk0 c 0 4 ∗ pk0 c 1 4 ∗ pk0 c 2 4 ∗ pk0 c 0 5 ∗ pk0 c 1 5 ∗ pk0 c 2 5 ∗ woP m c) -∗ Q ⟨w0, w1, w2, w3, w4, w5, w6⟩))
    ⊢ WP c (k0_part16 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v2 v21 v39 (SemArray.scalar (sig.barrier 0 rfl)) (k0_pay14 (qC m c) (hdC m false c 7) (hdC m true c 7))) Q := by
  rw [k0_part16_eq_skeleton]
  unfold k0_part16_skel
  simp only [Prog.lift, Prog.bind_op, Prog.bind_ret, Prog.pure_eq_ret, semSignalWord, semWaitWord, wp_deviceId]
  iintro ⟨#HP, Hat, Hbar, Hbcr, How, Hpks, HwoP, HS00, Hk⟩
  iapply (wp_storeAt m c 7 7 8 rfl rfl rfl rfl) $$ Hat
  iintro Hat
  ihave Hat := (at_full m c) $$ Hat
  iapply (wp_waitBar m K c rfl rfl) $$ [Hbar Hbcr How]
  · isplitr; · iexact HP
    isplitl [Hbar]; · iexact Hbar
    isplitl [Hbcr]; · iexact Hbcr
    iexact How
  iintro ⟨Hbar, Hce, How⟩
  ihave Hp0 : iprop((bigSep Finset.univ fun k : Msg => pk (F := F) c k) ∗ bigSep Finset.univ fun k : Msg => commE (F := F) (prt c k.1 k.2) k.1 k.2) $$ [Hpks Hce]
  · isplitl [Hpks]; · iexact Hpks
    iexact Hce
  ihave Hp0 := (Entails.of_eq ((packs c).trans (bigSep_msgs _))) $$ Hp0
  icases Hp0 with ⟨Hp00, Hp10, Hp20, Hp01, Hp11, Hp21, Hp02, Hp12, Hp22, Hp03, Hp13, Hp23, Hp04, Hp14, Hp24, Hp05, Hp15, Hp25⟩
  iapply (wp_loadRows m c 0 false (off2a_eq c)) $$ Hat
  iintro Hat
  iapply (wp_loadWo m c) $$ HwoP
  iintro HwoP
  iapply (wp_loadO c c 0 0 (off3_eq c) f) $$ HS00
  iintro HS00
  iapply (wp_storeO c c 0 0 (off3_eq c) f (msgC m c 0 0) (d_send' m c 0)) $$ HS00
  iintro HS00
  iapply (wp_send m K c _ 0 0 (dev4_eq c) 0 rfl (src_eq (off4_eq c) _ _ _) rfl rfl rfl) $$ [Hp00 HS00 How]
  · isplitr; · iexact HP
    isplitl [Hp00]; · iexact Hp00
    isplitl [HS00]; · iexact HS00
    iexact How
  iintro ⟨Hp00, How⟩
  iapply (WP_ret c _ Q)
  iapply Hk
  isplitl [Hat]; · iexact Hat
  isplitl [Hbar]; · iexact Hbar
  isplitl [How]; · iexact How
  isplitl [Hp00]; · iexact Hp00
  isplitl [Hp10]; · iexact Hp10
  isplitl [Hp20]; · iexact Hp20
  isplitl [Hp01]; · iexact Hp01
  isplitl [Hp11]; · iexact Hp11
  isplitl [Hp21]; · iexact Hp21
  isplitl [Hp02]; · iexact Hp02
  isplitl [Hp12]; · iexact Hp12
  isplitl [Hp22]; · iexact Hp22
  isplitl [Hp03]; · iexact Hp03
  isplitl [Hp13]; · iexact Hp13
  isplitl [Hp23]; · iexact Hp23
  isplitl [Hp04]; · iexact Hp04
  isplitl [Hp14]; · iexact Hp14
  isplitl [Hp24]; · iexact Hp24
  isplitl [Hp05]; · iexact Hp05
  isplitl [Hp15]; · iexact Hp15
  isplitl [Hp25]; · iexact Hp25
  iexact HwoP

/-- Band 1's first half stored and sent; band 2's computed. -/
theorem part17_run (c : Dev nD) {f : OutC F} {v2 : BitVec 32} {v40 : BitVec 32} {v442 : BitVec 32} {v443 : BitVec 1} {v444 : BitVec 32} {c0_i32_445 : BitVec 32} {c4_i32_446 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v445 : BitVec 32) (v465 : BitVec 32) (v468 : BitVec 32), FVec F S256x256 .f32) → sProp 𝕄} :
    iprop(PC m K
      ∗ atV m c
      ∗ woP m c
      ∗ outP c (oS c 1 0) f
      ∗ pk0 c 1 0
      ∗ owX c 1
      ∗ (∀ (w0 : BitVec 32) (w1 : BitVec 32) (w2 : BitVec 32), (atV m c ∗ woP m c ∗ pk1 (F := F) c 1 0 ∗ owX c 2) -∗ Q ⟨w0, w1, w2, k0_pay18 (rowsC m c 2 false) (woM.view.readAt (Elt F) (Rect.unit (s := S1024x1024) ![0, 768] S1024x256.size inb_S1024x1024_S1024x256_0_768).toLoadRect (woC m c))⟩))
    ⊢ WP c (k0_part17 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v2 v40 v442 v443 v444 c0_i32_445 c4_i32_446) Q := by
  rw [k0_part17_eq_skeleton]
  unfold k0_part17_skel
  simp only [Prog.lift, Prog.bind_op, Prog.bind_ret, Prog.pure_eq_ret, semSignalWord, semWaitWord, wp_deviceId]
  iintro ⟨#HP, Hat, HwoP, HS10, Hp10, How, Hk⟩
  iapply (wp_loadRows m c 1 false (off2b_eq c)) $$ Hat
  iintro Hat
  iapply (wp_loadWo m c) $$ HwoP
  iintro HwoP
  iapply (wp_loadO c c 1 0 (off5_eq c) f) $$ HS10
  iintro HS10
  iapply (wp_storeO c c 1 0 (off5_eq c) f (msgC m c 1 0) (d_send' m c 1)) $$ HS10
  iintro HS10
  iapply (wp_send m K c _ 1 0 (dev5_eq c) 1 rfl (src_eq (off6_eq c) _ _ _) rfl rfl rfl) $$ [Hp10 HS10 How]
  · isplitr; · iexact HP
    isplitl [Hp10]; · iexact Hp10
    isplitl [HS10]; · iexact HS10
    iexact How
  iintro ⟨Hp10, How⟩
  iapply (wp_loadRows m c 2 false (off7a_eq c)) $$ Hat
  iintro Hat
  iapply (wp_loadWo m c) $$ HwoP
  iintro HwoP
  iapply (WP_ret c _ Q)
  iapply Hk
  isplitl [Hat]; · iexact Hat
  isplitl [HwoP]; · iexact HwoP
  isplitl [Hp10]; · iexact Hp10
  iexact How

/-- Band 2's first half stored and sent; the halves kept of bands 0 and 1 stored. -/
theorem part18_run (c : Dev nD) {f : OutC F} {v422 : BitVec 32} {v445 : BitVec 32} {v465 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (BitVec 32) → sProp 𝕄} :
    iprop(PC m K
      ∗ outP c (oS c 2 0) f
      ∗ pk0 c 2 0
      ∗ owX c 2
      ∗ atV m c
      ∗ woP m c
      ∗ outP c (oS c 0 5) f
      ∗ outP c (oS c 1 5) f
      ∗ (∀ (w0 : (BitVec 32)), (pk1 (F := F) c 2 0 ∗ owX c 3 ∗ atV m c ∗ woP m c ∗ outP c (oS c 0 5) (aC m 0 0 c) ∗ outP c (oS c 1 5) (aC m 1 0 c)) -∗ Q (w0)))
    ⊢ WP c (k0_part18 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v422 v445 v465 (k0_pay18 (rowsC m c 2 false) (woM.view.readAt (Elt F) (Rect.unit (s := S1024x1024) ![0, 768] S1024x256.size inb_S1024x1024_S1024x256_0_768).toLoadRect (woC m c)))) Q := by
  rw [k0_part18_eq_skeleton]
  unfold k0_part18_skel
  simp only [Prog.lift, Prog.bind_op, Prog.bind_ret, Prog.pure_eq_ret, semSignalWord, semWaitWord, wp_deviceId]
  iintro ⟨#HP, HS20, Hp20, How, Hat, HwoP, HK0, HK1, Hk⟩
  iapply (wp_loadO c c 2 0 (off8_eq c) f) $$ HS20
  iintro HS20
  iapply (wp_storeO c c 2 0 (off8_eq c) f (msgC m c 2 0) (d_send' m c 2)) $$ HS20
  iintro HS20
  iapply (wp_send m K c _ 2 0 (dev6_eq c) 2 rfl (src_eq (off9_eq c) _ _ _) rfl rfl rfl) $$ [Hp20 HS20 How]
  · isplitr; · iexact HP
    isplitl [Hp20]; · iexact Hp20
    isplitl [HS20]; · iexact HS20
    iexact How
  iintro ⟨Hp20, How⟩
  iapply (wp_loadRows m c 0 true (off2c_eq c)) $$ Hat
  iintro Hat
  iapply (wp_loadWo m c) $$ HwoP
  iintro HwoP
  iapply (wp_loadO c c 0 5 (off3'_eq c) f) $$ HK0
  iintro HK0
  iapply (wp_storeO c c 0 5 (off3'_eq c) f (aC m 0 0 c) (d_keep' m c 0)) $$ HK0
  iintro HK0
  iapply (wp_loadRows m c 1 true (off2d_eq c)) $$ Hat
  iintro Hat
  iapply (wp_loadWo m c) $$ HwoP
  iintro HwoP
  iapply (wp_loadO c c 1 5 (off5'_eq c) f) $$ HK1
  iintro HK1
  iapply (wp_storeO c c 1 5 (off5'_eq c) f (aC m 1 0 c) (d_keep' m c 1)) $$ HK1
  iintro HK1
  iapply (WP_ret c _ Q)
  iapply Hk
  isplitl [Hp20]; · iexact Hp20
  isplitl [How]; · iexact How
  isplitl [Hat]; · iexact Hat
  isplitl [HwoP]; · iexact HwoP
  isplitl [HK0]; · iexact HK0
  iexact HK1

end Cert.MeshAttn
-- ==== Proof.Comm.lean ====
/-
The body's exchange, run on any device `c`: in the three bands at once, three rounds of the reduce-scatter, in each of which a
received half is added to the rows kept, and three steps of the all-gather, in which received finished rows are stored.

Each theorem takes the parts of memory and the tokens its stretch uses and gives back what is left, with the contents written.
-/
module

public import proofs.«01_k».proof.Proof.Steps

@[expose] public section

noncomputable section

namespace Cert.MeshAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

variable (K : Dev nD × Ck → ℕ)

/-- The half kept of band 2 stored; round 0 of band 0 awaited. -/
theorem part19_run (c : Dev nD) {f : OutC F} {v419 : BitVec 32} {v422 : BitVec 32} {v468 : BitVec 32} {c64_i32_495 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v535 : FVec F S256x384 .f32), BitVec 32) → sProp 𝕄} :
    iprop(PC m K
      ∗ atV m c
      ∗ woP m c
      ∗ outP c (oS c 2 5) f
      ∗ pk1 (F := F) c 0 0
      ∗ owX c 3
      ∗ outP c (oS c 0 5) (aC m 0 0 c)
      ∗ (∀ (w1 : BitVec 32), (atV m c ∗ woP m c ∗ outP c (oS c 2 5) (aC m 2 0 c) ∗ pk3 (F := F) c 0 0 ∗ owX c 3 ∗ outP c (oS c 0 0) (msgC m c 0 0) ∗ commE (F := F) c 0 0 ∗ outP c (oS (prt c 0 0) 0 0) (aC m 0 0 c)) -∗ Q ⟨k0_pay23 (rdO (prt c 0 0) 0 0 (aC m 0 0 c)) (msgV m (prt c 0 0) 0 0), w1⟩))
    ⊢ WP c (k0_part19 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v419 v422 v468 c64_i32_495) Q := by
  rw [k0_part19_eq_skeleton]
  unfold k0_part19_skel
  simp only [Prog.lift, Prog.bind_op, Prog.bind_ret, Prog.pure_eq_ret, semSignalWord, semWaitWord, wp_deviceId]
  iintro ⟨#HP, Hat, HwoP, HK2, Hp00, How, HK0, Hk⟩
  iapply (wp_loadRows m c 2 true (off7b_eq c)) $$ Hat
  iintro Hat
  iapply (wp_loadWo m c) $$ HwoP
  iintro HwoP
  iapply (wp_loadO c c 2 5 (off8'_eq c) f) $$ HK2
  iintro HK2
  iapply (wp_storeO c c 2 5 (off8'_eq c) f (aC m 2 0 c) (d_keep' m c 2)) $$ HK2
  iintro HK2
  iapply (wp_waitSend m K c 0 0 3 (by decide) rfl (src_eq (off4_eq c) _ _ _)) $$ [Hp00 How]
  · isplitr; · iexact HP
    isplitl [Hp00]; · iexact Hp00
    iexact How
  iintro ⟨Hp00, HS00, How⟩
  iapply (wp_waitRecv m K c 0 0 3 (by decide) rfl rfl) $$ [Hp00 How]
  · isplitr; · iexact HP
    isplitl [Hp00]; · iexact Hp00
    iexact How
  iintro ⟨Hp00, Hc00, How⟩
  ihave HT00 := (Entails.of_eq (step0 m c 0)) $$ HK0
  iapply (wp_loadO c (prt c 0 0) 0 0 ((off3'_eq c).trans (T_off c 0 0)) (aC m 0 0 c)) $$ HT00
  iintro HT00
  iapply (wp_loadC c 0 0 (msgV m (prt c 0 0) 0 0)) $$ Hc00
  iintro Hc00
  iapply (WP_ret c _ Q)
  iapply Hk
  isplitl [Hat]; · iexact Hat
  isplitl [HwoP]; · iexact HwoP
  isplitl [HK2]; · iexact HK2
  isplitl [Hp00]; · iexact Hp00
  isplitl [How]; · iexact How
  isplitl [HS00]; · iexact HS00
  isplitl [Hc00]; · iexact Hc00
  iexact HT00

/-- Round 0: the received halves of bands 0 and 1 added in. -/
theorem part20_run (c : Dev nD) {v442 : BitVec 32} {v445 : BitVec 32} {v536 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (PUnit) → sProp 𝕄} :
    iprop(PC m K
      ∗ outP c (oS (prt c 0 0) 0 0) (aC m 0 0 c)
      ∗ pk1 (F := F) c 1 0
      ∗ owX c 3
      ∗ outP c (oS c 1 5) (aC m 1 0 c)
      ∗ ((outP c (oS (prt c 0 0) 0 0) (aC m 0 1 c) ∗ pk3 (F := F) c 1 0 ∗ owX c 3 ∗ outP c (oS c 1 0) (msgC m c 1 0) ∗ commE (F := F) c 1 0 ∗ outP c (oS (prt c 1 0) 1 0) (aC m 1 1 c)) -∗ Q PUnit.unit))
    ⊢ WP c (k0_part20 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v442 v445 (k0_pay23 (rdO (prt c 0 0) 0 0 (aC m 0 0 c)) (msgV m (prt c 0 0) 0 0)) v536) Q := by
  rw [k0_part20_eq_skeleton]
  unfold k0_part20_skel
  simp only [Prog.lift, Prog.bind_op, Prog.bind_ret, Prog.pure_eq_ret, semSignalWord, semWaitWord, wp_deviceId]
  iintro ⟨#HP, HT00, Hp10, How, HK1, Hk⟩
  iapply (wp_loadO c (prt c 0 0) 0 0 ((off3'_eq c).trans (T_off c 0 0)) (aC m 0 0 c)) $$ HT00
  iintro HT00
  iapply (wp_storeO c (prt c 0 0) 0 0 ((off3'_eq c).trans (T_off c 0 0)) (aC m 0 0 c) (aC m 0 1 c) (rs_store m c 0 0 0 rfl (by decide) _ _)) $$ HT00
  iintro HT00
  iapply (wp_waitSend m K c 1 0 3 (by decide) rfl (src_eq (off6_eq c) _ _ _)) $$ [Hp10 How]
  · isplitr; · iexact HP
    isplitl [Hp10]; · iexact Hp10
    iexact How
  iintro ⟨Hp10, HS10, How⟩
  iapply (wp_waitRecv m K c 1 0 3 (by decide) rfl rfl) $$ [Hp10 How]
  · isplitr; · iexact HP
    isplitl [Hp10]; · iexact Hp10
    iexact How
  iintro ⟨Hp10, Hc10, How⟩
  ihave HT10 := (Entails.of_eq (step0 m c 1)) $$ HK1
  iapply (wp_loadO c (prt c 1 0) 1 0 ((off5'_eq c).trans (T_off c 1 0)) (aC m 1 0 c)) $$ HT10
  iintro HT10
  iapply (wp_loadC c 1 0 (msgV m (prt c 1 0) 1 0)) $$ Hc10
  iintro Hc10
  iapply (wp_loadO c (prt c 1 0) 1 0 ((off5'_eq c).trans (T_off c 1 0)) (aC m 1 0 c)) $$ HT10
  iintro HT10
  iapply (wp_storeO c (prt c 1 0) 1 0 ((off5'_eq c).trans (T_off c 1 0)) (aC m 1 0 c) (aC m 1 1 c) (rs_store m c 1 0 0 rfl (by decide) _ _)) $$ HT10
  iintro HT10
  iapply (WP_ret c _ Q)
  iapply Hk
  isplitl [HT00]; · iexact HT00
  isplitl [Hp10]; · iexact Hp10
  isplitl [How]; · iexact How
  isplitl [HS10]; · iexact HS10
  isplitl [Hc10]; · iexact Hc10
  iexact HT10

/-- Round 0: the received half of band 2 added in. -/
theorem part21_run (c : Dev nD) {v2 : BitVec 32} {v21 : BitVec 32} {v422 : BitVec 32} {v465 : BitVec 32} {v468 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v587 : BitVec 32), BitVec 32) → sProp 𝕄} :
    iprop(PC m K
      ∗ pk1 (F := F) c 2 0
      ∗ owX c 3
      ∗ outP c (oS c 2 5) (aC m 2 0 c)
      ∗ (∀ (w0 : BitVec 32) (w1 : BitVec 32), (pk3 (F := F) c 2 0 ∗ owX c 3 ∗ outP c (oS c 2 0) (msgC m c 2 0) ∗ commE (F := F) c 2 0 ∗ outP c (oS (prt c 2 0) 2 0) (aC m 2 1 c)) -∗ Q ⟨w0, w1⟩))
    ⊢ WP c (k0_part21 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v2 v21 v422 v465 v468) Q := by
  rw [k0_part21_eq_skeleton]
  unfold k0_part21_skel
  simp only [Prog.lift, Prog.bind_op, Prog.bind_ret, Prog.pure_eq_ret, semSignalWord, semWaitWord, wp_deviceId]
  iintro ⟨#HP, Hp20, How, HK2, Hk⟩
  iapply (wp_waitSend m K c 2 0 3 (by decide) rfl (src_eq (off9_eq c) _ _ _)) $$ [Hp20 How]
  · isplitr; · iexact HP
    isplitl [Hp20]; · iexact Hp20
    iexact How
  iintro ⟨Hp20, HS20, How⟩
  iapply (wp_waitRecv m K c 2 0 3 (by decide) rfl rfl) $$ [Hp20 How]
  · isplitr; · iexact HP
    isplitl [Hp20]; · iexact Hp20
    iexact How
  iintro ⟨Hp20, Hc20, How⟩
  ihave HT20 := (Entails.of_eq (step0 m c 2)) $$ HK2
  iapply (wp_loadO c (prt c 2 0) 2 0 ((off8'_eq c).trans (T_off c 2 0)) (aC m 2 0 c)) $$ HT20
  iintro HT20
  iapply (wp_loadC c 2 0 (msgV m (prt c 2 0) 2 0)) $$ Hc20
  iintro Hc20
  iapply (wp_loadO c (prt c 2 0) 2 0 ((off8'_eq c).trans (T_off c 2 0)) (aC m 2 0 c)) $$ HT20
  iintro HT20
  iapply (wp_storeO c (prt c 2 0) 2 0 ((off8'_eq c).trans (T_off c 2 0)) (aC m 2 0 c) (aC m 2 1 c) (rs_store m c 2 0 0 rfl (by decide) _ _)) $$ HT20
  iintro HT20
  iapply (WP_ret c _ Q)
  iapply Hk
  isplitl [Hp20]; · iexact Hp20
  isplitl [How]; · iexact How
  isplitl [HS20]; · iexact HS20
  isplitl [Hc20]; · iexact Hc20
  iexact HT20

/-- Round 1 sent in bands 0 and 1. -/
theorem part22_run (c : Dev nD) {v2 : BitVec 32} {v39 : BitVec 32} {v40 : BitVec 32} {v445 : BitVec 32} {v468 : BitVec 32} {v587 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v603 : BitVec 32) (v608 : BitVec 32) (v619 : BitVec 32) (v622 : BitVec 32), BitVec 32) → sProp 𝕄} :
    iprop(PC m K
      ∗ outP c (oS (prt c 0 0) 0 0) (aC m 0 1 c)
      ∗ pk0 c 0 1
      ∗ owX c 3
      ∗ outP c (oS (prt c 1 0) 1 0) (aC m 1 1 c)
      ∗ pk0 c 1 1
      ∗ (∀ (w0 : BitVec 32) (w1 : BitVec 32) (w2 : BitVec 32) (w3 : BitVec 32) (w4 : BitVec 32), (outP c (oS (prt c 0 1) 0 1) (aC m 0 1 c) ∗ pk1 (F := F) c 0 1 ∗ owX c 5 ∗ outP c (oS (prt c 1 1) 1 1) (aC m 1 1 c) ∗ pk1 (F := F) c 1 1) -∗ Q ⟨w0, w1, w2, w3, w4⟩))
    ⊢ WP c (k0_part22 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v2 v39 v40 v445 v468 v587) Q := by
  rw [k0_part22_eq_skeleton]
  unfold k0_part22_skel
  simp only [Prog.lift, Prog.bind_op, Prog.bind_ret, Prog.pure_eq_ret, semSignalWord, semWaitWord, wp_deviceId]
  iintro ⟨#HP, HT00, Hp01, How, HT10, Hp11, Hk⟩
  ihave HS01 := (Entails.of_eq (step1 m c 0)) $$ HT00
  icases HS01 with ⟨HS01, HT01⟩
  iapply (wp_send m K c _ 0 1 (dev7_eq c) 3 rfl (src_eq (off10_eq c) _ _ _) rfl rfl rfl) $$ [Hp01 HS01 How]
  · isplitr; · iexact HP
    isplitl [Hp01]; · iexact Hp01
    isplitl [HS01]; · iexact HS01
    iexact How
  iintro ⟨Hp01, How⟩
  ihave HS11 := (Entails.of_eq (step1 m c 1)) $$ HT10
  icases HS11 with ⟨HS11, HT11⟩
  iapply (wp_send m K c _ 1 1 (dev8_eq c) 4 rfl (src_eq (off11_eq c) _ _ _) rfl rfl rfl) $$ [Hp11 HS11 How]
  · isplitr; · iexact HP
    isplitl [Hp11]; · iexact Hp11
    isplitl [HS11]; · iexact HS11
    iexact How
  iintro ⟨Hp11, How⟩
  iapply (WP_ret c _ Q)
  iapply Hk
  isplitl [HT01]; · iexact HT01
  isplitl [Hp01]; · iexact Hp01
  isplitl [How]; · iexact How
  isplitl [HT11]; · iexact HT11
  iexact Hp11

/-- Round 1 sent in band 2 and awaited in band 0. -/
theorem part23_run (c : Dev nD) {v587 : BitVec 32} {v592 : BitVec 32} {v619 : BitVec 32} {v622 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (FVec F S128x384 .f32) → sProp 𝕄} :
    iprop(PC m K
      ∗ outP c (oS (prt c 2 0) 2 0) (aC m 2 1 c)
      ∗ pk0 c 2 1
      ∗ owX c 5
      ∗ pk1 (F := F) c 0 1
      ∗ outP c (oS (prt c 0 1) 0 1) (aC m 0 1 c)
      ∗ ((outP c (oS (prt c 2 1) 2 1) (aC m 2 1 c) ∗ pk1 (F := F) c 2 1 ∗ owX c 6 ∗ pk3 (F := F) c 0 1 ∗ outP c (oS c 0 1) (msgC m c 0 1) ∗ commE (F := F) c 0 1 ∗ outP c (oS (prt c 0 1) 0 1) (aC m 0 1 c)) -∗ Q (k0_pay27 (rdO (prt c 0 1) 0 1 (aC m 0 1 c)) (msgV m (prt c 0 1) 0 1))))
    ⊢ WP c (k0_part23 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v587 v592 v619 v622) Q := by
  rw [k0_part23_eq_skeleton]
  unfold k0_part23_skel
  simp only [Prog.lift, Prog.bind_op, Prog.bind_ret, Prog.pure_eq_ret, semSignalWord, semWaitWord, wp_deviceId]
  iintro ⟨#HP, HT20, Hp21, How, Hp01, HT01, Hk⟩
  ihave HS21 := (Entails.of_eq (step1 m c 2)) $$ HT20
  icases HS21 with ⟨HS21, HT21⟩
  iapply (wp_send m K c _ 2 1 (dev9_eq c) 5 rfl (src_eq (off12_eq c) _ _ _) rfl rfl rfl) $$ [Hp21 HS21 How]
  · isplitr; · iexact HP
    isplitl [Hp21]; · iexact Hp21
    isplitl [HS21]; · iexact HS21
    iexact How
  iintro ⟨Hp21, How⟩
  iapply (wp_waitSend m K c 0 1 6 (by decide) rfl (src_eq (off10_eq c) _ _ _)) $$ [Hp01 How]
  · isplitr; · iexact HP
    isplitl [Hp01]; · iexact Hp01
    iexact How
  iintro ⟨Hp01, HS01, How⟩
  iapply (wp_waitRecv m K c 0 1 6 (by decide) rfl rfl) $$ [Hp01 How]
  · isplitr; · iexact HP
    isplitl [Hp01]; · iexact Hp01
    iexact How
  iintro ⟨Hp01, Hc01, How⟩
  iapply (wp_loadO c (prt c 0 1) 0 1 ((off13_eq c).trans (T_off c 0 1)) (aC m 0 1 c)) $$ HT01
  iintro HT01
  iapply (wp_loadC c 0 1 (msgV m (prt c 0 1) 0 1)) $$ Hc01
  iintro Hc01
  iapply (WP_ret c _ Q)
  iapply Hk
  isplitl [HT21]; · iexact HT21
  isplitl [Hp21]; · iexact Hp21
  isplitl [How]; · iexact How
  isplitl [Hp01]; · iexact Hp01
  isplitl [HS01]; · iexact HS01
  isplitl [Hc01]; · iexact Hc01
  iexact HT01

/-- Round 1: the received halves of bands 0 and 1 added in. -/
theorem part24_run (c : Dev nD) {v592 : BitVec 32} {v603 : BitVec 32} {v608 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (PUnit) → sProp 𝕄} :
    iprop(PC m K
      ∗ outP c (oS (prt c 0 1) 0 1) (aC m 0 1 c)
      ∗ pk1 (F := F) c 1 1
      ∗ owX c 6
      ∗ outP c (oS (prt c 1 1) 1 1) (aC m 1 1 c)
      ∗ ((outP c (oS (prt c 0 1) 0 1) (aC m 0 2 c) ∗ pk3 (F := F) c 1 1 ∗ owX c 6 ∗ outP c (oS c 1 1) (msgC m c 1 1) ∗ commE (F := F) c 1 1 ∗ outP c (oS (prt c 1 1) 1 1) (aC m 1 2 c)) -∗ Q PUnit.unit))
    ⊢ WP c (k0_part24 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v592 v603 v608 (k0_pay27 (rdO (prt c 0 1) 0 1 (aC m 0 1 c)) (msgV m (prt c 0 1) 0 1))) Q := by
  rw [k0_part24_eq_skeleton]
  unfold k0_part24_skel
  simp only [Prog.lift, Prog.bind_op, Prog.bind_ret, Prog.pure_eq_ret, semSignalWord, semWaitWord, wp_deviceId]
  iintro ⟨#HP, HT01, Hp11, How, HT11, Hk⟩
  iapply (wp_loadO c (prt c 0 1) 0 1 ((off13_eq c).trans (T_off c 0 1)) (aC m 0 1 c)) $$ HT01
  iintro HT01
  iapply (wp_storeO c (prt c 0 1) 0 1 ((off13_eq c).trans (T_off c 0 1)) (aC m 0 1 c) (aC m 0 2 c) (rs_store m c 0 1 1 rfl (by decide) _ _)) $$ HT01
  iintro HT01
  iapply (wp_waitSend m K c 1 1 6 (by decide) rfl (src_eq (off11_eq c) _ _ _)) $$ [Hp11 How]
  · isplitr; · iexact HP
    isplitl [Hp11]; · iexact Hp11
    iexact How
  iintro ⟨Hp11, HS11, How⟩
  iapply (wp_waitRecv m K c 1 1 6 (by decide) rfl rfl) $$ [Hp11 How]
  · isplitr; · iexact HP
    isplitl [Hp11]; · iexact Hp11
    iexact How
  iintro ⟨Hp11, Hc11, How⟩
  iapply (wp_loadO c (prt c 1 1) 1 1 ((off14_eq c).trans (T_off c 1 1)) (aC m 1 1 c)) $$ HT11
  iintro HT11
  iapply (wp_loadC c 1 1 (msgV m (prt c 1 1) 1 1)) $$ Hc11
  iintro Hc11
  iapply (wp_loadO c (prt c 1 1) 1 1 ((off14_eq c).trans (T_off c 1 1)) (aC m 1 1 c)) $$ HT11
  iintro HT11
  iapply (wp_storeO c (prt c 1 1) 1 1 ((off14_eq c).trans (T_off c 1 1)) (aC m 1 1 c) (aC m 1 2 c) (rs_store m c 1 1 1 rfl (by decide) _ _)) $$ HT11
  iintro HT11
  iapply (WP_ret c _ Q)
  iapply Hk
  isplitl [HT01]; · iexact HT01
  isplitl [Hp11]; · iexact Hp11
  isplitl [How]; · iexact How
  isplitl [HS11]; · iexact HS11
  isplitl [Hc11]; · iexact Hc11
  iexact HT11

/-- Round 1: the received half of band 2 added in. -/
theorem part25_run (c : Dev nD) {v2 : BitVec 32} {v40 : BitVec 32} {v592 : BitVec 32} {v619 : BitVec 32} {v624 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v704 : BitVec 32) (v707 : BitVec 32) (v709 : BitVec 32), BitVec 32) → sProp 𝕄} :
    iprop(PC m K
      ∗ pk1 (F := F) c 2 1
      ∗ owX c 6
      ∗ outP c (oS (prt c 2 1) 2 1) (aC m 2 1 c)
      ∗ (∀ (w0 : BitVec 32) (w1 : BitVec 32) (w2 : BitVec 32) (w3 : BitVec 32), (pk3 (F := F) c 2 1 ∗ owX c 6 ∗ outP c (oS c 2 1) (msgC m c 2 1) ∗ commE (F := F) c 2 1 ∗ outP c (oS (prt c 2 1) 2 1) (aC m 2 2 c)) -∗ Q ⟨w0, w1, w2, w3⟩))
    ⊢ WP c (k0_part25 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v2 v40 v592 v619 v624) Q := by
  rw [k0_part25_eq_skeleton]
  unfold k0_part25_skel
  simp only [Prog.lift, Prog.bind_op, Prog.bind_ret, Prog.pure_eq_ret, semSignalWord, semWaitWord, wp_deviceId]
  iintro ⟨#HP, Hp21, How, HT21, Hk⟩
  iapply (wp_waitSend m K c 2 1 6 (by decide) rfl (src_eq (off12_eq c) _ _ _)) $$ [Hp21 How]
  · isplitr; · iexact HP
    isplitl [Hp21]; · iexact Hp21
    iexact How
  iintro ⟨Hp21, HS21, How⟩
  iapply (wp_waitRecv m K c 2 1 6 (by decide) rfl rfl) $$ [Hp21 How]
  · isplitr; · iexact HP
    isplitl [Hp21]; · iexact Hp21
    iexact How
  iintro ⟨Hp21, Hc21, How⟩
  iapply (wp_loadO c (prt c 2 1) 2 1 ((off15_eq c).trans (T_off c 2 1)) (aC m 2 1 c)) $$ HT21
  iintro HT21
  iapply (wp_loadC c 2 1 (msgV m (prt c 2 1) 2 1)) $$ Hc21
  iintro Hc21
  iapply (wp_loadO c (prt c 2 1) 2 1 ((off15_eq c).trans (T_off c 2 1)) (aC m 2 1 c)) $$ HT21
  iintro HT21
  iapply (wp_storeO c (prt c 2 1) 2 1 ((off15_eq c).trans (T_off c 2 1)) (aC m 2 1 c) (aC m 2 2 c) (rs_store m c 2 1 1 rfl (by decide) _ _)) $$ HT21
  iintro HT21
  iapply (WP_ret c _ Q)
  iapply Hk
  isplitl [Hp21]; · iexact Hp21
  isplitl [How]; · iexact How
  isplitl [HS21]; · iexact HS21
  isplitl [Hc21]; · iexact Hc21
  iexact HT21

/-- Round 2 sent in bands 0 and 1. -/
theorem part26_run (c : Dev nD) {v2 : BitVec 32} {v21 : BitVec 32} {v39 : BitVec 32} {v608 : BitVec 32} {v624 : BitVec 32} {v704 : BitVec 32} {v707 : BitVec 32} {c64_i32_690 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v720 : BitVec 32) (v725 : BitVec 32) (v736 : BitVec 32) (v737 : BitVec 1) (v739 : BitVec 32), BitVec 32) → sProp 𝕄} :
    iprop(PC m K
      ∗ outP c (oS (prt c 0 1) 0 1) (aC m 0 2 c)
      ∗ pk0 c 0 2
      ∗ owX c 6
      ∗ outP c (oS (prt c 1 1) 1 1) (aC m 1 2 c)
      ∗ pk0 c 1 2
      ∗ (∀ (w0 : BitVec 32) (w1 : BitVec 32) (w2 : BitVec 32) (w3 : BitVec 1) (w4 : BitVec 32) (w5 : BitVec 32), (outP c (oS (prt c 0 2) 0 2) (aC m 0 2 c) ∗ pk1 (F := F) c 0 2 ∗ owX c 8 ∗ outP c (oS (prt c 1 2) 1 2) (aC m 1 2 c) ∗ pk1 (F := F) c 1 2) -∗ Q ⟨w0, w1, w2, w3, w4, w5⟩))
    ⊢ WP c (k0_part26 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v2 v21 v39 v608 v624 v704 v707 c64_i32_690) Q := by
  rw [k0_part26_eq_skeleton]
  unfold k0_part26_skel
  simp only [Prog.lift, Prog.bind_op, Prog.bind_ret, Prog.pure_eq_ret, semSignalWord, semWaitWord, wp_deviceId]
  iintro ⟨#HP, HT01, Hp02, How, HT11, Hp12, Hk⟩
  ihave HS02 := (Entails.of_eq (step2 m c 0)) $$ HT01
  icases HS02 with ⟨HS02, HT02⟩
  iapply (wp_send m K c _ 0 2 (dev10_eq c) 6 rfl (src_eq (off16_eq c) _ _ _) rfl rfl rfl) $$ [Hp02 HS02 How]
  · isplitr; · iexact HP
    isplitl [Hp02]; · iexact Hp02
    isplitl [HS02]; · iexact HS02
    iexact How
  iintro ⟨Hp02, How⟩
  ihave HS12 := (Entails.of_eq (step2 m c 1)) $$ HT11
  icases HS12 with ⟨HS12, HT12⟩
  iapply (wp_send m K c _ 1 2 (dev11_eq c) 7 rfl (src_eq (off17_eq c) _ _ _) rfl rfl rfl) $$ [Hp12 HS12 How]
  · isplitr; · iexact HP
    isplitl [Hp12]; · iexact Hp12
    isplitl [HS12]; · iexact HS12
    iexact How
  iintro ⟨Hp12, How⟩
  iapply (WP_ret c _ Q)
  iapply Hk
  isplitl [HT02]; · iexact HT02
  isplitl [Hp02]; · iexact Hp02
  isplitl [How]; · iexact How
  isplitl [HT12]; · iexact HT12
  iexact Hp12

/-- Round 2 sent in band 2 and awaited in band 0. -/
theorem part27_run (c : Dev nD) {v624 : BitVec 32} {v704 : BitVec 32} {v709 : BitVec 32} {v736 : BitVec 32} {v737 : BitVec 1} {v739 : BitVec 32} {c0_i32_718 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v741 : BitVec 32), FVec F S64x384 .f32) → sProp 𝕄} :
    iprop(PC m K
      ∗ outP c (oS (prt c 2 1) 2 1) (aC m 2 2 c)
      ∗ pk0 c 2 2
      ∗ owX c 8
      ∗ pk1 (F := F) c 0 2
      ∗ outP c (oS (prt c 0 2) 0 2) (aC m 0 2 c)
      ∗ (∀ (w0 : BitVec 32), (outP c (oS (prt c 2 2) 2 2) (aC m 2 2 c) ∗ pk1 (F := F) c 2 2 ∗ owX c 9 ∗ pk3 (F := F) c 0 2 ∗ outP c (oS c 0 2) (msgC m c 0 2) ∗ commV c 0 2 (msgV m (prt c 0 2) 0 2) ∗ outP c (oS (prt c 0 2) 0 2) (aC m 0 2 c)) -∗ Q ⟨w0, k0_pay31 (rdO (prt c 0 2) 0 2 (aC m 0 2 c))⟩))
    ⊢ WP c (k0_part27 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v624 v704 v709 v736 v737 v739 c0_i32_718) Q := by
  rw [k0_part27_eq_skeleton]
  unfold k0_part27_skel
  simp only [Prog.lift, Prog.bind_op, Prog.bind_ret, Prog.pure_eq_ret, semSignalWord, semWaitWord, wp_deviceId]
  iintro ⟨#HP, HT21, Hp22, How, Hp02, HT02, Hk⟩
  ihave HS22 := (Entails.of_eq (step2 m c 2)) $$ HT21
  icases HS22 with ⟨HS22, HT22⟩
  iapply (wp_send m K c _ 2 2 (dev12_eq c) 8 rfl (src_eq (off18_eq c) _ _ _) rfl rfl rfl) $$ [Hp22 HS22 How]
  · isplitr; · iexact HP
    isplitl [Hp22]; · iexact Hp22
    isplitl [HS22]; · iexact HS22
    iexact How
  iintro ⟨Hp22, How⟩
  iapply (wp_waitSend m K c 0 2 9 (by decide) rfl (src_eq (off16_eq c) _ _ _)) $$ [Hp02 How]
  · isplitr; · iexact HP
    isplitl [Hp02]; · iexact Hp02
    iexact How
  iintro ⟨Hp02, HS02, How⟩
  iapply (wp_waitRecv m K c 0 2 9 (by decide) rfl rfl) $$ [Hp02 How]
  · isplitr; · iexact HP
    isplitl [Hp02]; · iexact Hp02
    iexact How
  iintro ⟨Hp02, Hc02, How⟩
  iapply (wp_loadO c (prt c 0 2) 0 2 ((off19_eq c).trans (T_off c 0 2)) (aC m 0 2 c)) $$ HT02
  iintro HT02
  iapply (WP_ret c _ Q)
  iapply Hk
  isplitl [HT22]; · iexact HT22
  isplitl [Hp22]; · iexact Hp22
  isplitl [How]; · iexact How
  isplitl [Hp02]; · iexact Hp02
  isplitl [HS02]; · iexact HS02
  isplitl [Hc02]; · iexact Hc02
  iexact HT02

/-- Round 2: the received half of band 0 added in, that of band 1 loaded. -/
theorem part28_run (c : Dev nD) {v709 : BitVec 32} {v720 : BitVec 32} {v725 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (FVec F S1x64x384 .f32) → sProp 𝕄} :
    iprop(PC m K
      ∗ commV c 0 2 (msgV m (prt c 0 2) 0 2)
      ∗ outP c (oS (prt c 0 2) 0 2) (aC m 0 2 c)
      ∗ pk1 (F := F) c 1 2
      ∗ owX c 9
      ∗ outP c (oS (prt c 1 2) 1 2) (aC m 1 2 c)
      ∗ ((commE (F := F) c 0 2 ∗ outP c (oS (prt c 0 2) 0 2) (aC m 0 3 c) ∗ pk3 (F := F) c 1 2 ∗ owX c 9 ∗ outP c (oS c 1 2) (msgC m c 1 2) ∗ commE (F := F) c 1 2 ∗ outP c (oS (prt c 1 2) 1 2) (aC m 1 2 c)) -∗ Q (k0_pay33 (rdO (prt c 1 2) 1 2 (aC m 1 2 c)) (msgV m (prt c 1 2) 1 2))))
    ⊢ WP c (k0_part28 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v709 v720 v725 (k0_pay31 (rdO (prt c 0 2) 0 2 (aC m 0 2 c)))) Q := by
  rw [k0_part28_eq_skeleton]
  unfold k0_part28_skel
  simp only [Prog.lift, Prog.bind_op, Prog.bind_ret, Prog.pure_eq_ret, semSignalWord, semWaitWord, wp_deviceId]
  iintro ⟨#HP, Hc02, HT02, Hp12, How, HT12, Hk⟩
  iapply (wp_loadC c 0 2 (msgV m (prt c 0 2) 0 2)) $$ Hc02
  iintro Hc02
  iapply (wp_loadO c (prt c 0 2) 0 2 ((off19_eq c).trans (T_off c 0 2)) (aC m 0 2 c)) $$ HT02
  iintro HT02
  iapply (wp_storeO c (prt c 0 2) 0 2 ((off19_eq c).trans (T_off c 0 2)) (aC m 0 2 c) (aC m 0 3 c) (rs_store m c 0 2 2 rfl (by decide) _ _)) $$ HT02
  iintro HT02
  iapply (wp_waitSend m K c 1 2 9 (by decide) rfl (src_eq (off17_eq c) _ _ _)) $$ [Hp12 How]
  · isplitr; · iexact HP
    isplitl [Hp12]; · iexact Hp12
    iexact How
  iintro ⟨Hp12, HS12, How⟩
  iapply (wp_waitRecv m K c 1 2 9 (by decide) rfl rfl) $$ [Hp12 How]
  · isplitr; · iexact HP
    isplitl [Hp12]; · iexact Hp12
    iexact How
  iintro ⟨Hp12, Hc12, How⟩
  iapply (wp_loadO c (prt c 1 2) 1 2 ((off20_eq c).trans (T_off c 1 2)) (aC m 1 2 c)) $$ HT12
  iintro HT12
  iapply (wp_loadC c 1 2 (msgV m (prt c 1 2) 1 2)) $$ Hc12
  iintro Hc12
  iapply (wp_loadO c (prt c 1 2) 1 2 ((off20_eq c).trans (T_off c 1 2)) (aC m 1 2 c)) $$ HT12
  iintro HT12
  iapply (WP_ret c _ Q)
  iapply Hk
  isplitl [Hc02]; · iexact Hc02
  isplitl [HT02]; · iexact HT02
  isplitl [Hp12]; · iexact Hp12
  isplitl [How]; · iexact How
  isplitl [HS12]; · iexact HS12
  isplitl [Hc12]; · iexact Hc12
  iexact HT12

/-- Round 2: the received halves of bands 1 and 2 added in; the device's chunks are finished. -/
theorem part29_run (c : Dev nD) {v2 : BitVec 32} {v40 : BitVec 32} {v709 : BitVec 32} {v736 : BitVec 32} {v741 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v821 : BitVec 32) (v822 : BitVec 1) (v825 : BitVec 32), BitVec 32) → sProp 𝕄} :
    iprop(PC m K
      ∗ outP c (oS (prt c 1 2) 1 2) (aC m 1 2 c)
      ∗ pk1 (F := F) c 2 2
      ∗ owX c 9
      ∗ outP c (oS (prt c 2 2) 2 2) (aC m 2 2 c)
      ∗ (∀ (w0 : BitVec 32) (w1 : BitVec 1) (w2 : BitVec 32) (w3 : BitVec 32), (outP c (oS (prt c 1 2) 1 2) (aC m 1 3 c) ∗ pk3 (F := F) c 2 2 ∗ owX c 9 ∗ outP c (oS c 2 2) (msgC m c 2 2) ∗ commE (F := F) c 2 2 ∗ outP c (oS (prt c 2 2) 2 2) (aC m 2 3 c)) -∗ Q ⟨w0, w1, w2, w3⟩))
    ⊢ WP c (k0_part29 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v2 v40 v709 v736 v741 (k0_pay33 (rdO (prt c 1 2) 1 2 (aC m 1 2 c)) (msgV m (prt c 1 2) 1 2))) Q := by
  rw [k0_part29_eq_skeleton]
  unfold k0_part29_skel
  simp only [Prog.lift, Prog.bind_op, Prog.bind_ret, Prog.pure_eq_ret, semSignalWord, semWaitWord, wp_deviceId]
  iintro ⟨#HP, HT12, Hp22, How, HT22, Hk⟩
  iapply (wp_storeO c (prt c 1 2) 1 2 ((off20_eq c).trans (T_off c 1 2)) (aC m 1 2 c) (aC m 1 3 c) (rs_store m c 1 2 2 rfl (by decide) _ _)) $$ HT12
  iintro HT12
  iapply (wp_waitSend m K c 2 2 9 (by decide) rfl (src_eq (off18_eq c) _ _ _)) $$ [Hp22 How]
  · isplitr; · iexact HP
    isplitl [Hp22]; · iexact Hp22
    iexact How
  iintro ⟨Hp22, HS22, How⟩
  iapply (wp_waitRecv m K c 2 2 9 (by decide) rfl rfl) $$ [Hp22 How]
  · isplitr; · iexact HP
    isplitl [Hp22]; · iexact Hp22
    iexact How
  iintro ⟨Hp22, Hc22, How⟩
  iapply (wp_loadO c (prt c 2 2) 2 2 ((off21_eq c).trans (T_off c 2 2)) (aC m 2 2 c)) $$ HT22
  iintro HT22
  iapply (wp_loadC c 2 2 (msgV m (prt c 2 2) 2 2)) $$ Hc22
  iintro Hc22
  iapply (wp_loadO c (prt c 2 2) 2 2 ((off21_eq c).trans (T_off c 2 2)) (aC m 2 2 c)) $$ HT22
  iintro HT22
  iapply (wp_storeO c (prt c 2 2) 2 2 ((off21_eq c).trans (T_off c 2 2)) (aC m 2 2 c) (aC m 2 3 c) (rs_store m c 2 2 2 rfl (by decide) _ _)) $$ HT22
  iintro HT22
  iapply (WP_ret c _ Q)
  iapply Hk
  isplitl [HT12]; · iexact HT12
  isplitl [Hp22]; · iexact Hp22
  isplitl [How]; · iexact How
  isplitl [HS22]; · iexact HS22
  isplitl [Hc22]; · iexact Hc22
  iexact HT22

/-- The all-gather's step 0 sent in bands 0 and 1. -/
theorem part30_run (c : Dev nD) {v2 : BitVec 32} {v21 : BitVec 32} {v39 : BitVec 32} {v709 : BitVec 32} {v725 : BitVec 32} {v741 : BitVec 32} {v821 : BitVec 32} {v822 : BitVec 1} {c64_i32_802 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v837 : BitVec 32) (v838 : BitVec 32) (v842 : BitVec 32) (v854 : BitVec 32) (v855 : BitVec 32) (v856 : BitVec 1), BitVec 32) → sProp 𝕄} :
    iprop(PC m K
      ∗ outP c (oS (prt c 0 2) 0 2) (aC m 0 3 c)
      ∗ pk0 c 0 3
      ∗ owX c 9
      ∗ outP c (oS (prt c 1 2) 1 2) (aC m 1 3 c)
      ∗ pk0 c 1 3
      ∗ (∀ (w0 : BitVec 32) (w1 : BitVec 32) (w2 : BitVec 32) (w3 : BitVec 32) (w4 : BitVec 32) (w5 : BitVec 1) (w6 : BitVec 32), (pk1 (F := F) c 0 3 ∗ owX c 11 ∗ pk1 (F := F) c 1 3) -∗ Q ⟨w0, w1, w2, w3, w4, w5, w6⟩))
    ⊢ WP c (k0_part30 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v2 v21 v39 v709 v725 v741 v821 v822 c64_i32_802) Q := by
  rw [k0_part30_eq_skeleton]
  unfold k0_part30_skel
  simp only [Prog.lift, Prog.bind_op, Prog.bind_ret, Prog.pure_eq_ret, semSignalWord, semWaitWord, wp_deviceId]
  iintro ⟨#HP, HT02, Hp03, How, HT12, Hp13, Hk⟩
  ihave HS03 := (Entails.of_eq (step3 m c 0)) $$ HT02
  iapply (wp_send m K c _ 0 3 (dev13_eq c) 9 rfl (src_eq (off16'_eq c) _ _ _) rfl rfl rfl) $$ [Hp03 HS03 How]
  · isplitr; · iexact HP
    isplitl [Hp03]; · iexact Hp03
    isplitl [HS03]; · iexact HS03
    iexact How
  iintro ⟨Hp03, How⟩
  ihave HS13 := (Entails.of_eq (step3 m c 1)) $$ HT12
  iapply (wp_send m K c _ 1 3 (dev14_eq c) 10 rfl (src_eq (off17'_eq c) _ _ _) rfl rfl rfl) $$ [Hp13 HS13 How]
  · isplitr; · iexact HP
    isplitl [Hp13]; · iexact Hp13
    isplitl [HS13]; · iexact HS13
    iexact How
  iintro ⟨Hp13, How⟩
  iapply (WP_ret c _ Q)
  iapply Hk
  isplitl [Hp03]; · iexact Hp03
  isplitl [How]; · iexact How
  iexact Hp13

/-- Step 0 sent in band 2 and awaited in band 0. -/
theorem part31_run (c : Dev nD) {v741 : BitVec 32} {v821 : BitVec 32} {v825 : BitVec 32} {v855 : BitVec 32} {v856 : BitVec 1} {v857 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v859 : BitVec 32) (v871 : BitVec 32) (v884 : Vec F S64x384 .f32), BitVec 32) → sProp 𝕄} :
    iprop(PC m K
      ∗ outP c (oS (prt c 2 2) 2 2) (aC m 2 3 c)
      ∗ pk0 c 2 3
      ∗ owX c 11
      ∗ pk1 (F := F) c 0 3
      ∗ (∀ (w0 : BitVec 32) (w1 : BitVec 32) (w3 : BitVec 32), (pk1 (F := F) c 2 3 ∗ owX c 12 ∗ pk3 (F := F) c 0 3 ∗ outP c (oS c 0 3) (msgC m c 0 3) ∗ commE (F := F) c 0 3) -∗ Q ⟨w0, w1, (msgV m (prt c 0 3) 0 3), w3⟩))
    ⊢ WP c (k0_part31 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v741 v821 v825 v855 v856 v857) Q := by
  rw [k0_part31_eq_skeleton]
  unfold k0_part31_skel
  simp only [Prog.lift, Prog.bind_op, Prog.bind_ret, Prog.pure_eq_ret, semSignalWord, semWaitWord, wp_deviceId]
  iintro ⟨#HP, HT22, Hp23, How, Hp03, Hk⟩
  ihave HS23 := (Entails.of_eq (step3 m c 2)) $$ HT22
  iapply (wp_send m K c _ 2 3 (dev15_eq c) 11 rfl (src_eq (off18'_eq c) _ _ _) rfl rfl rfl) $$ [Hp23 HS23 How]
  · isplitr; · iexact HP
    isplitl [Hp23]; · iexact Hp23
    isplitl [HS23]; · iexact HS23
    iexact How
  iintro ⟨Hp23, How⟩
  iapply (wp_waitSend m K c 0 3 12 (by decide) rfl (src_eq (off16'_eq c) _ _ _)) $$ [Hp03 How]
  · isplitr; · iexact HP
    isplitl [Hp03]; · iexact Hp03
    iexact How
  iintro ⟨Hp03, HS03, How⟩
  iapply (wp_waitRecv m K c 0 3 12 (by decide) rfl rfl) $$ [Hp03 How]
  · isplitr; · iexact HP
    isplitl [Hp03]; · iexact Hp03
    iexact How
  iintro ⟨Hp03, Hc03, How⟩
  iapply (wp_loadC c 0 3 (msgV m (prt c 0 3) 0 3)) $$ Hc03
  iintro Hc03
  iapply (WP_ret c _ Q)
  iapply Hk
  isplitl [Hp23]; · iexact Hp23
  isplitl [How]; · iexact How
  isplitl [Hp03]; · iexact Hp03
  isplitl [HS03]; · iexact HS03
  iexact Hc03

/-- Step 0: the received chunks of bands 0 and 1 stored. -/
theorem part32_run (c : Dev nD) {v838 : BitVec 32} {v842 : BitVec 32} {v885 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (PUnit) → sProp 𝕄} :
    iprop(PC m K
      ∗ outP c (oS c 0 2) (msgC m c 0 2)
      ∗ pk1 (F := F) c 1 3
      ∗ owX c 12
      ∗ outP c (oS c 1 2) (msgC m c 1 2)
      ∗ ((outP c (oS (prt c 0 3) 0 3) (finC m 0) ∗ pk3 (F := F) c 1 3 ∗ owX c 12 ∗ outP c (oS c 1 3) (msgC m c 1 3) ∗ commE (F := F) c 1 3 ∗ outP c (oS (prt c 1 3) 1 3) (finC m 1)) -∗ Q PUnit.unit))
    ⊢ WP c (k0_part32 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v838 v842 ((msgV m (prt c 0 3) 0 3)) v885) Q := by
  rw [k0_part32_eq_skeleton]
  unfold k0_part32_skel
  simp only [Prog.lift, Prog.bind_op, Prog.bind_ret, Prog.pure_eq_ret, semSignalWord, semWaitWord, wp_deviceId]
  iintro ⟨#HP, HS02, Hp13, How, HS12, Hk⟩
  ihave HT03 := (Entails.of_eq (step3' c 0 (msgC m c 0 2))) $$ HS02
  iapply (wp_loadO c (prt c 0 3) 0 3 ((off22_eq c).trans (T_off c 0 3)) (msgC m c 0 2)) $$ HT03
  iintro HT03
  iapply (wp_storeO c (prt c 0 3) 0 3 ((off22_eq c).trans (T_off c 0 3)) (msgC m c 0 2) (finC m 0) (ag_store m c 0 3 (by decide) _)) $$ HT03
  iintro HT03
  iapply (wp_waitSend m K c 1 3 12 (by decide) rfl (src_eq (off17'_eq c) _ _ _)) $$ [Hp13 How]
  · isplitr; · iexact HP
    isplitl [Hp13]; · iexact Hp13
    iexact How
  iintro ⟨Hp13, HS13, How⟩
  iapply (wp_waitRecv m K c 1 3 12 (by decide) rfl rfl) $$ [Hp13 How]
  · isplitr; · iexact HP
    isplitl [Hp13]; · iexact Hp13
    iexact How
  iintro ⟨Hp13, Hc13, How⟩
  iapply (wp_loadC c 1 3 (msgV m (prt c 1 3) 1 3)) $$ Hc13
  iintro Hc13
  ihave HT13 := (Entails.of_eq (step3' c 1 (msgC m c 1 2))) $$ HS12
  iapply (wp_loadO c (prt c 1 3) 1 3 ((off23_eq c).trans (T_off c 1 3)) (msgC m c 1 2)) $$ HT13
  iintro HT13
  iapply (wp_storeO c (prt c 1 3) 1 3 ((off23_eq c).trans (T_off c 1 3)) (msgC m c 1 2) (finC m 1) (ag_store m c 1 3 (by decide) _)) $$ HT13
  iintro HT13
  iapply (WP_ret c _ Q)
  iapply Hk
  isplitl [HT03]; · iexact HT03
  isplitl [Hp13]; · iexact Hp13
  isplitl [How]; · iexact How
  isplitl [HS13]; · iexact HS13
  isplitl [Hc13]; · iexact Hc13
  iexact HT13

/-- Step 0: the received chunk of band 2 stored; step 1 sent in band 0. -/
theorem part33_run (c : Dev nD) {v2 : BitVec 32} {v21 : BitVec 32} {v837 : BitVec 32} {v855 : BitVec 32} {v859 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v926 : BitVec 32) (v927 : BitVec 1) (v930 : BitVec 32), BitVec 32) → sProp 𝕄} :
    iprop(PC m K
      ∗ pk1 (F := F) c 2 3
      ∗ owX c 12
      ∗ outP c (oS c 2 2) (msgC m c 2 2)
      ∗ outP c (oS (prt c 0 3) 0 3) (finC m 0)
      ∗ outP c (oS c 0 3) (msgC m c 0 3)
      ∗ pk0 c 0 4
      ∗ (∀ (w0 : BitVec 32) (w1 : BitVec 1) (w2 : BitVec 32) (w3 : BitVec 32), (pk3 (F := F) c 2 3 ∗ owX c 13 ∗ outP c (oS c 2 3) (msgC m c 2 3) ∗ commE (F := F) c 2 3 ∗ outP c (oS (prt c 2 3) 2 3) (finC m 2) ∗ pk1 (F := F) c 0 4) -∗ Q ⟨w0, w1, w2, w3⟩))
    ⊢ WP c (k0_part33 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v2 v21 v837 v855 v859) Q := by
  rw [k0_part33_eq_skeleton]
  unfold k0_part33_skel
  simp only [Prog.lift, Prog.bind_op, Prog.bind_ret, Prog.pure_eq_ret, semSignalWord, semWaitWord, wp_deviceId]
  iintro ⟨#HP, Hp23, How, HS22, HT03, HS03, Hp04, Hk⟩
  iapply (wp_waitSend m K c 2 3 12 (by decide) rfl (src_eq (off18'_eq c) _ _ _)) $$ [Hp23 How]
  · isplitr; · iexact HP
    isplitl [Hp23]; · iexact Hp23
    iexact How
  iintro ⟨Hp23, HS23, How⟩
  iapply (wp_waitRecv m K c 2 3 12 (by decide) rfl rfl) $$ [Hp23 How]
  · isplitr; · iexact HP
    isplitl [Hp23]; · iexact Hp23
    iexact How
  iintro ⟨Hp23, Hc23, How⟩
  iapply (wp_loadC c 2 3 (msgV m (prt c 2 3) 2 3)) $$ Hc23
  iintro Hc23
  ihave HT23 := (Entails.of_eq (step3' c 2 (msgC m c 2 2))) $$ HS22
  iapply (wp_loadO c (prt c 2 3) 2 3 ((off24_eq c).trans (T_off c 2 3)) (msgC m c 2 2)) $$ HT23
  iintro HT23
  iapply (wp_storeO c (prt c 2 3) 2 3 ((off24_eq c).trans (T_off c 2 3)) (msgC m c 2 2) (finC m 2) (ag_store m c 2 3 (by decide) _)) $$ HT23
  iintro HT23
  ihave HS04 : iprop(outP c (oS (prt c 0 3) 0 3) (finC m 0) ∗ outP c (oS c 0 3) (msgC m c 0 3)) $$ [HT03 HS03]
  · isplitl [HT03]; · iexact HT03
    iexact HS03
  ihave HS04 := (Entails.of_eq (step4 m c 0)) $$ HS04
  iapply (wp_send m K c _ 0 4 (dev16_eq c) 12 rfl (src_eq (off25_eq c) _ _ _) rfl rfl rfl) $$ [Hp04 HS04 How]
  · isplitr; · iexact HP
    isplitl [Hp04]; · iexact Hp04
    isplitl [HS04]; · iexact HS04
    iexact How
  iintro ⟨Hp04, How⟩
  iapply (WP_ret c _ Q)
  iapply Hk
  isplitl [Hp23]; · iexact Hp23
  isplitl [How]; · iexact How
  isplitl [HS23]; · iexact HS23
  isplitl [Hc23]; · iexact Hc23
  isplitl [HT23]; · iexact HT23
  iexact Hp04

/-- Step 1 sent in band 1. -/
theorem part34_run (c : Dev nD) {v2 : BitVec 32} {v39 : BitVec 32} {v40 : BitVec 32} {v837 : BitVec 32} {v854 : BitVec 32} {v871 : BitVec 32} {v927 : BitVec 1} {v941 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v942 : BitVec 32) (v943 : BitVec 32) (v947 : BitVec 32) (v959 : BitVec 32) (v960 : BitVec 32) (v961 : BitVec 1), BitVec 32) → sProp 𝕄} :
    iprop(PC m K
      ∗ outP c (oS (prt c 1 3) 1 3) (finC m 1)
      ∗ outP c (oS c 1 3) (msgC m c 1 3)
      ∗ pk0 c 1 4
      ∗ owX c 13
      ∗ (∀ (w0 : BitVec 32) (w1 : BitVec 32) (w2 : BitVec 32) (w3 : BitVec 32) (w4 : BitVec 32) (w5 : BitVec 1) (w6 : BitVec 32), (pk1 (F := F) c 1 4 ∗ owX c 14) -∗ Q ⟨w0, w1, w2, w3, w4, w5, w6⟩))
    ⊢ WP c (k0_part34 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v2 v39 v40 v837 v854 v871 v927 v941) Q := by
  rw [k0_part34_eq_skeleton]
  unfold k0_part34_skel
  simp only [Prog.lift, Prog.bind_op, Prog.bind_ret, Prog.pure_eq_ret, semSignalWord, semWaitWord, wp_deviceId]
  iintro ⟨#HP, HT13, HS13, Hp14, How, Hk⟩
  ihave HS14 : iprop(outP c (oS (prt c 1 3) 1 3) (finC m 1) ∗ outP c (oS c 1 3) (msgC m c 1 3)) $$ [HT13 HS13]
  · isplitl [HT13]; · iexact HT13
    iexact HS13
  ihave HS14 := (Entails.of_eq (step4 m c 1)) $$ HS14
  iapply (wp_send m K c _ 1 4 (dev17_eq c) 13 rfl (src_eq (off26_eq c) _ _ _) rfl rfl rfl) $$ [Hp14 HS14 How]
  · isplitr; · iexact HP
    isplitl [Hp14]; · iexact Hp14
    isplitl [HS14]; · iexact HS14
    iexact How
  iintro ⟨Hp14, How⟩
  iapply (WP_ret c _ Q)
  iapply Hk
  isplitl [Hp14]; · iexact Hp14
  iexact How

/-- Step 1 sent in band 2; the received chunks of band 0 stored. -/
theorem part35_run (c : Dev nD) {v871 : BitVec 32} {v926 : BitVec 32} {v930 : BitVec 32} {v961 : BitVec 1}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (BitVec 32) → sProp 𝕄} :
    iprop(PC m K
      ∗ outP c (oS (prt c 2 3) 2 3) (finC m 2)
      ∗ outP c (oS c 2 3) (msgC m c 2 3)
      ∗ pk0 c 2 4
      ∗ owX c 14
      ∗ pk1 (F := F) c 0 4
      ∗ outP c (oS c 0 1) (msgC m c 0 1)
      ∗ pk1 (F := F) c 1 4
      ∗ (∀ (w0 : (BitVec 32)), (pk1 (F := F) c 2 4 ∗ owX c 15 ∗ pk3 (F := F) c 0 4 ∗ outP c (oS c 0 4) (msgC m c 0 4) ∗ commE (F := F) c 0 4 ∗ outP c (oS (prt c 0 4) 0 4) (finC m 0) ∗ pk2 (F := F) c 1 4 ∗ outP c (oS c 1 4) (msgC m c 1 4)) -∗ Q (w0)))
    ⊢ WP c (k0_part35 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v871 v926 v930 v961) Q := by
  rw [k0_part35_eq_skeleton]
  unfold k0_part35_skel
  simp only [Prog.lift, Prog.bind_op, Prog.bind_ret, Prog.pure_eq_ret, semSignalWord, semWaitWord, wp_deviceId]
  iintro ⟨#HP, HT23, HS23, Hp24, How, Hp04, HS01, Hp14, Hk⟩
  ihave HS24 : iprop(outP c (oS (prt c 2 3) 2 3) (finC m 2) ∗ outP c (oS c 2 3) (msgC m c 2 3)) $$ [HT23 HS23]
  · isplitl [HT23]; · iexact HT23
    iexact HS23
  ihave HS24 := (Entails.of_eq (step4 m c 2)) $$ HS24
  iapply (wp_send m K c _ 2 4 (dev18_eq c) 14 rfl (src_eq (off27_eq c) _ _ _) rfl rfl rfl) $$ [Hp24 HS24 How]
  · isplitr; · iexact HP
    isplitl [Hp24]; · iexact Hp24
    isplitl [HS24]; · iexact HS24
    iexact How
  iintro ⟨Hp24, How⟩
  iapply (wp_waitSend m K c 0 4 15 (by decide) rfl (src_eq (off25_eq c) _ _ _)) $$ [Hp04 How]
  · isplitr; · iexact HP
    isplitl [Hp04]; · iexact Hp04
    iexact How
  iintro ⟨Hp04, HS04, How⟩
  iapply (wp_waitRecv m K c 0 4 15 (by decide) rfl rfl) $$ [Hp04 How]
  · isplitr; · iexact HP
    isplitl [Hp04]; · iexact Hp04
    iexact How
  iintro ⟨Hp04, Hc04, How⟩
  iapply (wp_loadC c 0 4 (msgV m (prt c 0 4) 0 4)) $$ Hc04
  iintro Hc04
  ihave HT04 := (Entails.of_eq (step4' c 0 (msgC m c 0 1))) $$ HS01
  iapply (wp_loadO c (prt c 0 4) 0 4 ((off28_eq c).trans (T_off c 0 4)) (msgC m c 0 1)) $$ HT04
  iintro HT04
  iapply (wp_storeO c (prt c 0 4) 0 4 ((off28_eq c).trans (T_off c 0 4)) (msgC m c 0 1) (finC m 0) (ag_store m c 0 4 (by decide) _)) $$ HT04
  iintro HT04
  iapply (wp_waitSend m K c 1 4 15 (by decide) rfl (src_eq (off26_eq c) _ _ _)) $$ [Hp14 How]
  · isplitr; · iexact HP
    isplitl [Hp14]; · iexact Hp14
    iexact How
  iintro ⟨Hp14, HS14, How⟩
  iapply (WP_ret c _ Q)
  iapply Hk
  isplitl [Hp24]; · iexact Hp24
  isplitl [How]; · iexact How
  isplitl [Hp04]; · iexact Hp04
  isplitl [HS04]; · iexact HS04
  isplitl [Hc04]; · iexact Hc04
  isplitl [HT04]; · iexact HT04
  isplitl [Hp14]; · iexact Hp14
  iexact HS14

/-- Step 1: the received chunks of band 1 stored, those of band 2 loaded. -/
theorem part36_run (c : Dev nD) {v943 : BitVec 32} {v947 : BitVec 32} {v960 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v1025 : Vec F S128x256 .f32), BitVec 32) → sProp 𝕄} :
    iprop(PC m K
      ∗ pk2 (F := F) c 1 4
      ∗ owX c 15
      ∗ outP c (oS c 1 1) (msgC m c 1 1)
      ∗ pk1 (F := F) c 2 4
      ∗ (∀ (w1 : BitVec 32), (pk3 (F := F) c 1 4 ∗ owX c 15 ∗ commE (F := F) c 1 4 ∗ outP c (oS (prt c 1 4) 1 4) (finC m 1) ∗ pk3 (F := F) c 2 4 ∗ outP c (oS c 2 4) (msgC m c 2 4) ∗ commE (F := F) c 2 4) -∗ Q ⟨(msgV m (prt c 2 4) 2 4), w1⟩))
    ⊢ WP c (k0_part36 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v943 v947 v960) Q := by
  rw [k0_part36_eq_skeleton]
  unfold k0_part36_skel
  simp only [Prog.lift, Prog.bind_op, Prog.bind_ret, Prog.pure_eq_ret, semSignalWord, semWaitWord, wp_deviceId]
  iintro ⟨#HP, Hp14, How, HS11, Hp24, Hk⟩
  iapply (wp_waitRecv m K c 1 4 15 (by decide) rfl rfl) $$ [Hp14 How]
  · isplitr; · iexact HP
    isplitl [Hp14]; · iexact Hp14
    iexact How
  iintro ⟨Hp14, Hc14, How⟩
  iapply (wp_loadC c 1 4 (msgV m (prt c 1 4) 1 4)) $$ Hc14
  iintro Hc14
  ihave HT14 := (Entails.of_eq (step4' c 1 (msgC m c 1 1))) $$ HS11
  iapply (wp_loadO c (prt c 1 4) 1 4 ((off29_eq c).trans (T_off c 1 4)) (msgC m c 1 1)) $$ HT14
  iintro HT14
  iapply (wp_storeO c (prt c 1 4) 1 4 ((off29_eq c).trans (T_off c 1 4)) (msgC m c 1 1) (finC m 1) (ag_store m c 1 4 (by decide) _)) $$ HT14
  iintro HT14
  iapply (wp_waitSend m K c 2 4 15 (by decide) rfl (src_eq (off27_eq c) _ _ _)) $$ [Hp24 How]
  · isplitr; · iexact HP
    isplitl [Hp24]; · iexact Hp24
    iexact How
  iintro ⟨Hp24, HS24, How⟩
  iapply (wp_waitRecv m K c 2 4 15 (by decide) rfl rfl) $$ [Hp24 How]
  · isplitr; · iexact HP
    isplitl [Hp24]; · iexact Hp24
    iexact How
  iintro ⟨Hp24, Hc24, How⟩
  iapply (wp_loadC c 2 4 (msgV m (prt c 2 4) 2 4)) $$ Hc24
  iintro Hc24
  iapply (WP_ret c _ Q)
  iapply Hk
  isplitl [Hp14]; · iexact Hp14
  isplitl [How]; · iexact How
  isplitl [Hc14]; · iexact Hc14
  isplitl [HT14]; · iexact HT14
  isplitl [Hp24]; · iexact Hp24
  isplitl [HS24]; · iexact HS24
  iexact Hc24

/-- Step 1: the received chunks of band 2 stored; step 2 sent in band 0. -/
theorem part37_run (c : Dev nD) {v2 : BitVec 32} {v21 : BitVec 32} {v39 : BitVec 32} {v942 : BitVec 32} {v959 : BitVec 32} {v964 : BitVec 32} {c64_i32_996 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v1031 : BitVec 32) (v1035 : BitVec 32) (v1046 : BitVec 32), BitVec 32) → sProp 𝕄} :
    iprop(PC m K
      ∗ outP c (oS c 2 1) (msgC m c 2 1)
      ∗ outP c (oS (prt c 0 4) 0 4) (finC m 0)
      ∗ outP c (oS c 0 4) (msgC m c 0 4)
      ∗ pk0 c 0 5
      ∗ owX c 15
      ∗ (∀ (w0 : BitVec 32) (w1 : BitVec 32) (w2 : BitVec 32) (w3 : BitVec 32), (outP c (oS (prt c 2 4) 2 4) (finC m 2) ∗ pk1 (F := F) c 0 5 ∗ owX c 16) -∗ Q ⟨w0, w1, w2, w3⟩))
    ⊢ WP c (k0_part37 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v2 v21 v39 v942 v959 v964 ((msgV m (prt c 2 4) 2 4)) c64_i32_996) Q := by
  rw [k0_part37_eq_skeleton]
  unfold k0_part37_skel
  simp only [Prog.lift, Prog.bind_op, Prog.bind_ret, Prog.pure_eq_ret, semSignalWord, semWaitWord, wp_deviceId]
  iintro ⟨#HP, HS21, HT04, HS04, Hp05, How, Hk⟩
  ihave HT24 := (Entails.of_eq (step4' c 2 (msgC m c 2 1))) $$ HS21
  iapply (wp_loadO c (prt c 2 4) 2 4 ((off30_eq c).trans (T_off c 2 4)) (msgC m c 2 1)) $$ HT24
  iintro HT24
  iapply (wp_storeO c (prt c 2 4) 2 4 ((off30_eq c).trans (T_off c 2 4)) (msgC m c 2 1) (finC m 2) (ag_store m c 2 4 (by decide) _)) $$ HT24
  iintro HT24
  ihave HS05 : iprop(outP c (oS (prt c 0 4) 0 4) (finC m 0) ∗ outP c (oS c 0 4) (msgC m c 0 4)) $$ [HT04 HS04]
  · isplitl [HT04]; · iexact HT04
    iexact HS04
  ihave HS05 := (Entails.of_eq (step5 m c 0)) $$ HS05
  iapply (wp_send m K c _ 0 5 (dev19_eq c) 15 rfl (src_eq (off31_eq c) _ _ _) rfl rfl rfl) $$ [Hp05 HS05 How]
  · isplitr; · iexact HP
    isplitl [Hp05]; · iexact Hp05
    isplitl [HS05]; · iexact HS05
    iexact How
  iintro ⟨Hp05, How⟩
  iapply (WP_ret c _ Q)
  iapply Hk
  isplitl [HT24]; · iexact HT24
  isplitl [Hp05]; · iexact Hp05
  iexact How

/-- Step 2 sent in bands 1 and 2. -/
theorem part38_run (c : Dev nD) {v2 : BitVec 32} {v40 : BitVec 32} {v976 : BitVec 32} {v1031 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (v1061 : BitVec 32), BitVec 32) → sProp 𝕄} :
    iprop(PC m K
      ∗ outP c (oS (prt c 1 4) 1 4) (finC m 1)
      ∗ outP c (oS c 1 4) (msgC m c 1 4)
      ∗ pk0 c 1 5
      ∗ owX c 16
      ∗ outP c (oS (prt c 2 4) 2 4) (finC m 2)
      ∗ outP c (oS c 2 4) (msgC m c 2 4)
      ∗ pk0 c 2 5
      ∗ pk1 (F := F) c 0 5
      ∗ (∀ (w0 : BitVec 32) (w1 : BitVec 32), (pk1 (F := F) c 1 5 ∗ owX c 18 ∗ pk1 (F := F) c 2 5 ∗ pk2 (F := F) c 0 5 ∗ outP c (oS c 0 5) (msgC m c 0 5)) -∗ Q ⟨w0, w1⟩))
    ⊢ WP c (k0_part38 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v2 v40 v976 v1031) Q := by
  rw [k0_part38_eq_skeleton]
  unfold k0_part38_skel
  simp only [Prog.lift, Prog.bind_op, Prog.bind_ret, Prog.pure_eq_ret, semSignalWord, semWaitWord, wp_deviceId]
  iintro ⟨#HP, HT14, HS14, Hp15, How, HT24, HS24, Hp25, Hp05, Hk⟩
  ihave HS15 : iprop(outP c (oS (prt c 1 4) 1 4) (finC m 1) ∗ outP c (oS c 1 4) (msgC m c 1 4)) $$ [HT14 HS14]
  · isplitl [HT14]; · iexact HT14
    iexact HS14
  ihave HS15 := (Entails.of_eq (step5 m c 1)) $$ HS15
  iapply (wp_send m K c _ 1 5 (dev20_eq c) 16 rfl (src_eq (off32_eq c) _ _ _) rfl rfl rfl) $$ [Hp15 HS15 How]
  · isplitr; · iexact HP
    isplitl [Hp15]; · iexact Hp15
    isplitl [HS15]; · iexact HS15
    iexact How
  iintro ⟨Hp15, How⟩
  ihave HS25 : iprop(outP c (oS (prt c 2 4) 2 4) (finC m 2) ∗ outP c (oS c 2 4) (msgC m c 2 4)) $$ [HT24 HS24]
  · isplitl [HT24]; · iexact HT24
    iexact HS24
  ihave HS25 := (Entails.of_eq (step5 m c 2)) $$ HS25
  iapply (wp_send m K c _ 2 5 (dev21_eq c) 17 rfl (src_eq (off33_eq c) _ _ _) rfl rfl rfl) $$ [Hp25 HS25 How]
  · isplitr; · iexact HP
    isplitl [Hp25]; · iexact Hp25
    isplitl [HS25]; · iexact HS25
    iexact How
  iintro ⟨Hp25, How⟩
  iapply (wp_waitSend m K c 0 5 18 (by decide) rfl (src_eq (off31_eq c) _ _ _)) $$ [Hp05 How]
  · isplitr; · iexact HP
    isplitl [Hp05]; · iexact Hp05
    iexact How
  iintro ⟨Hp05, HS05, How⟩
  iapply (WP_ret c _ Q)
  iapply Hk
  isplitl [Hp15]; · iexact Hp15
  isplitl [How]; · iexact How
  isplitl [Hp25]; · iexact Hp25
  isplitl [Hp05]; · iexact Hp05
  iexact HS05

/-- Step 2: the received halves of bands 0 and 1 stored. -/
theorem part39_run (c : Dev nD) {v1035 : BitVec 32} {v1046 : BitVec 32} {v1050 : BitVec 32}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (PUnit) → sProp 𝕄} :
    iprop(PC m K
      ∗ pk2 (F := F) c 0 5
      ∗ owX c 18
      ∗ outP c (oS c 0 0) (msgC m c 0 0)
      ∗ pk1 (F := F) c 1 5
      ∗ outP c (oS c 1 0) (msgC m c 1 0)
      ∗ ((pk3 (F := F) c 0 5 ∗ owX c 18 ∗ commE (F := F) c 0 5 ∗ outP c (oS (prt c 0 5) 0 5) (finC m 0) ∗ pk3 (F := F) c 1 5 ∗ outP c (oS c 1 5) (msgC m c 1 5) ∗ commE (F := F) c 1 5 ∗ outP c (oS (prt c 1 5) 1 5) (finC m 1)) -∗ Q PUnit.unit))
    ⊢ WP c (k0_part39 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11 c v1035 v1046 v1050) Q := by
  rw [k0_part39_eq_skeleton]
  unfold k0_part39_skel
  simp only [Prog.lift, Prog.bind_op, Prog.bind_ret, Prog.pure_eq_ret, semSignalWord, semWaitWord, wp_deviceId]
  iintro ⟨#HP, Hp05, How, HS00, Hp15, HS10, Hk⟩
  iapply (wp_waitRecv m K c 0 5 18 (by decide) rfl rfl) $$ [Hp05 How]
  · isplitr; · iexact HP
    isplitl [Hp05]; · iexact Hp05
    iexact How
  iintro ⟨Hp05, Hc05, How⟩
  iapply (wp_loadC c 0 5 (msgV m (prt c 0 5) 0 5)) $$ Hc05
  iintro Hc05
  ihave HT05 := (Entails.of_eq (step5' c 0 (msgC m c 0 0))) $$ HS00
  iapply (wp_loadO c (prt c 0 5) 0 5 ((off34_eq c).trans (T_off c 0 5)) (msgC m c 0 0)) $$ HT05
  iintro HT05
  iapply (wp_storeO c (prt c 0 5) 0 5 ((off34_eq c).trans (T_off c 0 5)) (msgC m c 0 0) (finC m 0) (ag_store m c 0 5 (by decide) _)) $$ HT05
  iintro HT05
  iapply (wp_waitSend m K c 1 5 18 (by decide) rfl (src_eq (off32_eq c) _ _ _)) $$ [Hp15 How]
  · isplitr; · iexact HP
    isplitl [Hp15]; · iexact Hp15
    iexact How
  iintro ⟨Hp15, HS15, How⟩
  iapply (wp_waitRecv m K c 1 5 18 (by decide) rfl rfl) $$ [Hp15 How]
  · isplitr; · iexact HP
    isplitl [Hp15]; · iexact Hp15
    iexact How
  iintro ⟨Hp15, Hc15, How⟩
  iapply (wp_loadC c 1 5 (msgV m (prt c 1 5) 1 5)) $$ Hc15
  iintro Hc15
  ihave HT15 := (Entails.of_eq (step5' c 1 (msgC m c 1 0))) $$ HS10
  iapply (wp_loadO c (prt c 1 5) 1 5 ((off35_eq c).trans (T_off c 1 5)) (msgC m c 1 0)) $$ HT15
  iintro HT15
  iapply (wp_storeO c (prt c 1 5) 1 5 ((off35_eq c).trans (T_off c 1 5)) (msgC m c 1 0) (finC m 1) (ag_store m c 1 5 (by decide) _)) $$ HT15
  iintro HT15
  iapply (WP_ret c _ Q)
  iapply Hk
  isplitl [Hp05]; · iexact Hp05
  isplitl [How]; · iexact How
  isplitl [Hc05]; · iexact Hc05
  isplitl [HT05]; · iexact HT05
  isplitl [Hp15]; · iexact Hp15
  isplitl [HS15]; · iexact HS15
  isplitl [Hc15]; · iexact Hc15
  iexact HT15

end Cert.MeshAttn
-- ==== Proof.Body.lean ====
/-
The body as a whole, run on any device `c`: the last stretch, and all the stretches one after another. It starts from the two
halves of every band of the output buffer with any contents and ends with the whole output finished.
-/
module

public import proofs.«01_k».proof.Proof.Attend
public import proofs.«01_k».proof.Proof.Comm

@[expose] public section

noncomputable section

namespace Cert.MeshAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

variable (K : Dev nD × Ck → ℕ)

/-- Step 2 of band 2: its own send awaited. -/
theorem part40_run (c : Dev nD) {f : OutC F}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : (Σ' (d0 : Dev nD), BitVec 32) → sProp 𝕄} :
    iprop(PC m K
      ∗ outP c (oS c 0 0) f
      ∗ outP c (oS c 0 5) f
      ∗ outP c (oS c 1 0) f
      ∗ outP c (oS c 1 5) f
      ∗ outP c (oS c 2 0) f
      ∗ outP c (oS c 2 5) f
      ∗ (bigSep Finset.univ fun k : Msg => pk (F := F) c k)
      ∗ xP m c
      ∗ wqP m c
      ∗ woP m c
      ∗ atP m c 0
      ∗ arrP m false c
      ∗ slotE (F := F) false c 0
      ∗ locV (F := F) false c 0
      ∗ slotE (F := F) false c 1
      ∗ locV (F := F) false c 1
      ∗ arrP m true c
      ∗ slotE (F := F) true c 0
      ∗ locV (F := F) true c 0
      ∗ slotE (F := F) true c 1
      ∗ locV (F := F) true c 1
      ∗ (∃ W, owes (c : Thread nD τ) (O₀ c) W)
      ∗ dutyTok ER (barCell (nb c 0)) 0 0
      ∗ barPay (F := F) (nb c 0) 0
      ∗ dutyTok ER (barCell (nb c 1)) 0 1
      ∗ barPay (F := F) (nb c 1) 1
      ∗ dutyTok ER (barCell (nb c 2)) 0 2
      ∗ barPay (F := F) (nb c 2) 2
      ∗ atPos ER (barCell c) 0 ∅ 0
      ∗ cred (tallyAt (barCell c) () 3)
      ∗ (∀ w : BitVec 32, (xP m c ∗ wqP m c ∗ woP m c ∗ atV m c ∗ owX c 18 ∗ semVal (barCell c) 0 ∗ slotV m false c 6 ∗ locV (F := F) false c 0 ∗ slotV m true c 6 ∗ locV (F := F) true c 0 ∗ arrP m false c ∗ slotV m false c 7 ∗ locV (F := F) false c 1 ∗ arrP m true c ∗ slotV m true c 7 ∗ locV (F := F) true c 1 ∗ pk3 (F := F) c 0 0 ∗ pk3 (F := F) c 1 0 ∗ pk3 (F := F) c 2 0 ∗ pk3 (F := F) c 0 1 ∗ pk3 (F := F) c 1 1 ∗ pk3 (F := F) c 2 1 ∗ pk3 (F := F) c 0 2 ∗ pk3 (F := F) c 1 2 ∗ pk3 (F := F) c 2 2 ∗ pk3 (F := F) c 0 3 ∗ pk3 (F := F) c 1 3 ∗ pk3 (F := F) c 2 3 ∗ pk3 (F := F) c 0 4 ∗ pk3 (F := F) c 1 4 ∗ pk3 (F := F) c 2 4 ∗ pk3 (F := F) c 0 5 ∗ pk3 (F := F) c 1 5 ∗ pk2 (F := F) c 2 5 ∗ commE (F := F) c 0 0 ∗ commE (F := F) c 1 0 ∗ commE (F := F) c 2 0 ∗ commE (F := F) c 0 1 ∗ commE (F := F) c 1 1 ∗ commE (F := F) c 2 1 ∗ commE (F := F) c 0 2 ∗ commE (F := F) c 1 2 ∗ commE (F := F) c 2 2 ∗ commE (F := F) c 0 3 ∗ commE (F := F) c 1 3 ∗ commE (F := F) c 2 3 ∗ commE (F := F) c 0 4 ∗ commE (F := F) c 1 4 ∗ commE (F := F) c 2 4 ∗ outP c (oS c 0 5) (msgC m c 0 5) ∗ commE (F := F) c 0 5 ∗ outP c (oS (prt c 0 5) 0 5) (finC m 0) ∗ outP c (oS c 1 5) (msgC m c 1 5) ∗ commE (F := F) c 1 5 ∗ outP c (oS (prt c 1 5) 1 5) (finC m 1) ∗ outP c (oS c 2 5) (msgC m c 2 5) ∗ outP c (oS c 2 0) (msgC m c 2 0)) -∗ Q ⟨c, w⟩))
    ⊢ WP c (k0_part40 (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11) Q := by
  rw [k0_part40_eq_skeleton]
  unfold k0_part40_skel
  iintro ⟨#HP, HS00, HK0, HS10, HK1, HS20, HK2, Hpks, HxP, HwqP, HwoP, Hat, Harr0, Hsl00, Hlv00, Hsl01, Hlv01, Harr1, Hsl10, Hlv10, Hsl11, Hlv11, How, Hbt0, Hbp0, Hbt1, Hbp1, Hbt2, Hbp2, Hbar, Hbcr, Hk⟩
  -- part 1
  iapply (WP_bind c _ _ Q)
  iapply (part1_run m K c)
  isplitr; · iexact HP
  iintro %w1_0 %w1_1 %w1_2 %w1_3
  -- part 2
  iapply (WP_bind c _ _ Q)
  iapply (part2_run m K c)
  isplitr; · iexact HP
  isplitl [How]; · iexact How
  isplitl [Hbt0]; · iexact Hbt0
  isplitl [Hbp0]; · iexact Hbp0
  isplitl [Hbt1]; · iexact Hbt1
  isplitl [Hbp1]; · iexact Hbp1
  isplitl [Hbt2]; · iexact Hbt2
  isplitl [Hbp2]; · iexact Hbp2
  isplitl [Harr0]; · iexact Harr0
  isplitl [Hsl00]; · iexact Hsl00
  isplitl [Hlv00]; · iexact Hlv00
  iintro %w2_0 %w2_1 ⟨How, Hfl0⟩
  -- part 3
  iapply (WP_bind c _ _ Q)
  iapply (part3_run m K c)
  isplitr; · iexact HP
  isplitl [Harr1]; · iexact Harr1
  isplitl [Hsl10]; · iexact Hsl10
  isplitl [Hlv10]; · iexact Hlv10
  isplitl [HxP]; · iexact HxP
  isplitl [HwqP]; · iexact HwqP
  isplitl [Hfl0]; · iexact Hfl0
  isplitl [How]; · iexact How
  iintro ⟨HxP, HwqP, How, Harr0, Hsl00, Hlv00, Harr1, Hsl10, Hlv10⟩
  -- part 4
  iapply (WP_bind c _ _ Q)
  iapply (part4_run m K c)
  isplitr; · iexact HP
  isplitl [Harr0]; · iexact Harr0
  isplitl [Hsl01]; · iexact Hsl01
  isplitl [Hlv01]; · iexact Hlv01
  isplitl [Harr1]; · iexact Harr1
  isplitl [Hsl11]; · iexact Hsl11
  isplitl [Hlv11]; · iexact Hlv11
  isplitl [Hsl00]; · iexact Hsl00
  isplitl [Hsl10]; · iexact Hsl10
  isplitl [Hat]; · iexact Hat
  iintro ⟨Hfl0, Hfl1, Hsl00, Hsl10, Hat⟩
  -- part 5
  iapply (WP_bind c _ _ Q)
  iapply (part5_run m K c)
  isplitr; · iexact HP
  isplitl [Hfl0]; · iexact Hfl0
  isplitl [How]; · iexact How
  isplitl [Hfl1]; · iexact Hfl1
  isplitl [Hsl00]; · iexact Hsl00
  isplitl [Hlv00]; · iexact Hlv00
  iintro ⟨How, Hsl01, Hlv01, Harr1, Hsl11, Hlv11, Hfl0⟩
  -- part 6
  iapply (WP_bind c _ _ Q)
  iapply (part6_run m K c)
  isplitr; · iexact HP
  isplitl [Harr1]; · iexact Harr1
  isplitl [Hsl10]; · iexact Hsl10
  isplitl [Hlv10]; · iexact Hlv10
  isplitl [Hsl01]; · iexact Hsl01
  isplitl [Hsl11]; · iexact Hsl11
  isplitl [Hat]; · iexact Hat
  isplitl [Hfl0]; · iexact Hfl0
  isplitl [How]; · iexact How
  iintro ⟨Hfl1, Hsl01, Hsl11, Hat, How, Harr0, Hsl00, Hlv00⟩
  -- part 7
  iapply (WP_bind c _ _ Q)
  iapply (part7_run m K c)
  isplitr; · iexact HP
  isplitl [Hfl1]; · iexact Hfl1
  isplitl [How]; · iexact How
  isplitl [Harr0]; · iexact Harr0
  isplitl [Hsl01]; · iexact Hsl01
  isplitl [Hlv01]; · iexact Hlv01
  isplitl [Hsl11]; · iexact Hsl11
  isplitl [Hlv11]; · iexact Hlv11
  isplitl [Hsl00]; · iexact Hsl00
  iintro ⟨How, Hsl10, Hlv10, Hfl0, Hfl1, Hsl00⟩
  -- part 8
  iapply (WP_bind c _ _ Q)
  iapply (part8_run m K c)
  isplitr; · iexact HP
  isplitl [Hsl10]; · iexact Hsl10
  isplitl [Hat]; · iexact Hat
  isplitl [Hfl0]; · iexact Hfl0
  isplitl [How]; · iexact How
  isplitl [Hfl1]; · iexact Hfl1
  iintro ⟨Hsl10, Hat, How, Harr0, Hsl01, Hlv01, Harr1, Hsl11, Hlv11⟩
  -- part 9
  iapply (WP_bind c _ _ Q)
  iapply (part9_run m K c)
  isplitr; · iexact HP
  isplitl [Harr0]; · iexact Harr0
  isplitl [Hsl00]; · iexact Hsl00
  isplitl [Hlv00]; · iexact Hlv00
  isplitl [Harr1]; · iexact Harr1
  isplitl [Hsl10]; · iexact Hsl10
  isplitl [Hlv10]; · iexact Hlv10
  isplitl [Hsl01]; · iexact Hsl01
  isplitl [Hsl11]; · iexact Hsl11
  isplitl [Hat]; · iexact Hat
  iintro ⟨Hfl0, Hfl1, Hsl01, Hsl11, Hat⟩
  -- part 10
  iapply (WP_bind c _ _ Q)
  iapply (part10_run m K c)
  isplitr; · iexact HP
  isplitl [Hfl0]; · iexact Hfl0
  isplitl [How]; · iexact How
  isplitl [Hfl1]; · iexact Hfl1
  isplitl [Hsl01]; · iexact Hsl01
  isplitl [Hlv01]; · iexact Hlv01
  iintro ⟨How, Hsl00, Hlv00, Harr1, Hsl10, Hlv10, Hfl0⟩
  -- part 11
  iapply (WP_bind c _ _ Q)
  iapply (part11_run m K c)
  isplitr; · iexact HP
  isplitl [Harr1]; · iexact Harr1
  isplitl [Hsl11]; · iexact Hsl11
  isplitl [Hlv11]; · iexact Hlv11
  isplitl [Hsl00]; · iexact Hsl00
  isplitl [Hsl10]; · iexact Hsl10
  isplitl [Hat]; · iexact Hat
  isplitl [Hfl0]; · iexact Hfl0
  isplitl [How]; · iexact How
  iintro ⟨Hfl1, Hsl00, Hsl10, Hat, How, Harr0, Hsl01, Hlv01⟩
  -- part 12
  iapply (WP_bind c _ _ Q)
  iapply (part12_run m K c)
  isplitr; · iexact HP
  isplitl [Hfl1]; · iexact Hfl1
  isplitl [How]; · iexact How
  isplitl [Harr0]; · iexact Harr0
  isplitl [Hsl00]; · iexact Hsl00
  isplitl [Hlv00]; · iexact Hlv00
  isplitl [Hsl10]; · iexact Hsl10
  isplitl [Hlv10]; · iexact Hlv10
  isplitl [Hsl01]; · iexact Hsl01
  iintro ⟨How, Hsl11, Hlv11, Hfl0, Hfl1, Hsl01⟩
  -- part 13
  iapply (WP_bind c _ _ Q)
  iapply (part13_run m K c)
  isplitr; · iexact HP
  isplitl [Hsl11]; · iexact Hsl11
  isplitl [Hat]; · iexact Hat
  isplitl [Hfl0]; · iexact Hfl0
  isplitl [How]; · iexact How
  isplitl [Hfl1]; · iexact Hfl1
  iintro ⟨Hsl11, Hat, How, Harr0, Hsl00, Hlv00, Harr1, Hsl10, Hlv10⟩
  -- part 14
  iapply (WP_bind c _ _ Q)
  iapply (part14_run m K c)
  isplitr; · iexact HP
  isplitl [Harr0]; · iexact Harr0
  isplitl [Hsl01]; · iexact Hsl01
  isplitl [Hlv01]; · iexact Hlv01
  isplitl [Harr1]; · iexact Harr1
  isplitl [Hsl11]; · iexact Hsl11
  isplitl [Hlv11]; · iexact Hlv11
  isplitl [Hsl00]; · iexact Hsl00
  isplitl [Hsl10]; · iexact Hsl10
  isplitl [Hat]; · iexact Hat
  iintro ⟨Hfl0, Hfl1, Hsl00, Hsl10, Hat⟩
  -- part 15
  iapply (WP_bind c _ _ Q)
  iapply (part15_run m K c)
  isplitr; · iexact HP
  isplitl [Hfl0]; · iexact Hfl0
  isplitl [How]; · iexact How
  isplitl [Hfl1]; · iexact Hfl1
  isplitl [Hat]; · iexact Hat
  iintro ⟨How, Harr0, Hsl01, Hlv01, Harr1, Hsl11, Hlv11, Hat⟩
  -- part 16
  iapply (WP_bind c _ _ Q)
  iapply (part16_run m K c)
  isplitr; · iexact HP
  isplitl [Hat]; · iexact Hat
  isplitl [Hbar]; · iexact Hbar
  isplitl [Hbcr]; · iexact Hbcr
  isplitl [How]; · iexact How
  isplitl [Hpks]; · iexact Hpks
  isplitl [HwoP]; · iexact HwoP
  isplitl [HS00]; · iexact HS00
  iintro %w16_0 %w16_1 %w16_2 %w16_3 %w16_4 %w16_5 %w16_6 ⟨Hat, Hbar, How, Hp00, Hp10, Hp20, Hp01, Hp11, Hp21, Hp02, Hp12, Hp22, Hp03, Hp13, Hp23, Hp04, Hp14, Hp24, Hp05, Hp15, Hp25, HwoP⟩
  -- part 17
  iapply (WP_bind c _ _ Q)
  iapply (part17_run m K c)
  isplitr; · iexact HP
  isplitl [Hat]; · iexact Hat
  isplitl [HwoP]; · iexact HwoP
  isplitl [HS10]; · iexact HS10
  isplitl [Hp10]; · iexact Hp10
  isplitl [How]; · iexact How
  iintro %w17_0 %w17_1 %w17_2 ⟨Hat, HwoP, Hp10, How⟩
  -- part 18
  iapply (WP_bind c _ _ Q)
  iapply (part18_run m K c)
  isplitr; · iexact HP
  isplitl [HS20]; · iexact HS20
  isplitl [Hp20]; · iexact Hp20
  isplitl [How]; · iexact How
  isplitl [Hat]; · iexact Hat
  isplitl [HwoP]; · iexact HwoP
  isplitl [HK0]; · iexact HK0
  isplitl [HK1]; · iexact HK1
  iintro %w18_0 ⟨Hp20, How, Hat, HwoP, HK0, HK1⟩
  -- part 19
  iapply (WP_bind c _ _ Q)
  iapply (part19_run m K c)
  isplitr; · iexact HP
  isplitl [Hat]; · iexact Hat
  isplitl [HwoP]; · iexact HwoP
  isplitl [HK2]; · iexact HK2
  isplitl [Hp00]; · iexact Hp00
  isplitl [How]; · iexact How
  isplitl [HK0]; · iexact HK0
  iintro %w19_0 ⟨Hat, HwoP, HK2, Hp00, How, HS00, Hc00, HT00⟩
  -- part 20
  iapply (WP_bind c _ _ Q)
  iapply (part20_run m K c)
  isplitr; · iexact HP
  isplitl [HT00]; · iexact HT00
  isplitl [Hp10]; · iexact Hp10
  isplitl [How]; · iexact How
  isplitl [HK1]; · iexact HK1
  iintro ⟨HT00, Hp10, How, HS10, Hc10, HT10⟩
  -- part 21
  iapply (WP_bind c _ _ Q)
  iapply (part21_run m K c)
  isplitr; · iexact HP
  isplitl [Hp20]; · iexact Hp20
  isplitl [How]; · iexact How
  isplitl [HK2]; · iexact HK2
  iintro %w21_0 %w21_1 ⟨Hp20, How, HS20, Hc20, HT20⟩
  -- part 22
  iapply (WP_bind c _ _ Q)
  iapply (part22_run m K c)
  isplitr; · iexact HP
  isplitl [HT00]; · iexact HT00
  isplitl [Hp01]; · iexact Hp01
  isplitl [How]; · iexact How
  isplitl [HT10]; · iexact HT10
  isplitl [Hp11]; · iexact Hp11
  iintro %w22_0 %w22_1 %w22_2 %w22_3 %w22_4 ⟨HT01, Hp01, How, HT11, Hp11⟩
  -- part 23
  iapply (WP_bind c _ _ Q)
  iapply (part23_run m K c)
  isplitr; · iexact HP
  isplitl [HT20]; · iexact HT20
  isplitl [Hp21]; · iexact Hp21
  isplitl [How]; · iexact How
  isplitl [Hp01]; · iexact Hp01
  isplitl [HT01]; · iexact HT01
  iintro ⟨HT21, Hp21, How, Hp01, HS01, Hc01, HT01⟩
  -- part 24
  iapply (WP_bind c _ _ Q)
  iapply (part24_run m K c)
  isplitr; · iexact HP
  isplitl [HT01]; · iexact HT01
  isplitl [Hp11]; · iexact Hp11
  isplitl [How]; · iexact How
  isplitl [HT11]; · iexact HT11
  iintro ⟨HT01, Hp11, How, HS11, Hc11, HT11⟩
  -- part 25
  iapply (WP_bind c _ _ Q)
  iapply (part25_run m K c)
  isplitr; · iexact HP
  isplitl [Hp21]; · iexact Hp21
  isplitl [How]; · iexact How
  isplitl [HT21]; · iexact HT21
  iintro %w25_0 %w25_1 %w25_2 %w25_3 ⟨Hp21, How, HS21, Hc21, HT21⟩
  -- part 26
  iapply (WP_bind c _ _ Q)
  iapply (part26_run m K c)
  isplitr; · iexact HP
  isplitl [HT01]; · iexact HT01
  isplitl [Hp02]; · iexact Hp02
  isplitl [How]; · iexact How
  isplitl [HT11]; · iexact HT11
  isplitl [Hp12]; · iexact Hp12
  iintro %w26_0 %w26_1 %w26_2 %w26_3 %w26_4 %w26_5 ⟨HT02, Hp02, How, HT12, Hp12⟩
  -- part 27
  iapply (WP_bind c _ _ Q)
  iapply (part27_run m K c)
  isplitr; · iexact HP
  isplitl [HT21]; · iexact HT21
  isplitl [Hp22]; · iexact Hp22
  isplitl [How]; · iexact How
  isplitl [Hp02]; · iexact Hp02
  isplitl [HT02]; · iexact HT02
  iintro %w27_0 ⟨HT22, Hp22, How, Hp02, HS02, Hc02, HT02⟩
  -- part 28
  iapply (WP_bind c _ _ Q)
  iapply (part28_run m K c)
  isplitr; · iexact HP
  isplitl [Hc02]; · iexact Hc02
  isplitl [HT02]; · iexact HT02
  isplitl [Hp12]; · iexact Hp12
  isplitl [How]; · iexact How
  isplitl [HT12]; · iexact HT12
  iintro ⟨Hc02, HT02, Hp12, How, HS12, Hc12, HT12⟩
  -- part 29
  iapply (WP_bind c _ _ Q)
  iapply (part29_run m K c)
  isplitr; · iexact HP
  isplitl [HT12]; · iexact HT12
  isplitl [Hp22]; · iexact Hp22
  isplitl [How]; · iexact How
  isplitl [HT22]; · iexact HT22
  iintro %w29_0 %w29_1 %w29_2 %w29_3 ⟨HT12, Hp22, How, HS22, Hc22, HT22⟩
  -- part 30
  iapply (WP_bind c _ _ Q)
  iapply (part30_run m K c)
  isplitr; · iexact HP
  isplitl [HT02]; · iexact HT02
  isplitl [Hp03]; · iexact Hp03
  isplitl [How]; · iexact How
  isplitl [HT12]; · iexact HT12
  isplitl [Hp13]; · iexact Hp13
  iintro %w30_0 %w30_1 %w30_2 %w30_3 %w30_4 %w30_5 %w30_6 ⟨Hp03, How, Hp13⟩
  -- part 31
  iapply (WP_bind c _ _ Q)
  iapply (part31_run m K c)
  isplitr; · iexact HP
  isplitl [HT22]; · iexact HT22
  isplitl [Hp23]; · iexact Hp23
  isplitl [How]; · iexact How
  isplitl [Hp03]; · iexact Hp03
  iintro %w31_0 %w31_1 %w31_2 ⟨Hp23, How, Hp03, HS03, Hc03⟩
  -- part 32
  iapply (WP_bind c _ _ Q)
  iapply (part32_run m K c)
  isplitr; · iexact HP
  isplitl [HS02]; · iexact HS02
  isplitl [Hp13]; · iexact Hp13
  isplitl [How]; · iexact How
  isplitl [HS12]; · iexact HS12
  iintro ⟨HT03, Hp13, How, HS13, Hc13, HT13⟩
  -- part 33
  iapply (WP_bind c _ _ Q)
  iapply (part33_run m K c)
  isplitr; · iexact HP
  isplitl [Hp23]; · iexact Hp23
  isplitl [How]; · iexact How
  isplitl [HS22]; · iexact HS22
  isplitl [HT03]; · iexact HT03
  isplitl [HS03]; · iexact HS03
  isplitl [Hp04]; · iexact Hp04
  iintro %w33_0 %w33_1 %w33_2 %w33_3 ⟨Hp23, How, HS23, Hc23, HT23, Hp04⟩
  -- part 34
  iapply (WP_bind c _ _ Q)
  iapply (part34_run m K c)
  isplitr; · iexact HP
  isplitl [HT13]; · iexact HT13
  isplitl [HS13]; · iexact HS13
  isplitl [Hp14]; · iexact Hp14
  isplitl [How]; · iexact How
  iintro %w34_0 %w34_1 %w34_2 %w34_3 %w34_4 %w34_5 %w34_6 ⟨Hp14, How⟩
  -- part 35
  iapply (WP_bind c _ _ Q)
  iapply (part35_run m K c)
  isplitr; · iexact HP
  isplitl [HT23]; · iexact HT23
  isplitl [HS23]; · iexact HS23
  isplitl [Hp24]; · iexact Hp24
  isplitl [How]; · iexact How
  isplitl [Hp04]; · iexact Hp04
  isplitl [HS01]; · iexact HS01
  isplitl [Hp14]; · iexact Hp14
  iintro %w35_0 ⟨Hp24, How, Hp04, HS04, Hc04, HT04, Hp14, HS14⟩
  -- part 36
  iapply (WP_bind c _ _ Q)
  iapply (part36_run m K c)
  isplitr; · iexact HP
  isplitl [Hp14]; · iexact Hp14
  isplitl [How]; · iexact How
  isplitl [HS11]; · iexact HS11
  isplitl [Hp24]; · iexact Hp24
  iintro %w36_0 ⟨Hp14, How, Hc14, HT14, Hp24, HS24, Hc24⟩
  -- part 37
  iapply (WP_bind c _ _ Q)
  iapply (part37_run m K c)
  isplitr; · iexact HP
  isplitl [HS21]; · iexact HS21
  isplitl [HT04]; · iexact HT04
  isplitl [HS04]; · iexact HS04
  isplitl [Hp05]; · iexact Hp05
  isplitl [How]; · iexact How
  iintro %w37_0 %w37_1 %w37_2 %w37_3 ⟨HT24, Hp05, How⟩
  -- part 38
  iapply (WP_bind c _ _ Q)
  iapply (part38_run m K c)
  isplitr; · iexact HP
  isplitl [HT14]; · iexact HT14
  isplitl [HS14]; · iexact HS14
  isplitl [Hp15]; · iexact Hp15
  isplitl [How]; · iexact How
  isplitl [HT24]; · iexact HT24
  isplitl [HS24]; · iexact HS24
  isplitl [Hp25]; · iexact Hp25
  isplitl [Hp05]; · iexact Hp05
  iintro %w38_0 %w38_1 ⟨Hp15, How, Hp25, Hp05, HS05⟩
  -- part 39
  iapply (WP_bind c _ _ Q)
  iapply (part39_run m K c)
  isplitr; · iexact HP
  isplitl [Hp05]; · iexact Hp05
  isplitl [How]; · iexact How
  isplitl [HS00]; · iexact HS00
  isplitl [Hp15]; · iexact Hp15
  isplitl [HS10]; · iexact HS10
  iintro ⟨Hp05, How, Hc05, HT05, Hp15, HS15, Hc15, HT15⟩
  simp only [Prog.lift, Prog.bind_op, Prog.bind_ret, Prog.pure_eq_ret]
  iapply (wp_waitSend m K c 2 5 18 (by decide) rfl (src_eq (off33_eq c) _ _ _)) $$ [Hp25 How]
  · isplitr; · iexact HP
    isplitl [Hp25]; · iexact Hp25
    iexact How
  iintro ⟨Hp25, HS25, How⟩
  iapply (WP_ret c _ Q)
  iapply Hk
  isplitl [HxP]; · iexact HxP
  isplitl [HwqP]; · iexact HwqP
  isplitl [HwoP]; · iexact HwoP
  isplitl [Hat]; · iexact Hat
  isplitl [How]; · iexact How
  isplitl [Hbar]; · iexact Hbar
  isplitl [Hsl00]; · iexact Hsl00
  isplitl [Hlv00]; · iexact Hlv00
  isplitl [Hsl10]; · iexact Hsl10
  isplitl [Hlv10]; · iexact Hlv10
  isplitl [Harr0]; · iexact Harr0
  isplitl [Hsl01]; · iexact Hsl01
  isplitl [Hlv01]; · iexact Hlv01
  isplitl [Harr1]; · iexact Harr1
  isplitl [Hsl11]; · iexact Hsl11
  isplitl [Hlv11]; · iexact Hlv11
  isplitl [Hp00]; · iexact Hp00
  isplitl [Hp10]; · iexact Hp10
  isplitl [Hp20]; · iexact Hp20
  isplitl [Hp01]; · iexact Hp01
  isplitl [Hp11]; · iexact Hp11
  isplitl [Hp21]; · iexact Hp21
  isplitl [Hp02]; · iexact Hp02
  isplitl [Hp12]; · iexact Hp12
  isplitl [Hp22]; · iexact Hp22
  isplitl [Hp03]; · iexact Hp03
  isplitl [Hp13]; · iexact Hp13
  isplitl [Hp23]; · iexact Hp23
  isplitl [Hp04]; · iexact Hp04
  isplitl [Hp14]; · iexact Hp14
  isplitl [Hp24]; · iexact Hp24
  isplitl [Hp05]; · iexact Hp05
  isplitl [Hp15]; · iexact Hp15
  isplitl [Hp25]; · iexact Hp25
  isplitl [Hc00]; · iexact Hc00
  isplitl [Hc10]; · iexact Hc10
  isplitl [Hc20]; · iexact Hc20
  isplitl [Hc01]; · iexact Hc01
  isplitl [Hc11]; · iexact Hc11
  isplitl [Hc21]; · iexact Hc21
  isplitl [Hc02]; · iexact Hc02
  isplitl [Hc12]; · iexact Hc12
  isplitl [Hc22]; · iexact Hc22
  isplitl [Hc03]; · iexact Hc03
  isplitl [Hc13]; · iexact Hc13
  isplitl [Hc23]; · iexact Hc23
  isplitl [Hc04]; · iexact Hc04
  isplitl [Hc14]; · iexact Hc14
  isplitl [Hc24]; · iexact Hc24
  isplitl [HS05]; · iexact HS05
  isplitl [Hc05]; · iexact Hc05
  isplitl [HT05]; · iexact HT05
  isplitl [HS15]; · iexact HS15
  isplitl [Hc15]; · iexact Hc15
  isplitl [HT15]; · iexact HT15
  isplitl [HS25]; · iexact HS25
  iexact HS20

/-- The whole body: every stretch in order, the last received half of band 2 stored at the end. -/
theorem body_run (c : Dev nD) {f : OutC F}
    {h0 : xM.IsWhole} {h1 : wqM.IsWhole} {h2 : woM.IsWhole} {h3 : kArr.IsWhole} {h4 : vArr.IsWhole} {h5 : outM.IsWhole} {h6 : kScr.IsWhole} {h7 : vScr.IsWhole} {h8 : atM.IsWhole} {h9 : (Memref.whole cc0_scratch3 : Memref sig .tc .vmem S896x384 .f32).IsWhole} {h10 : (Memref.whole cc0_scratch4 : Memref sig .tc .vmem S896x384 .f32).IsWhole} {h11 : (Memref.whole cc0_scratch5 : Memref sig .tc .vmem S896x256 .f32).IsWhole}
    {Q : PUnit → sProp 𝕄} :
    iprop(PC m K
      ∗ outP c (oS c 0 0) f
      ∗ outP c (oS c 0 5) f
      ∗ outP c (oS c 1 0) f
      ∗ outP c (oS c 1 5) f
      ∗ outP c (oS c 2 0) f
      ∗ outP c (oS c 2 5) f
      ∗ (bigSep Finset.univ fun k : Msg => pk (F := F) c k)
      ∗ xP m c
      ∗ wqP m c
      ∗ woP m c
      ∗ atP m c 0
      ∗ arrP m false c
      ∗ slotE (F := F) false c 0
      ∗ locV (F := F) false c 0
      ∗ slotE (F := F) false c 1
      ∗ locV (F := F) false c 1
      ∗ arrP m true c
      ∗ slotE (F := F) true c 0
      ∗ locV (F := F) true c 0
      ∗ slotE (F := F) true c 1
      ∗ locV (F := F) true c 1
      ∗ (∃ W, owes (c : Thread nD τ) (O₀ c) W)
      ∗ dutyTok ER (barCell (nb c 0)) 0 0
      ∗ barPay (F := F) (nb c 0) 0
      ∗ dutyTok ER (barCell (nb c 1)) 0 1
      ∗ barPay (F := F) (nb c 1) 1
      ∗ dutyTok ER (barCell (nb c 2)) 0 2
      ∗ barPay (F := F) (nb c 2) 2
      ∗ atPos ER (barCell c) 0 ∅ 0
      ∗ cred (tallyAt (barCell c) () 3)
      ∗ ((xP m c
        ∗ wqP m c
        ∗ woP m c
        ∗ atV m c
        ∗ owX c 18
        ∗ semVal (barCell c) 0
        ∗ slotV m false c 6
        ∗ locV (F := F) false c 0
        ∗ slotV m true c 6
        ∗ locV (F := F) true c 0
        ∗ arrP m false c
        ∗ slotV m false c 7
        ∗ locV (F := F) false c 1
        ∗ arrP m true c
        ∗ slotV m true c 7
        ∗ locV (F := F) true c 1
        ∗ pk3 (F := F) c 0 0
        ∗ pk3 (F := F) c 1 0
        ∗ pk3 (F := F) c 2 0
        ∗ pk3 (F := F) c 0 1
        ∗ pk3 (F := F) c 1 1
        ∗ pk3 (F := F) c 2 1
        ∗ pk3 (F := F) c 0 2
        ∗ pk3 (F := F) c 1 2
        ∗ pk3 (F := F) c 2 2
        ∗ pk3 (F := F) c 0 3
        ∗ pk3 (F := F) c 1 3
        ∗ pk3 (F := F) c 2 3
        ∗ pk3 (F := F) c 0 4
        ∗ pk3 (F := F) c 1 4
        ∗ pk3 (F := F) c 2 4
        ∗ pk3 (F := F) c 0 5
        ∗ pk3 (F := F) c 1 5
        ∗ pk3 (F := F) c 2 5
        ∗ commE (F := F) c 0 0
        ∗ commE (F := F) c 1 0
        ∗ commE (F := F) c 2 0
        ∗ commE (F := F) c 0 1
        ∗ commE (F := F) c 1 1
        ∗ commE (F := F) c 2 1
        ∗ commE (F := F) c 0 2
        ∗ commE (F := F) c 1 2
        ∗ commE (F := F) c 2 2
        ∗ commE (F := F) c 0 3
        ∗ commE (F := F) c 1 3
        ∗ commE (F := F) c 2 3
        ∗ commE (F := F) c 0 4
        ∗ commE (F := F) c 1 4
        ∗ commE (F := F) c 2 4
        ∗ outP c (oS c 0 5) (msgC m c 0 5)
        ∗ commE (F := F) c 0 5
        ∗ outP c (oS (prt c 0 5) 0 5) (finC m 0)
        ∗ outP c (oS c 1 5) (msgC m c 1 5)
        ∗ commE (F := F) c 1 5
        ∗ outP c (oS (prt c 1 5) 1 5) (finC m 1)
        ∗ outP c (oS c 2 5) (msgC m c 2 5)
        ∗ commE (F := F) c 2 5
        ∗ outP c (oS (prt c 2 5) 2 5) (finC m 2)) -∗ Q ⟨⟩))
    ⊢ WP c (cc0_body (F := F) xM h0 wqM h1 woM h2 kArr h3 vArr h4 outM h5 kScr h6 vScr h7 atM h8 (Memref.whole cc0_scratch3) h9 (Memref.whole cc0_scratch4) h10 (Memref.whole cc0_scratch5) h11 cc0_scratch6 cc0_scratch7 cc0_scratch8 cc0_scratch9 cc0_scratch10 cc0_scratch11) Q := by
  rw [cc0_body_eq_skeleton]
  unfold cc0_body_skel
  iintro ⟨#HP, HS00, HK0, HS10, HK1, HS20, HK2, Hpks, HxP, HwqP, HwoP, Hat, Harr0, Hsl00, Hlv00, Hsl01, Hlv01, Harr1, Hsl10, Hlv10, Hsl11, Hlv11, How, Hbt0, Hbp0, Hbt1, Hbp1, Hbt2, Hbp2, Hbar, Hbcr, Hk⟩
  iapply (WP_bind c _ _ Q)
  iapply (part40_run m K c)
  isplitr; · iexact HP
  isplitl [HS00]; · iexact HS00
  isplitl [HK0]; · iexact HK0
  isplitl [HS10]; · iexact HS10
  isplitl [HK1]; · iexact HK1
  isplitl [HS20]; · iexact HS20
  isplitl [HK2]; · iexact HK2
  isplitl [Hpks]; · iexact Hpks
  isplitl [HxP]; · iexact HxP
  isplitl [HwqP]; · iexact HwqP
  isplitl [HwoP]; · iexact HwoP
  isplitl [Hat]; · iexact Hat
  isplitl [Harr0]; · iexact Harr0
  isplitl [Hsl00]; · iexact Hsl00
  isplitl [Hlv00]; · iexact Hlv00
  isplitl [Hsl01]; · iexact Hsl01
  isplitl [Hlv01]; · iexact Hlv01
  isplitl [Harr1]; · iexact Harr1
  isplitl [Hsl10]; · iexact Hsl10
  isplitl [Hlv10]; · iexact Hlv10
  isplitl [Hsl11]; · iexact Hsl11
  isplitl [Hlv11]; · iexact Hlv11
  isplitl [How]; · iexact How
  isplitl [Hbt0]; · iexact Hbt0
  isplitl [Hbp0]; · iexact Hbp0
  isplitl [Hbt1]; · iexact Hbt1
  isplitl [Hbp1]; · iexact Hbp1
  isplitl [Hbt2]; · iexact Hbt2
  isplitl [Hbp2]; · iexact Hbp2
  isplitl [Hbar]; · iexact Hbar
  isplitl [Hbcr]; · iexact Hbcr
  iintro %w ⟨HxP, HwqP, HwoP, Hat, How, Hbar, Hsl00, Hlv00, Hsl10, Hlv10, Harr0, Hsl01, Hlv01, Harr1, Hsl11, Hlv11, Hp00, Hp10, Hp20, Hp01, Hp11, Hp21, Hp02, Hp12, Hp22, Hp03, Hp13, Hp23, Hp04, Hp14, Hp24, Hp05, Hp15, Hp25, Hc00, Hc10, Hc20, Hc01, Hc11, Hc21, Hc02, Hc12, Hc22, Hc03, Hc13, Hc23, Hc04, Hc14, Hc24, HS05, Hc05, HT05, HS15, Hc15, HT15, HS25, HS20⟩
  simp only [Prog.lift, Prog.bind_op, Prog.bind_ret, Prog.pure_eq_ret]
  iapply (wp_waitRecv m K c 2 5 18 (by decide) rfl rfl) $$ [Hp25 How]
  · isplitr; · iexact HP
    isplitl [Hp25]; · iexact Hp25
    iexact How
  iintro ⟨Hp25, Hc25, How⟩
  iapply (wp_loadC c 2 5 (msgV m (prt c 2 5) 2 5)) $$ Hc25
  iintro Hc25
  ihave HT25 := (Entails.of_eq (step5' c 2 (msgC m c 2 0))) $$ HS20
  iapply (wp_loadO c (prt c 2 5) 2 5 ((off36_eq c).trans (T_off c 2 5)) (msgC m c 2 0)) $$ HT25
  iintro HT25
  iapply (wp_storeO c (prt c 2 5) 2 5 ((off36_eq c).trans (T_off c 2 5)) (msgC m c 2 0) (finC m 2) (ag_store m c 2 5 (by decide) _)) $$ HT25
  iintro HT25
  iapply (WP_ret c _ Q)
  iapply Hk
  isplitl [HxP]; · iexact HxP
  isplitl [HwqP]; · iexact HwqP
  isplitl [HwoP]; · iexact HwoP
  isplitl [Hat]; · iexact Hat
  isplitl [How]; · iexact How
  isplitl [Hbar]; · iexact Hbar
  isplitl [Hsl00]; · iexact Hsl00
  isplitl [Hlv00]; · iexact Hlv00
  isplitl [Hsl10]; · iexact Hsl10
  isplitl [Hlv10]; · iexact Hlv10
  isplitl [Harr0]; · iexact Harr0
  isplitl [Hsl01]; · iexact Hsl01
  isplitl [Hlv01]; · iexact Hlv01
  isplitl [Harr1]; · iexact Harr1
  isplitl [Hsl11]; · iexact Hsl11
  isplitl [Hlv11]; · iexact Hlv11
  isplitl [Hp00]; · iexact Hp00
  isplitl [Hp10]; · iexact Hp10
  isplitl [Hp20]; · iexact Hp20
  isplitl [Hp01]; · iexact Hp01
  isplitl [Hp11]; · iexact Hp11
  isplitl [Hp21]; · iexact Hp21
  isplitl [Hp02]; · iexact Hp02
  isplitl [Hp12]; · iexact Hp12
  isplitl [Hp22]; · iexact Hp22
  isplitl [Hp03]; · iexact Hp03
  isplitl [Hp13]; · iexact Hp13
  isplitl [Hp23]; · iexact Hp23
  isplitl [Hp04]; · iexact Hp04
  isplitl [Hp14]; · iexact Hp14
  isplitl [Hp24]; · iexact Hp24
  isplitl [Hp05]; · iexact Hp05
  isplitl [Hp15]; · iexact Hp15
  isplitl [Hp25]; · iexact Hp25
  isplitl [Hc00]; · iexact Hc00
  isplitl [Hc10]; · iexact Hc10
  isplitl [Hc20]; · iexact Hc20
  isplitl [Hc01]; · iexact Hc01
  isplitl [Hc11]; · iexact Hc11
  isplitl [Hc21]; · iexact Hc21
  isplitl [Hc02]; · iexact Hc02
  isplitl [Hc12]; · iexact Hc12
  isplitl [Hc22]; · iexact Hc22
  isplitl [Hc03]; · iexact Hc03
  isplitl [Hc13]; · iexact Hc13
  isplitl [Hc23]; · iexact Hc23
  isplitl [Hc04]; · iexact Hc04
  isplitl [Hc14]; · iexact Hc14
  isplitl [Hc24]; · iexact Hc24
  isplitl [HS05]; · iexact HS05
  isplitl [Hc05]; · iexact Hc05
  isplitl [HT05]; · iexact HT05
  isplitl [HS15]; · iexact HS15
  isplitl [Hc15]; · iexact Hc15
  isplitl [HT15]; · iexact HT15
  isplitl [HS25]; · iexact HS25
  isplitl [Hc25]; · iexact Hc25
  iexact HT25

end Cert.MeshAttn
-- ==== Proof.Cut.lean ====
/-
The buffers cut into the parts the protocol hands around, and joined again: the two slots of a scratch buffer of heads, the
six row ranges of a landing buffer.
-/
module

public import proofs.«01_k».proof.Proof.Body

@[expose] public section

noncomputable section

namespace Cert.MeshAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-! ## Regions holding anything -/

def anyP (ℓ : Loc nD τ sig) (S : Finset (Idx ℓ)) : sProp 𝕄 := iprop(∃ f : Buf (Elt F) ℓ, ℓ ↦[S]{fullShare} f)

theorem any_cut (ℓ : Loc nD τ sig) {S A B : Finset (Idx ℓ)} (h : S = A ∪ B) (hd : Disjoint A B) :
    anyP (F := F) ℓ S = iprop(anyP ℓ A ∗ anyP ℓ B) := by
  subst h
  have h1 : anyP (F := F) ℓ (A ∪ B) ⊢ iprop(anyP ℓ A ∗ anyP ℓ B) := by
    unfold anyP
    iintro ⟨%f, H⟩
    ihave H2 := (pointsTo_union hd).1 $$ H
    icases H2 with ⟨H1, H2⟩
    isplitl [H1]
    · iexists f; iexact H1
    · iexists f; iexact H2
  have h2 : iprop(anyP (F := F) ℓ A ∗ anyP ℓ B) ⊢ anyP ℓ (A ∪ B) := by
    unfold anyP
    iintro ⟨⟨%f, H1⟩, ⟨%g, H2⟩⟩
    iexists (B.piecewise g f)
    iapply (pointsTo_join hd)
    isplitl [H1] <;> iassumption
  exact h1.antisymm h2

theorem any_cut6 (ℓ : Loc nD τ sig) (A : Fin 6 → Finset (Idx ℓ)) (hd : ∀ s t : Fin 6, s ≠ t → Disjoint (A s) (A t)) (hu : ∀ i, ∃ t, i ∈ A t) :
    anyP (F := F) ℓ Finset.univ = iprop(anyP ℓ (A 0) ∗ anyP ℓ (A 1) ∗ anyP ℓ (A 2) ∗ anyP ℓ (A 3) ∗ anyP ℓ (A 4) ∗ anyP ℓ (A 5)) := by
  have e : (Finset.univ : Finset (Idx ℓ)) = A 0 ∪ (A 1 ∪ (A 2 ∪ (A 3 ∪ (A 4 ∪ A 5)))) := by
    ext i
    obtain ⟨t, ht⟩ := hu i
    simp only [Finset.mem_union]
    refine ⟨fun _ => ?_, fun _ => Finset.mem_univ _⟩
    fin_cases t
    · exact Or.inl ht
    · exact Or.inr (Or.inl ht)
    · exact Or.inr (Or.inr (Or.inl ht))
    · exact Or.inr (Or.inr (Or.inr (Or.inl ht)))
    · exact Or.inr (Or.inr (Or.inr (Or.inr (Or.inl ht))))
    · exact Or.inr (Or.inr (Or.inr (Or.inr (Or.inr ht))))
  have d4 := hd 4 5 (by decide)
  have d3 : Disjoint (A 3) (A 4 ∪ A 5) := Finset.disjoint_union_right.mpr ⟨hd 3 4 (by decide), hd 3 5 (by decide)⟩
  have d2 : Disjoint (A 2) (A 3 ∪ (A 4 ∪ A 5)) :=
    Finset.disjoint_union_right.mpr ⟨hd 2 3 (by decide), Finset.disjoint_union_right.mpr ⟨hd 2 4 (by decide), hd 2 5 (by decide)⟩⟩
  have d1 : Disjoint (A 1) (A 2 ∪ (A 3 ∪ (A 4 ∪ A 5))) :=
    Finset.disjoint_union_right.mpr ⟨hd 1 2 (by decide), Finset.disjoint_union_right.mpr ⟨hd 1 3 (by decide),
      Finset.disjoint_union_right.mpr ⟨hd 1 4 (by decide), hd 1 5 (by decide)⟩⟩⟩
  have d0 : Disjoint (A 0) (A 1 ∪ (A 2 ∪ (A 3 ∪ (A 4 ∪ A 5)))) :=
    Finset.disjoint_union_right.mpr ⟨hd 0 1 (by decide), Finset.disjoint_union_right.mpr ⟨hd 0 2 (by decide),
      Finset.disjoint_union_right.mpr ⟨hd 0 3 (by decide), Finset.disjoint_union_right.mpr ⟨hd 0 4 (by decide), hd 0 5 (by decide)⟩⟩⟩⟩
  rw [any_cut ℓ e d0, any_cut ℓ rfl d1, any_cut ℓ rfl d2, any_cut ℓ rfl d3, any_cut ℓ rfl d4]

/-! ## The landing buffers -/

theorem rows_apart {W : ℕ} {a b n k : ℕ} {ha : ∀ x, (![a, 0] : Fin 2 → ℕ) x + (![n, W] : Fin 2 → ℕ) x ≤ (![896, W] : Fin 2 → ℕ) x}
    {hb : ∀ x, (![b, 0] : Fin 2 → ℕ) x + (![k, W] : Fin 2 → ℕ) x ≤ (![896, W] : Fin 2 → ℕ) x} (h : a + n ≤ b ∨ b + k ≤ a) :
    Disjoint (Rect.unit (s := ⟨2, ![896, W]⟩) ![a, 0] ![n, W] ha).set (Rect.unit (s := ⟨2, ![896, W]⟩) ![b, 0] ![k, W] hb).set := by
  rw [Finset.disjoint_left]
  intro i h1 h2
  rw [Rect.mem_set_unit] at h1 h2
  have e1 : a ≤ (i 0).val ∧ (i 0).val < a + n := h1 0
  have e2 : b ≤ (i 0).val ∧ (i 0).val < b + k := h2 0
  omega

theorem crow_apart : ∀ s t : Fin 6, s ≠ t → crow s + NN s ≤ crow t ∨ crow t + NN t ≤ crow s := by decide
theorem crow_cover (r : ℕ) (h : r < 896) : ∃ t : Fin 6, crow t ≤ r ∧ r < crow t + NN t := by
  have e : crow 0 = 0 ∧ crow 1 = 256 ∧ crow 2 = 384 ∧ crow 3 = 448 ∧ crow 4 = 512 ∧ crow 5 = 640 := by decide
  obtain ⟨e0, e1, e2, e3, e4, e5⟩ := e
  obtain ⟨n0, n1, n2, n3, n4, n5⟩ := NN_vals
  rcases lt_or_ge r 256 with h1 | h1
  · exact ⟨0, by omega, by omega⟩
  rcases lt_or_ge r 384 with h2 | h2
  · exact ⟨1, by omega, by omega⟩
  rcases lt_or_ge r 448 with h3 | h3
  · exact ⟨2, by omega, by omega⟩
  rcases lt_or_ge r 512 with h4 | h4
  · exact ⟨3, by omega, by omega⟩
  rcases lt_or_ge r 640 with h5 | h5
  · exact ⟨4, by omega, by omega⟩
  · exact ⟨5, by omega, by omega⟩

theorem rows_cover (p : Fin 3) (i : (⟨2, ![896, W3 p]⟩ : Shape).Idx) : ∃ t : Fin 6, i ∈ (commR p t).set := by
  obtain ⟨t, h1, h2⟩ := crow_cover (i 0).val (i 0).isLt
  refine ⟨t, ?_⟩
  rw [Rect.mem_set_unit]
  intro a
  match a with
  | ⟨0, _⟩ => exact ⟨h1, h2⟩
  | ⟨1, _⟩ => exact ⟨Nat.zero_le _, by show (i 1).val < 0 + W3 p; have : (i 1).val < W3 p := (i 1).isLt; omega⟩

theorem comm_cut0 (c : Dev nD) : anyP (F := F) ((c : Thread nD τ).loc cc0_scratch3) Finset.univ
    = iprop(commE c 0 0 ∗ commE c 0 1 ∗ commE c 0 2 ∗ commE c 0 3 ∗ commE c 0 4 ∗ commE c 0 5) := by
  have e (t : Fin 6) : commE (F := F) c 0 t = anyP ((c : Thread nD τ).loc cc0_scratch3) (commR 0 t).set := by
    exact congrArg (anyP ((c : Thread nD τ).loc cc0_scratch3)) (View.set_slice_whole (cc0_scratch3 : Ref sig .tc) (commR 0 t))
  rw [e, e, e, e, e, e]
  exact any_cut6 ((c : Thread nD τ).loc cc0_scratch3) (fun t => (commR 0 t).set) (fun s t h => rows_apart (crow_apart s t h)) (rows_cover 0)
theorem comm_cut1 (c : Dev nD) : anyP (F := F) ((c : Thread nD τ).loc cc0_scratch4) Finset.univ
    = iprop(commE c 1 0 ∗ commE c 1 1 ∗ commE c 1 2 ∗ commE c 1 3 ∗ commE c 1 4 ∗ commE c 1 5) := by
  have e (t : Fin 6) : commE (F := F) c 1 t = anyP ((c : Thread nD τ).loc cc0_scratch4) (commR 1 t).set := by
    exact congrArg (anyP ((c : Thread nD τ).loc cc0_scratch4)) (View.set_slice_whole (cc0_scratch4 : Ref sig .tc) (commR 1 t))
  rw [e, e, e, e, e, e]
  exact any_cut6 ((c : Thread nD τ).loc cc0_scratch4) (fun t => (commR 1 t).set) (fun s t h => rows_apart (crow_apart s t h)) (rows_cover 1)
theorem comm_cut2 (c : Dev nD) : anyP (F := F) ((c : Thread nD τ).loc cc0_scratch5) Finset.univ
    = iprop(commE c 2 0 ∗ commE c 2 1 ∗ commE c 2 2 ∗ commE c 2 3 ∗ commE c 2 4 ∗ commE c 2 5) := by
  have e (t : Fin 6) : commE (F := F) c 2 t = anyP ((c : Thread nD τ).loc cc0_scratch5) (commR 2 t).set := by
    exact congrArg (anyP ((c : Thread nD τ).loc cc0_scratch5)) (View.set_slice_whole (cc0_scratch5 : Ref sig .tc) (commR 2 t))
  rw [e, e, e, e, e, e]
  exact any_cut6 ((c : Thread nD τ).loc cc0_scratch5) (fun t => (commR 2 t).set) (fun s t h => rows_apart (crow_apart s t h)) (rows_cover 2)

/-- The three landing buffers are the landing rows of all messages. -/
theorem comm_cut (c : Dev nD) : iprop(anyP (F := F) ((c : Thread nD τ).loc cc0_scratch3) Finset.univ
      ∗ anyP ((c : Thread nD τ).loc cc0_scratch4) Finset.univ ∗ anyP ((c : Thread nD τ).loc cc0_scratch5) Finset.univ)
    ⊢ (bigSep Finset.univ fun k : Msg => commE (F := F) c k.1 k.2) := by
  rw [comm_cut0, comm_cut1, comm_cut2, bigSep_msgs]
  iintro ⟨⟨A0, A1, A2, A3, A4, A5⟩, ⟨B0, B1, B2, B3, B4, B5⟩, ⟨C0, C1, C2, C3, C4, C5⟩⟩
  isplitl [A0]; · iexact A0
  isplitl [B0]; · iexact B0
  isplitl [C0]; · iexact C0
  isplitl [A1]; · iexact A1
  isplitl [B1]; · iexact B1
  isplitl [C1]; · iexact C1
  isplitl [A2]; · iexact A2
  isplitl [B2]; · iexact B2
  isplitl [C2]; · iexact C2
  isplitl [A3]; · iexact A3
  isplitl [B3]; · iexact B3
  isplitl [C3]; · iexact C3
  isplitl [A4]; · iexact A4
  isplitl [B4]; · iexact B4
  isplitl [C4]; · iexact C4
  isplitl [A5]; · iexact A5
  isplitl [B5]; · iexact B5
  iexact C5

theorem comm_join (c : Dev nD) : (bigSep Finset.univ fun k : Msg => commE (F := F) c k.1 k.2)
    ⊢ iprop(anyP (F := F) ((c : Thread nD τ).loc cc0_scratch3) Finset.univ
      ∗ anyP ((c : Thread nD τ).loc cc0_scratch4) Finset.univ ∗ anyP ((c : Thread nD τ).loc cc0_scratch5) Finset.univ) := by
  rw [comm_cut0, comm_cut1, comm_cut2, bigSep_msgs]
  iintro ⟨A0, B0, C0, A1, B1, C1, A2, B2, C2, A3, B3, C3, A4, B4, C4, A5, B5, C5⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [B0 B1 B2 B3 B4 B5]
  · isplitl [B0]; · iexact B0
    isplitl [B1]; · iexact B1
    isplitl [B2]; · iexact B2
    isplitl [B3]; · iexact B3
    isplitl [B4]; · iexact B4
    iexact B5
  isplitl [C0]; · iexact C0
  isplitl [C1]; · iexact C1
  isplitl [C2]; · iexact C2
  isplitl [C3]; · iexact C3
  isplitl [C4]; · iexact C4
  iexact C5

/-! ## The slots -/

theorem slots_apart : Disjoint (slotR 0).set (slotR 1).set := by
  rw [Finset.disjoint_left]
  intro i h1 h2
  rw [Rect.mem_set_unit] at h1 h2
  have e1 : 0 ≤ (i 0).val ∧ (i 0).val < 0 + 1 := h1 0
  have e2 : 1 ≤ (i 0).val ∧ (i 0).val < 1 + 1 := h2 0
  omega

theorem slots_cover : (Finset.univ : Finset S2x2048x1x128.Idx) = (slotR 0).set ∪ (slotR 1).set := by
  ext i
  refine ⟨fun _ => ?_, fun _ => Finset.mem_univ _⟩
  have h0 : (i 0).val < 2 := (i 0).isLt
  have h1 : (i 1).val < 2048 := (i 1).isLt
  have h2 : (i 2).val < 1 := (i 2).isLt
  have h3 : (i 3).val < 128 := (i 3).isLt
  rw [Finset.mem_union, Rect.mem_set_unit, Rect.mem_set_unit]
  rcases Nat.lt_or_ge (i 0).val 1 with h | h
  · refine Or.inl fun a => ?_
    match a with
    | ⟨0, _⟩ => exact ⟨Nat.zero_le _, by show (i 0).val < 0 + 1; omega⟩
    | ⟨1, _⟩ => exact ⟨Nat.zero_le _, by show (i 1).val < 0 + 2048; omega⟩
    | ⟨2, _⟩ => exact ⟨Nat.zero_le _, by show (i 2).val < 0 + 1; omega⟩
    | ⟨3, _⟩ => exact ⟨Nat.zero_le _, by show (i 3).val < 0 + 128; omega⟩
  · refine Or.inr fun a => ?_
    match a with
    | ⟨0, _⟩ => exact ⟨h, by show (i 0).val < 1 + 1; omega⟩
    | ⟨1, _⟩ => exact ⟨Nat.zero_le _, by show (i 1).val < 0 + 2048; omega⟩
    | ⟨2, _⟩ => exact ⟨Nat.zero_le _, by show (i 2).val < 0 + 1; omega⟩
    | ⟨3, _⟩ => exact ⟨Nat.zero_le _, by show (i 3).val < 0 + 128; omega⟩

theorem slot_cutK (c : Dev nD) : anyP (F := F) ((c : Thread nD τ).loc cc0_scratch0) Finset.univ = iprop(slotE false c 0 ∗ slotE false c 1) := by
  have e (b : Fin 2) : slotE (F := F) false c b = anyP ((c : Thread nD τ).loc cc0_scratch0) (slotR b).set := by
    exact congrArg (anyP ((c : Thread nD τ).loc cc0_scratch0)) (View.set_slice_whole (cc0_scratch0 : Ref sig .tc) (slotR b))
  rw [e, e]; exact any_cut _ (slots_cover) slots_apart
theorem slot_cutV (c : Dev nD) : anyP (F := F) ((c : Thread nD τ).loc cc0_scratch1) Finset.univ = iprop(slotE true c 0 ∗ slotE true c 1) := by
  have e (b : Fin 2) : slotE (F := F) true c b = anyP ((c : Thread nD τ).loc cc0_scratch1) (slotR b).set := by
    exact congrArg (anyP ((c : Thread nD τ).loc cc0_scratch1)) (View.set_slice_whole (cc0_scratch1 : Ref sig .tc) (slotR b))
  rw [e, e]; exact any_cut _ (slots_cover) slots_apart

end Cert.MeshAttn
-- ==== Proof.Launch.lean ====
/-
The launch: what each device starts from, how the cells are allocated and their tokens dealt, and the run of the whole
program from the run of the body.
-/
module

public import proofs.«01_k».proof.Proof.Cut

@[expose] public section

noncomputable section

namespace Cert.MeshAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

open Idealize.ShloMosaic.Pipeline (Dat Cfg Window BodyObligation cellOf)

variable (ρ : Dev nD → PrngReg)

def s₀ : MemSt nD τ sig (Elt F) := ⟨m, fun _ => 0, ρ⟩

/-! ## What a device starts from -/

/-- The positions and tokens of one message, its credit apart. -/
def pkG (c : Dev nD) (k : Msg) : sProp 𝕄 :=
  iprop(atPos ER (xCell c k.1 k.2 false) 0 ∅ 0 ∗ atPos ER (xCell c k.1 k.2 true) 0 ∅ 0
    ∗ dutyTok ER (xCell c k.1 k.2 false) 0 0 ∗ dutyTok ER (xCell (prt c k.1 k.2) k.1 k.2 true) 0 0)

/-- Its local semaphores at zero. -/
def locs (c : Dev nD) : sProp 𝕄 :=
  iprop(locV (F := F) false c 0 ∗ locV (F := F) false c 1 ∗ locV (F := F) true c 0 ∗ locV (F := F) true c 1)

/-- The barrier tokens a device pays with. -/
def barT (c : Dev nD) : sProp 𝕄 := bigSep Finset.univ fun d : Fin 3 => dutyTok ER (barCell (nb c d)) 0 d

def linear (c : Dev nD) : sProp 𝕄 :=
  iprop((bigSep Finset.univ fun k : Msg => pkG (F := F) c k) ∗ barT (F := F) c ∗ atPos ER (barCell c) 0 ∅ 0 ∗ locs (F := F) c)

def creditsP (c : Dev nD) : sProp 𝕄 :=
  iprop(cred (tallyAt (barCell c) () 3) ∗ bigSep Finset.univ fun k : Msg => cred (tallyAt (xCell c k.1 k.2 true) () (NC k.1 k.2)))

def start (c : Dev nD) : sProp 𝕄 :=
  iprop((∃ K, PC m K) ∗ linear (F := F) c ∗ creditsP (F := F) c ∗ arrP m false c ∗ arrP m true c)

def Φ₀ (c : Dev nD) : sProp 𝕄 :=
  iprop(start m c ∗ slotE (F := F) false c 0 ∗ slotE (F := F) false c 1 ∗ slotE (F := F) true c 0 ∗ slotE (F := F) true c 1
    ∗ atP m c 0 ∗ bigSep Finset.univ fun k : Msg => commE (F := F) c k.1 k.2)

def Φ₁ (c : Dev nD) : sProp 𝕄 :=
  iprop(arrP m false c ∗ arrP m true c ∗ semVal (barCell c) 0 ∗ locs (F := F) c ∗ (bigSep Finset.univ fun k : Msg => pk3 (F := F) c k.1 k.2)
    ∗ slotE (F := F) false c 0 ∗ slotE (F := F) false c 1 ∗ slotE (F := F) true c 0 ∗ slotE (F := F) true c 1
    ∗ atV m c ∗ bigSep Finset.univ fun k : Msg => commE (F := F) c k.1 k.2)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => wqC m c
    | ⟨2, _⟩ => woC m c
    | ⟨3, _⟩ => outC m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ ∗ stg c cc0_stg0_0 (xC m c) ∗ stg c cc0_stg1_0 (wqC m c)
    ∗ stg c cc0_stg2_0 (woC m c) ∗ stg c cc0_stg3_0 (outC m))

theorem bigSep_fin3 (Φ : Fin 3 → sProp 𝕄) : bigSep Finset.univ Φ = iprop(Φ 0 ∗ Φ 1 ∗ Φ 2) := by
  rw [bigSep_univ_eq_bigSepL [0, 1, 2] (by decide) (by decide) Φ]
  simp only [bigSepL_cons_cons, bigSepL_singleton]
  rfl

theorem pack_intro (c : Dev nD) (k : Msg) : iprop(pkG (F := F) c k ∗ cred (tallyAt (xCell c k.1 k.2 true) () (NC k.1 k.2))) ⊢ pk (F := F) c k := by
  unfold pkG pk
  iintro ⟨⟨H1, H2, H3, H4⟩, H5⟩
  isplitl [H1]; · iexact H1
  isplitl [H2]; · iexact H2
  isplitl [H3]; · iexact H3
  isplitl [H4]; · iexact H4
  iexact H5

/-- Tokens and credits make the messages' packs. -/
theorem packs_intro (c : Dev nD) : iprop((bigSep Finset.univ fun k : Msg => pkG (F := F) c k)
      ∗ bigSep Finset.univ fun k : Msg => cred (tallyAt (xCell c k.1 k.2 true) () (NC k.1 k.2)))
    ⊢ (bigSep Finset.univ fun k : Msg => pk (F := F) c k : sProp 𝕄) := by
  rw [← bigSep_sep']
  exact bigSep_mono fun k _ => pack_intro c k

theorem body_pre_run (c : Dev nD) : bodyPre m ρ c ⊢ WP c (cc0_body (F := F) xM (Memref.isWhole_whole _) wqM (Memref.isWhole_whole _) woM (Memref.isWhole_whole _)
      kArr (Memref.isWhole_whole _) vArr (Memref.isWhole_whole _) outM (Memref.isWhole_whole _) kScr (Memref.isWhole_whole _) vScr (Memref.isWhole_whole _)
      atM (Memref.isWhole_whole _) (Memref.whole cc0_scratch3) (Memref.isWhole_whole _) (Memref.whole cc0_scratch4) (Memref.isWhole_whole _)
      (Memref.whole cc0_scratch5) (Memref.isWhole_whole _) cc0_scratch6 cc0_scratch7 cc0_scratch8 cc0_scratch9 cc0_scratch10 cc0_scratch11)
      (fun _ => bodyPost m ρ c) := by
  unfold bodyPre Φ₀ start linear creditsP locs barT
  rw [hand_bar, bigSep_fin3, bigSep_fin3]
  iintro ⟨⟨⟨⟨%K, HPC⟩, ⟨Hpk, ⟨Hd0, Hd1, Hd2⟩, Hat, HL0, HL1, HL2, HL3⟩, ⟨Hcb, Hcx⟩, HaK, HaV⟩, HsK0, HsK1, HsV0, HsV1, Hatt, ⟨Hb0, Hb1, Hb2⟩⟩,
    Ho, ⟨%d0, %g0, %hg0, Hx⟩, ⟨%d1, %g1, %hg1, Hwq⟩, ⟨%d2, %g2, %hg2, Hwo⟩, ⟨%d3, %g3, %hg3, Hout⟩⟩
  have e0 : g0 = xC m c := by rw [hg0]; unfold Dat.before; rw [if_pos (fetch0_0 t0_0)]; rfl
  have e1 : g1 = wqC m c := by rw [hg1]; unfold Dat.before; rw [if_pos (fetch0_1 t0_0)]; rfl
  have e2 : g2 = woC m c := by rw [hg2]; unfold Dat.before; rw [if_pos (fetch0_2 t0_0)]; rfl
  subst e0; subst e1; subst e2
  unfold Dat.owesAt Pipeline.owesWithin
  icases Ho with ⟨%W, %hW, HO⟩
  ihave Hpks := (packs_intro (F := F) c) $$ [Hpk Hcx]
  · isplitl [Hpk] <;> iassumption
  ihave Hcut := (Entails.of_eq (show (((c : Thread nD τ).loc cc0_stg3_0) ↦{fullShare} g3 : sProp 𝕄) = _ from out_cutAll (F := F) c g3)) $$ Hout
  icases Hcut with ⟨⟨Ho00, Ho05⟩, ⟨Ho10, Ho15⟩, ⟨Ho20, Ho25⟩⟩
  iapply (body_run m K c (f := g3))
  isplitl [HPC]; · iexact HPC
  isplitl [Ho00]; · iexact Ho00
  isplitl [Ho05]; · iexact Ho05
  isplitl [Ho10]; · iexact Ho10
  isplitl [Ho15]; · iexact Ho15
  isplitl [Ho20]; · iexact Ho20
  isplitl [Ho25]; · iexact Ho25
  isplitl [Hpks]; · iexact Hpks
  isplitl [Hx]; · unfold xP; iexact Hx
  isplitl [Hwq]; · unfold wqP; iexact Hwq
  isplitl [Hwo]; · unfold woP; iexact Hwo
  isplitl [Hatt]; · iexact Hatt
  isplitl [HaK]; · iexact HaK
  isplitl [HsK0]; · iexact HsK0
  isplitl [HL0]; · iexact HL0
  isplitl [HsK1]; · iexact HsK1
  isplitl [HL1]; · iexact HL1
  isplitl [HaV]; · iexact HaV
  isplitl [HsV0]; · iexact HsV0
  isplitl [HL2]; · iexact HL2
  isplitl [HsV1]; · iexact HsV1
  isplitl [HL3]; · iexact HL3
  isplitl [HO]; · iexists W; iexact HO
  isplitl [Hd0]; · iexact Hd0
  isplitl [Hb0]; · iexact Hb0
  isplitl [Hd1]; · iexact Hd1
  isplitl [Hb1]; · iexact Hb1
  isplitl [Hd2]; · iexact Hd2
  isplitl [Hb2]; · iexact Hb2
  isplitl [Hat]; · iexact Hat
  isplitl [Hcb]; · iexact Hcb
  iintro ⟨Hx, Hwq, Hwo, Hatt, HO, Hbar, HsK0, HL0, HsV0, HL2, HaK, HsK1, HL1, HaV, HsV1, HL3,
    P00, P10, P20, P01, P11, P21, P02, P12, P22, P03, P13, P23, P04, P14, P24, P05, P15, P25,
    C00, C10, C20, C01, C11, C21, C02, C12, C22, C03, C13, C23, C04, C14, C24,
    M0, C05, N0, M1, C15, N1, M2, C25, N2⟩
  ihave HK0 := (slot_any m c false 6) $$ HsK0
  ihave HV0 := (slot_any m c true 6) $$ HsV0
  ihave HK1 := (slot_any m c false 7) $$ HsK1
  ihave HV1 := (slot_any m c true 7) $$ HsV1
  ihave Hout := (Entails.of_eq (out_whole m c)) $$ [M0 N0 M1 N1 M2 N2]
  · isplitl [M0 N0]
    · isplitl [N0] <;> iassumption
    isplitl [M1 N1]
    · isplitl [N1] <;> iassumption
    isplitl [N2] <;> iassumption
  unfold owX outP xP wqP woP
  icases HO with ⟨%W', HO⟩
  unfold bodyPost Φ₁ locs Dat.owesAt Pipeline.owesWithin
  rw [show (dats m ρ 0 c).owed t0_0.succ = 0 from rfl, bigSep_msgs, bigSep_msgs, ow_done]
  isplitr [HO Hx Hwq Hwo Hout]
  · isplitl [HaK]; · iexact HaK
    isplitl [HaV]; · iexact HaV
    isplitl [Hbar]; · iexact Hbar
    isplitl [HL0 HL1 HL2 HL3]
    · isplitl [HL0]; · iexact HL0
      isplitl [HL1]; · iexact HL1
      isplitl [HL2] <;> iassumption
    isplitl [P00 P10 P20 P01 P11 P21 P02 P12 P22 P03 P13 P23 P04 P14 P24 P05 P15 P25]
    · isplitl [P00]; · iexact P00
      isplitl [P10]; · iexact P10
      isplitl [P20]; · iexact P20
      isplitl [P01]; · iexact P01
      isplitl [P11]; · iexact P11
      isplitl [P21]; · iexact P21
      isplitl [P02]; · iexact P02
      isplitl [P12]; · iexact P12
      isplitl [P22]; · iexact P22
      isplitl [P03]; · iexact P03
      isplitl [P13]; · iexact P13
      isplitl [P23]; · iexact P23
      isplitl [P04]; · iexact P04
      isplitl [P14]; · iexact P14
      isplitl [P24]; · iexact P24
      isplitl [P05]; · iexact P05
      isplitl [P15]; · iexact P15
      iexact P25
    isplitl [HK0]; · iexact HK0
    isplitl [HK1]; · iexact HK1
    isplitl [HV0]; · iexact HV0
    isplitl [HV1]; · iexact HV1
    isplitl [Hatt]; · iexact Hatt
    isplitl [C00]; · iexact C00
    isplitl [C10]; · iexact C10
    isplitl [C20]; · iexact C20
    isplitl [C01]; · iexact C01
    isplitl [C11]; · iexact C11
    isplitl [C21]; · iexact C21
    isplitl [C02]; · iexact C02
    isplitl [C12]; · iexact C12
    isplitl [C22]; · iexact C22
    isplitl [C03]; · iexact C03
    isplitl [C13]; · iexact C13
    isplitl [C23]; · iexact C23
    isplitl [C04]; · iexact C04
    isplitl [C14]; · iexact C14
    isplitl [C24]; · iexact C24
    isplitl [C05]; · iexact C05
    isplitl [C15]; · iexact C15
    iexact C25
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

set_option maxRecDepth 20000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact body_pre_run m ρ c

end Cert.MeshAttn
-- ==== Proof.Run.lean ====
/-
The cells allocated, their tokens and credits dealt to the devices that pay and wait, and the run of the whole program.
-/
module

public import proofs.«01_k».proof.Proof.Launch
public import Idealize.ShloMosaic.Lib.Pipeline.CollectiveSegs

@[expose] public section

noncomputable section

namespace Cert.MeshAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

open Idealize.ShloMosaic.Pipeline (Dat Cfg Window BodyObligation cellOf)

variable (ρ : Dev nD → PrngReg)

/-! ## Cells and tokens -/

/-- The kernel's own semaphores: the messages' and the local copies'. -/
abbrev Ok : Type := (Msg × Bool) ⊕ (Bool × Fin 2)
def osem : Ok → SemLoc sig
  | .inl ((p, t), b) => .dma (xS p t b)
  | .inr (a, b) => .dma (locS a b)

theorem locS_inj : ∀ a b a' b', locS a b = locS a' b' → (a, b) = (a', b') := by decide +kernel
theorem osem_scoped_x : ∀ p t b, (SemLoc.dma (xS p t b) : SemLoc sig).isScoped .tc = true := by decide +kernel
theorem osem_scoped_l : ∀ a b, (SemLoc.dma (locS a b) : SemLoc sig).isScoped .tc = true := by decide +kernel
theorem xS_ne_locS : ∀ p t b a b', xS p t b ≠ locS a b' := by decide +kernel
theorem xS_big : ∀ p t b, 4 ≤ (xS p t b).val := by decide +kernel
theorem locS_big : ∀ a b, 4 ≤ (locS a b).val := by decide +kernel
theorem win_small : ∀ (w : Fin 4) (s : Fin (spec0 w).nbuf), ((spec0 w).sem s).val < 4 := by decide +kernel

theorem ownSemFacts : Pipeline.OwnSemFacts cfg0.spec osem where
  isScoped k := by
    rcases k with ⟨⟨p, t⟩, b⟩ | ⟨a, b⟩
    · exact osem_scoped_x p t b
    · exact osem_scoped_l a b
  inj k k' h := by
    rcases k with ⟨⟨p, t⟩, b⟩ | ⟨a, b⟩ <;> rcases k' with ⟨⟨p', t'⟩, b'⟩ | ⟨a', b'⟩
    · have h' : xS p t b = xS p' t' b' := SemLoc.dma.inj h
      obtain ⟨rfl, rfl, rfl⟩ := xS_inj _ _ _ _ _ _ h'; rfl
    · exact absurd (SemLoc.dma.inj h) (xS_ne_locS _ _ _ _ _)
    · exact absurd (SemLoc.dma.inj h).symm (xS_ne_locS _ _ _ _ _)
    · have h' : locS a b = locS a' b' := SemLoc.dma.inj h
      exact congrArg Sum.inr (locS_inj _ _ _ _ h')
  disj k w s h := by
    have hw := win_small w s
    rcases k with ⟨⟨p, t⟩, b⟩ | ⟨a, b⟩
    · have e : xS p t b = (spec0 w).sem s := SemLoc.dma.inj h
      have := xS_big p t b
      rw [e] at this; omega
    · have e : locS a b = (spec0 w).sem s := SemLoc.dma.inj h
      have := locS_big a b
      rw [e] at this; omega

theorem share_eq (c : Dev nD) (w : Fin cfg0.W) : (dats m ρ 0 c).share w = fullShare := by unfold Dat.share; split <;> rfl

theorem kcell_injective : Function.Injective (kcell : Dev nD × Ck → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def allCells : Finset (GSem nD τ sig) := Finset.univ.map ⟨kcell, kcell_injective⟩

/-- A device's own cells' duty tokens as minted: three of its barrier cell, one of each message cell. -/
abbrev Tk : Type := Fin 3 ⊕ (Msg × Bool)
def tkCell : Tk → Ck
  | .inl _ => none
  | .inr x => some x
def tkDuty : Tk → Fin 3
  | .inl d => d
  | .inr _ => 0
def tokOf (cj : Dev nD × Tk) : GSem nD τ sig × ℕ × Fin 3 := (kcell (cj.1, tkCell cj.2), 0, tkDuty cj.2)
theorem tokOf_injective : Function.Injective tokOf := by
  rintro ⟨c, j⟩ ⟨c', j'⟩ h
  have h1 : kcell (c, tkCell j) = kcell (c', tkCell j') := congrArg Prod.fst h
  have h2 : tkDuty j = tkDuty j' := congrArg (fun x : GSem nD τ sig × ℕ × Fin 3 => x.2.2) h
  have h3 := kcell_injective h1
  have h4 : c = c' := congrArg Prod.fst h3
  have h5 : tkCell j = tkCell j' := congrArg Prod.snd h3
  subst h4
  rcases j with d | x <;> rcases j' with d' | x'
  · have h2' : d = d' := h2
    rw [h2']
  · exact absurd h5 (by intro e; cases e)
  · exact absurd h5 (by intro e; cases e)
  · have h5' : x = x' := Option.some.inj h5
    rw [h5']
def allToks : Finset (GSem nD τ sig × ℕ × Fin 3) := Finset.univ.map ⟨tokOf, tokOf_injective⟩

def u₀ : UU :=
  (initOf (Pipeline.cells cfgs cellOf_inj) (Pipeline.launchToks cfgs cellOf_inj), (initOf allCells allToks, 1))

/-- The duty tokens of device `c`'s own cells. -/
def toks (c : Dev nD) : sProp 𝕄 :=
  iprop((bigSep Finset.univ fun d : Fin 3 => dutyTok ER (barCell c) 0 d) ∗ bigSep Finset.univ fun x : Msg × Bool => dutyTok ER (xCell c x.1.1 x.1.2 x.2) 0 0)

/-- What the launch element deals device `c`. -/
def G (c : Dev nD) : sProp 𝕄 :=
  iprop((bigSep Finset.univ fun k : Ck => roundState ER (Rd m) (kcell (c, k)) 0)
    ∗ (bigSep Finset.univ fun k : Ck => iprop(atPos ER (kcell (c, k)) 0 ∅ 0 ∗ reached ER (kcell (c, k)) 0)) ∗ toks (F := F) c)

/-- What the global step makes of it. -/
def G' (c : Dev nD) : sProp 𝕄 := iprop((∃ K, records m K) ∗ linear (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Ck => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Semaphores -/

theorem bigSep_ck (Φ : Ck → sProp 𝕄) : bigSep Finset.univ Φ = iprop((bigSep Finset.univ fun x : Msg × Bool => Φ (some x)) ∗ Φ none) := by
  rw [bigSep_univ_equiv (Equiv.optionEquivSumPUnit (Msg × Bool)).symm Φ, bigSep_univ_sum]
  congr 1
  exact bigSep_univ_eq_bigSepL (I := PUnit.{1}) [⟨⟩] (by decide) (by decide) _

theorem bigSep_bool (Φ : Bool → sProp 𝕄) : bigSep Finset.univ Φ = iprop(Φ false ∗ Φ true) := by
  rw [bigSep_univ_eq_bigSepL [false, true] (by decide) (by decide) Φ]
  simp only [bigSepL_cons_cons, bigSepL_singleton]
  rfl
theorem bigSep_mb (Φ : Msg × Bool → sProp 𝕄) : bigSep Finset.univ Φ = bigSep Finset.univ fun k : Msg => iprop(Φ (k, false) ∗ Φ (k, true)) := by
  rw [bigSep_univ_prod]
  exact bigSep_congr fun k _ => bigSep_bool _

theorem locs_eq (c : Dev nD) : locs (F := F) c = bigSep Finset.univ fun k : Bool × Fin 2 => (semVal ((c : Thread nD τ), osem (.inr k)) 0 : sProp 𝕄) := by
  rw [bigSep_univ_eq_bigSepL [(false, 0), (false, 1), (true, 0), (true, 1)] (by decide) (by decide)]
  simp only [bigSepL_cons_cons, bigSepL_singleton]
  rfl

theorem ownSems0_eq (c : Dev nD) : (Pipeline.ownSems0 (Ix := Unit) (Name := ℕ) (U := UU) (Lvl := ℕ) (Val := Elt F) (τ := τ) osem c : sProp 𝕄)
    = iprop((bigSep Finset.univ fun x : Msg × Bool => semVal (xCell c x.1.1 x.1.2 x.2) 0) ∗ locs (F := F) c) := by
  unfold Pipeline.ownSems0
  rw [bigSep_univ_sum, locs_eq]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Ck => semVal (kcell (c, k)) 0) ∗ locs (F := F) c) : sProp 𝕄) := by
  rw [ownSems0_eq, unscopedSems0_eq, bigSep_ck]
  iintro ⟨⟨HS, HL⟩, HB⟩
  isplitr [HL]
  · isplitl [HS]; · iexact HS
    iexact HB
  iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c ∗ locs (F := F) c) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : Ck => semVal (kcell (c, k)) 0) ∗ bigSep Finset.univ fun k : Ck => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## Dealing the tokens -/

def barE : Dev nD × Fin 3 ≃ Dev nD × Fin 3 :=
  ⟨fun x => (nb x.1 x.2, x.2), fun x => (nb x.1 x.2, x.2), fun x => by show (nb (nb x.1 x.2) x.2, x.2) = x; rw [nb_nb],
    fun x => by show (nb (nb x.1 x.2) x.2, x.2) = x; rw [nb_nb]⟩
def recvE : Dev nD × Msg ≃ Dev nD × Msg :=
  ⟨fun x => (prt x.1 x.2.1 x.2.2, x.2), fun x => (prt x.1 x.2.1 x.2.2, x.2), fun x => by show (prt (prt x.1 x.2.1 x.2.2) x.2.1 x.2.2, x.2) = x; rw [prt_prt],
    fun x => by show (prt (prt x.1 x.2.1 x.2.2) x.2.1 x.2.2, x.2) = x; rw [prt_prt]⟩

theorem bar_around : (bigSep Finset.univ fun c : Dev nD => bigSep Finset.univ fun d : Fin 3 => (dutyTok ER (barCell c) 0 d : sProp 𝕄))
    = bigSep Finset.univ fun c : Dev nD => barT (F := F) c := by
  unfold barT
  rw [← bigSep_univ_prod (fun x : Dev nD × Fin 3 => (dutyTok ER (barCell x.1) 0 x.2 : sProp 𝕄)), bigSep_univ_equiv barE, bigSep_univ_prod]
  rfl
theorem recv_around : (bigSep Finset.univ fun c : Dev nD => bigSep Finset.univ fun k : Msg => (dutyTok ER (xCell c k.1 k.2 true) 0 0 : sProp 𝕄))
    = bigSep Finset.univ fun c : Dev nD => bigSep Finset.univ fun k : Msg => (dutyTok ER (xCell (prt c k.1 k.2) k.1 k.2 true) 0 0 : sProp 𝕄) := by
  rw [← bigSep_univ_prod (fun x : Dev nD × Msg => (dutyTok ER (xCell x.1 x.2.1 x.2.2 true) 0 0 : sProp 𝕄)), bigSep_univ_equiv recvE, bigSep_univ_prod]
  rfl

/-- A device's tokens after the deal. -/
def payToks (c : Dev nD) : sProp 𝕄 :=
  iprop(barT (F := F) c ∗ (bigSep Finset.univ fun k : Msg => dutyTok ER (xCell c k.1 k.2 false) 0 0)
    ∗ bigSep Finset.univ fun k : Msg => dutyTok ER (xCell (prt c k.1 k.2) k.1 k.2 true) 0 0)

theorem toks_around : (bigSep Finset.univ fun c : Dev nD => (toks c : sProp 𝕄)) ⊢ bigSep Finset.univ fun c : Dev nD => payToks (F := F) c := by
  have e (c : Dev nD) : (bigSep Finset.univ fun x : Msg × Bool => (dutyTok ER (xCell c x.1.1 x.1.2 x.2) 0 0 : sProp 𝕄))
      = iprop((bigSep Finset.univ fun k : Msg => dutyTok ER (xCell c k.1 k.2 false) 0 0) ∗ bigSep Finset.univ fun k : Msg => dutyTok ER (xCell c k.1 k.2 true) 0 0) := by
    rw [bigSep_mb, bigSep_sep']
  unfold toks payToks
  rw [bigSep_sep', bigSep_sep', bigSep_sep', bigSep_congr (fun (c : Dev nD) _ => e c), bigSep_sep', bar_around, recv_around]

theorem linear_intro (c : Dev nD) : iprop((bigSep Finset.univ fun k : Ck => (atPos ER (kcell (c, k)) 0 ∅ 0 : sProp 𝕄)) ∗ payToks (F := F) c ∗ locs (F := F) c)
    ⊢ linear (F := F) c := by
  unfold linear payToks pkG
  rw [bigSep_ck, bigSep_mb, bigSep_sep', bigSep_sep', bigSep_sep', bigSep_sep']
  iintro ⟨⟨⟨HF, HT⟩, HB⟩, ⟨Hb, Hs, Hr⟩, HL⟩
  isplitl [HF HT Hs Hr]
  · isplitl [HF]; · iexact HF
    isplitl [HT]; · iexact HT
    isplitl [Hs]; · iexact Hs
    iexact Hr
  isplitl [Hb]; · iexact Hb
  isplitl [HB]; · iexact HB
  iexact HL

theorem linear_all : iprop((bigSep Finset.univ fun c : Dev nD => bigSep Finset.univ fun k : Ck => (atPos ER (kcell (c, k)) 0 ∅ 0 : sProp 𝕄))
      ∗ (bigSep Finset.univ fun c : Dev nD => payToks (F := F) c) ∗ bigSep Finset.univ fun c : Dev nD => locs (F := F) c)
    ⊢ bigSep Finset.univ fun c : Dev nD => linear (F := F) c := by
  rw [← bigSep_sep', ← bigSep_sep']
  exact bigSep_mono fun c _ => linear_intro c

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Ck → ℕ) (c : Dev nD) : iprop(records m K ∗ linear (F := F) c) ⊢ G' m c := by
  unfold G'
  iintro ⟨HR, HL⟩
  isplitl [HR]; · iexists K; iexact HR
  iexact HL

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c ∗ locs (F := F) c) : sProp 𝕄)
      ⊢ bigSep Finset.univ (G' m) := by
  rw [bigSep_sep', bigSep_sep', bigSep_sep', ← bigSep_univ_prod (fun ck : Dev nD × Ck => iprop(∃ κ : ℕ, cellInv ER (Rd m) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok, HL⟩
  ihave HK := (BI.bigSep_exists_pi Finset.univ (fun (ck : Dev nD × Ck) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_all (F := F))
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩

theorem msgAt_inj : ∀ i ∈ Finset.range 18, ∀ j ∈ Finset.range 18, msgAt (17 - i) = msgAt (17 - j) → i = j := by decide +kernel
theorem msgAt_surj : ∀ k : Msg, ∃ i ∈ Finset.range 18, msgAt (17 - i) = k := by decide +kernel

theorem ow_zero (c : Dev nD) : ow c 0 = ∑ k : Msg, (tallyAt (xCell (prt c k.1 k.2) k.1 k.2 true) () (NC k.1 k.2) : CellTallies nD τ sig Unit) := by
  unfold ow
  exact Finset.sum_nbij (fun i => msgAt (17 - i)) (fun _ _ => Finset.mem_univ _) (fun i hi j hj h => msgAt_inj i hi j hj h)
    (fun k _ => by obtain ⟨i, hi, h⟩ := msgAt_surj k; exact ⟨i, hi, h⟩) (fun _ _ => rfl)

theorem x_ne_bar (c c' : Dev nD) (p t b) : barCell c ≠ xCell c' p t b := by
  intro h
  have h2 : csem none = csem (some ((p, t), b)) := congrArg Prod.snd h
  exact absurd (csem_injective h2) (by intro e; cases e)

theorem bar_tally (d : Fin 3) (e c : Dev nD) : (tallyAt (barCell (nb e d)) () 1 : CellTallies nD τ sig Unit) (barCell c) () = if e = nb c d then 1 else 0 := by
  rw [tallyAt_apply]
  by_cases h : e = nb c d
  · subst h; rw [nb_nb, if_pos ⟨rfl, rfl⟩, if_pos rfl]
  · rw [if_neg (fun ⟨h1, _⟩ => h (by rw [bar_eq_iff.mp h1, nb_nb])), if_neg h]

theorem owed_bar (e c : Dev nD) : O₀ e (barCell c) () = (if e = nb c 2 then 1 else 0) + (if e = nb c 1 then 1 else 0) + (if e = nb c 0 then 1 else 0) := by
  have h : ow e 0 (barCell c) () = 0 := by
    rw [ow_zero, Finset.sum_apply, Finsupp.finset_sum_apply]
    exact Finset.sum_eq_zero fun k _ => by rw [tallyAt_ne_cell (x_ne_bar _ _ _ _ _)]; rfl
  unfold O₀ O₁ O₂
  rw [Pi.add_apply, Finsupp.add_apply, Pi.add_apply, Finsupp.add_apply, Pi.add_apply, Finsupp.add_apply, h, bar_tally, bar_tally, bar_tally, Nat.zero_add]

theorem xCell_inj {c c' : Dev nD} {k k' : Msg} (h : xCell c k.1 k.2 true = xCell c' k'.1 k'.2 true) : c = c' ∧ k = k' := by
  have h2 : kcell (c, some ((k.1, k.2), true)) = kcell (c', some ((k'.1, k'.2), true)) := h
  have h3 := kcell_injective h2
  have h4 : c = c' := congrArg Prod.fst h3
  have h5 : (some ((k.1, k.2), true) : Ck) = some ((k'.1, k'.2), true) := congrArg Prod.snd h3
  exact ⟨h4, congrArg Prod.fst (Option.some.inj h5)⟩

theorem owed_recv (e c : Dev nD) (k : Msg) : O₀ e (xCell c k.1 k.2 true) () = if e = prt c k.1 k.2 then NC k.1 k.2 else 0 := by
  unfold O₀ O₁ O₂
  rw [Pi.add_apply, Finsupp.add_apply, Pi.add_apply, Finsupp.add_apply, Pi.add_apply, Finsupp.add_apply,
    tallyAt_ne_cell (fun h => x_ne_bar _ _ _ _ _ h.symm), tallyAt_ne_cell (fun h => x_ne_bar _ _ _ _ _ h.symm),
    tallyAt_ne_cell (fun h => x_ne_bar _ _ _ _ _ h.symm), Finsupp.zero_apply, Nat.add_zero, Nat.add_zero, Nat.add_zero,
    ow_zero, Finset.sum_apply, Finsupp.finset_sum_apply, Finset.sum_eq_single k (fun k' _ hk => by
      rw [tallyAt_ne_cell (fun h => hk (xCell_inj h).2.symm)]; rfl) (fun h => absurd (Finset.mem_univ _) h), tallyAt_apply]
  by_cases h : e = prt c k.1 k.2
  · subst h; rw [prt_prt, if_pos ⟨rfl, rfl⟩, if_pos rfl]
  · rw [if_neg (fun ⟨h1, _⟩ => h (by rw [(xCell_inj h1).1, prt_prt])), if_neg h]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nb c 2) fun _ => 1, Finset.sum_ite_eq' Finset.univ (nb c 1) fun _ => 1, Finset.sum_ite_eq' Finset.univ (nb c 0) fun _ => 1,
    if_pos (Finset.mem_univ _), if_pos (Finset.mem_univ _), if_pos (Finset.mem_univ _)]

theorem launch_recv (c : Dev nD) (k : Msg) :
    tallyOn (xCell c k.1 k.2 true) (launchCredit (Pipeline.owing O₀) 0 (xCell c k.1 k.2 true)) = (tallyAt (xCell c k.1 k.2 true) () (NC k.1 k.2) : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (prt c k.1 k.2) fun _ => NC k.1 k.2, if_pos (Finset.mem_univ _)]

/-- The semaphores a device holds credit for at launch. -/
def credSem (k : Msg) : SemLoc sig := .dma (xS k.1 k.2 true)
theorem credSem_inj : Function.Injective credSem := by
  intro k k' h
  have h' : xS k.1 k.2 true = xS k'.1 k'.2 true := SemLoc.dma.inj h
  obtain ⟨h1, h2, -⟩ := xS_inj _ _ _ _ _ _ h'
  exact Prod.ext h1 h2

theorem creds (c : Dev nD) : (Pipeline.launchCred O₀ c : sProp 𝕄) ⊢ creditsP (F := F) c := by
  unfold Pipeline.launchCred creditsP
  rw [bigSep_univ_at _ (SemLoc.reg barS), launch_bar]
  refine sep_mono_right ?_
  have e : (bigSep Finset.univ fun k : Msg => (cred (tallyAt (xCell c k.1 k.2 true) () (NC k.1 k.2)) : sProp 𝕄))
      = bigSep (Finset.univ.map ⟨credSem, credSem_inj⟩) fun sm : SemLoc sig =>
        cred (tallyOn ((c.tc : Thread nD τ), sm) (launchCredit (Pipeline.owing O₀) 0 ((c.tc : Thread nD τ), sm))) := by
    rw [bigSep_map]
    exact bigSep_congr fun k _ => by rw [← launch_recv]; rfl
  rw [e]
  refine bigSep_subset (fun sm h => ?_)
  obtain ⟨k, -, rfl⟩ := Finset.mem_map.mp h
  have hk : (SemLoc.dma (xS k.1 k.2 true) : SemLoc sig) ≠ SemLoc.reg barS := by intro h; cases h
  exact Finset.mem_erase.mpr ⟨hk, Finset.mem_univ _⟩

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' arrP PC
  iintro ⟨⟨HK, HV⟩, Hlev, Hcr, -, ⟨⟨%K, HR⟩, Hlin⟩⟩
  ihave Hc := (creds (F := F) c) $$ Hcr
  imodintro
  isplitl
  · isplitl [HR Hlev]
    · iexists K
      isplitl [HR] <;> iassumption
    isplitl [Hlin]; · iexact Hlin
    isplitl [Hc]; · iexact Hc
    isplitl [HK]; · iexact HK
    iexact HV
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨H0, H1, H2, H3, H4, H5⟩⟩
  ihave HK := (Entails.of_eq (slot_cutK (F := F) c)) $$ [H0]
  · unfold anyP; iexact H0
  ihave HV := (Entails.of_eq (slot_cutV (F := F) c)) $$ [H1]
  · unfold anyP; iexact H1
  ihave HC := (comm_cut (F := F) c) $$ [H3 H4 H5]
  · unfold anyP
    isplitl [H3]; · iexact H3
    isplitl [H4]; · iexact H4
    iexact H5
  ihave HA := (at_start m c) $$ [H2]
  · iexact H2
  icases HK with ⟨HK0, HK1⟩
  icases HV with ⟨HV0, HV1⟩
  isplitl [Hs]; · iexact Hs
  isplitl [HK0]; · iexact HK0
  isplitl [HK1]; · iexact HK1
  isplitl [HV0]; · iexact HV0
  isplitl [HV1]; · iexact HV1
  isplitl [HA]; · iexact HA
  iexact HC

/-- What a device is left with: its barrier cell at zero, its key and value arrays. -/
def rest (c : Dev nD) : sProp 𝕄 := iprop(unscopedSems0 c ∗ arrP m false c ∗ arrP m true c)

theorem pk3_all (c : Dev nD) : (bigSep Finset.univ fun k : Msg => pk3 (F := F) c k.1 k.2)
    = bigSep Finset.univ fun x : Msg × Bool => (semVal (xCell c x.1.1 x.1.2 x.2) 0 : sProp 𝕄) := by
  rw [bigSep_mb]; rfl

theorem phi1_exit (c : Dev nD) :
    (dats m ρ 0 c).Φ (Fin.last cfg0.N) ⊢ iprop(rest m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ rest
  rw [unscopedSems0_eq, pk3_all]
  iintro ⟨HaK, HaV, HB, HL, HX, HK0, HK1, HV0, HV1, HA, HC⟩
  ihave HK := (Entails.of_eq (slot_cutK (F := F) c).symm) $$ [HK0 HK1]
  · isplitl [HK0] <;> iassumption
  ihave HV := (Entails.of_eq (slot_cutV (F := F) c).symm) $$ [HV0 HV1]
  · isplitl [HV0] <;> iassumption
  ihave HC' := (comm_join (F := F) c) $$ HC
  icases HC' with ⟨H3, H4, H5⟩
  unfold anyP atV
  isplitl [HaK HaV HB]
  · isplitl [HB]; · iexact HB
    isplitl [HaK] <;> iassumption
  isplitl [HX HL]
  · isplitl [HX] <;> iassumption
  isplitl [HK]; · iexact HK
  isplitl [HV]; · iexact HV
  isplitl [HA]; · iexists _; iexact HA
  isplitl [H3]; · iexact H3
  isplitl [H4]; · iexact H4
  iexact H5

theorem stage_lv (c : Dev nD) : ∀ (w : Fin 4) (s : Fin (spec0 w).nbuf), lv ((c : Thread nD τ), .dma ((spec0 w).sem s)) () = 0 := by
  intro w s
  have h : decSem (.dma ((spec0 w).sem s)) = none := by
    refine decSem_none _ fun k hk => ?_
    rcases k with _ | ⟨⟨p, t⟩, b⟩
    · cases hk
    · have e : xS p t b = (spec0 w).sem s := SemLoc.dma.inj hk
      have h1 := xS_big p t b
      have h2 := win_small w s
      rw [e] at h1; omega
  unfold lv; rw [h]; rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_lv c w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ ∀ a : Bool, r.2.mem ((arrM a).view.loc (c : Thread nD τ)) = arrC m a c

theorem rest_read (c : Dev nD) (s' : Phys nD τ sig (Elt F)) : iprop(rest m c ∗ SI s')
    ⊢ |={Set.univ}=> iprop(⌜(∀ sm : SemLoc sig, sm.isScoped .tc = false → s'.mem.sem ((c.tc : Thread nD τ), sm) = 0)
        ∧ ∀ a : Bool, s'.mem.mem ((arrM a).view.loc (c : Thread nD τ)) = arrC m a c⌝ ∗ (SI s' : sProp 𝕄)) := by
  unfold rest
  iintro ⟨⟨Hu, HK, HV⟩, HSI⟩
  ihave HR := (pointsTo_read_all Finset.univ (fun a : Bool => (arrM a).view.loc (c : Thread nD τ)) (fun a => arrC m a c) s') $$ [HK HV HSI]
  · rw [bigSep_bool]
    isplitl [HK HV]
    · unfold arrP
      isplitl [HK] <;> iassumption
    iexact HSI
  icases HR with ⟨%hm, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, fun a => hm a (Finset.mem_univ _)⟩
  iexact HSI

theorem fund_launch : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_all m) $$ [HX] with HG
  · iexact HX
  imodintro
  isplitl [HP] <;> iassumption

set_option maxRecDepth 8000 in
/-- From any memory with zero counters every weakly fair execution terminates; every final state has each device's windows at
    their final contents, its key and value arrays unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := fund_launch m)
    (hglob := glob m)
    (hA := fun _ _ => rfl) (hpf := fun _ k => k.elim0)
    (X := start m) (Y := rest m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ ∀ a : Bool, s.mem ((arrM a).view.loc (c : Thread nD τ)) = arrC m a c)
    (hY := fun c s' => by
      iintro ⟨Hu, -, HSI⟩
      iapply (rest_read m c s')
      isplitl [Hu] <;> iassumption)
    (hQ := fun _ h hs => ⟨fun c => ⟨fun w => (h c).1 w, (h c).2.2.2⟩, sem_eq_zero hs fun c => (h c).2.2.1⟩)

end Cert.MeshAttn
-- ==== Proof.Frames.lean ====
/-
The final memory of a run, read at the arrays `main` names: the five arguments unchanged and the result at the finished output;
and from it the frame claims of the kernel at any floats and of the reference.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Lib.Quiescent

@[expose] public section

noncomputable section

namespace Cert.MeshAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

variable (ρ : Dev nD → PrngReg)

/-! ## The arrays at the end -/

theorem final_x (c : Dev nD) : finalA m ρ c 0 = m ((c : Thread nD τ).loc main_arg0) := (dats m ρ 0 c).arrAt_in (0 : Fin 4) rfl _
theorem final_wq (c : Dev nD) : finalA m ρ c 1 = m ((c : Thread nD τ).loc main_arg1) := (dats m ρ 0 c).arrAt_in (1 : Fin 4) rfl _
theorem final_wo (c : Dev nD) : finalA m ρ c 2 = m ((c : Thread nD τ).loc main_arg2) := (dats m ρ 0 c).arrAt_in (2 : Fin 4) rfl _

/-- Every window's one block is its whole array, each element at its own place. -/
theorem blk_self {s : Shape} {e : EltTy} (v : View sig .tc .hbm s e) (off : Fin s.rank → ℕ) (inb : ∀ a, off a + s.size a ≤ s.size a)
    (hoff : ∀ a, off a = 0) (f : v.ty.Contents (Elt F)) : (v.slice (Rect.unit (s := s) off s.size inb)).read (Elt F) f = v.read (Elt F) f := by
  funext i
  refine congrArg (v.read (Elt F) f) (funext fun a => Fin.ext ?_)
  show off a + 1 * (i a : ℕ) = i a
  rw [hoff, Nat.zero_add, Nat.one_mul]

theorem blk_x (f : (main_arg0 : Ref sig .tc).ty.Contents (Elt F)) : (win0_0.blk (0 : Fin 1)).view.read (Elt F) f = f :=
  blk_self (View.whole main_arg0) _ _ (fun a => Nat.zero_mul _) f
theorem blk_wq (f : (main_arg1 : Ref sig .tc).ty.Contents (Elt F)) : (win0_1.blk (0 : Fin 1)).view.read (Elt F) f = f :=
  blk_self (View.whole main_arg1) _ _ (fun a => Nat.zero_mul _) f
theorem blk_wo (f : (main_arg2 : Ref sig .tc).ty.Contents (Elt F)) : (win0_2.blk (0 : Fin 1)).view.read (Elt F) f = f :=
  blk_self (View.whole main_arg2) _ _ (fun a => Nat.zero_mul _) f
theorem blk_out (f : (main_v1 : Ref sig .tc).ty.Contents (Elt F)) : (win0_3.blk (0 : Fin 1)).view.read (Elt F) f = f :=
  blk_self (View.whole main_v1) _ _ (fun a => Nat.zero_mul _) f

theorem out_cover (i : S1x512x1024.Idx) :
    ∃ t : Fin cfg0.N, (cfg0.win 3).flush t = true ∧ i ∈ ((cfg0.win 3).blk t).view.set := by
  refine ⟨t0_0, flush0_3 _, ?_⟩
  show i ∈ ((View.whole main_v1).slice (win0_3.rect (0 : Fin 1))).set
  rw [View.set_slice_whole]
  refine Rect.mem_set_unit.mpr fun a => ⟨?_, ?_⟩
  · show 0 * S1x512x1024.size a ≤ (i a : ℕ)
    rw [Nat.zero_mul]; exact Nat.zero_le _
  · show (i a : ℕ) < 0 * S1x512x1024.size a + S1x512x1024.size a
    rw [Nat.zero_mul, Nat.zero_add]; exact (i a).isLt

theorem final_out (c : Dev nD) : finalA m ρ c 3 = outC m :=
  (dats m ρ 0 c).arrAt_eq_of_cover 3 (outC m) (fun t _ => by
    rw [show t = t0_0 from Subsingleton.elim (α := Fin 1) _ _]
    exact (blk_out (outC m)).symm) out_cover

/-! ## The run, read -/

/-- From any memory with zero counters every weakly fair execution terminates, with each device's result at the finished output,
    the five arguments unchanged and every semaphore counter at zero. -/
theorem run_read : θ_run defs (onTc (τ := τ) (main (F := F))) (s₀ m ρ) (fun r => (∀ c : Dev nD,
      r.2.mem ((c : Thread nD τ).loc main_v1) = outC m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun r h => ⟨fun c => ⟨((h.1 c).1 3).trans (final_out m ρ c), ((h.1 c).1 0).trans (final_x m ρ c),
    ((h.1 c).1 1).trans (final_wq m ρ c), ((h.1 c).1 2).trans (final_wo m ρ c), (h.1 c).2 false, (h.1 c).2 true⟩, h.2⟩) (run_main m ρ)

/-! ## The frames -/

theorem frame_ideal : Cert.quiescent_KernelIdeal := fun m g _ =>
  (θ_run Cert.KernelIdeal.defs _ _).mono (fun _ h => ⟨fun c => (h.1 c).2, h.2⟩) (run_read (F := Ideal) m g)
theorem frame_ideal_pre : Cert.quiescent_KernelIdeal_pre_finite_KernelIdeal := fun m g _ =>
  (θ_run Cert.KernelIdeal.defs _ _).mono (fun _ h => ⟨fun c => (h.1 c).2, h.2⟩) (run_read (F := Ideal) m g)

/-! The kernel at machine floats has the same text, so the same run. -/

theorem defs₀_eq : Cert.Kernel.defs₀ (F := F) = Cert.KernelIdeal.defs₀ (F := F) := by
  unfold Cert.Kernel.defs₀ Cert.KernelIdeal.defs₀
  refine congrArg Defs.onTc ?_
  funext ℓ a
  match ℓ, a with
  | ⟨0, _⟩, (t, s) => rfl
  | ⟨_ + 1, h⟩, _ => exact absurd h (Nat.not_lt.2 (Nat.le_add_left _ _))
theorem defs_eq : Cert.Kernel.defs (F := F) = Cert.KernelIdeal.defs (F := F) := congrArg (Pipeline.defs Cert.KernelIdeal.pcfgs) defs₀_eq

/-- A property of `KernelIdeal`'s runs is one of `Kernel`'s. -/
theorem run_same (s : MemSt nD τ sig (Elt F)) (Q : PUnit × MemSt nD τ sig (Elt F) → Prop)
    (h : θ_run Cert.KernelIdeal.defs (onTc (τ := τ) (Cert.KernelIdeal.main (F := F))) s Q) :
    θ_run Cert.Kernel.defs (onTc (τ := τ) (Cert.Kernel.main (F := F))) s Q := by
  rw [defs_eq]; exact h

theorem frame_kernel : Cert.quiescent_Kernel := fun m g _ =>
  run_same (F := Bits) _ _ ((θ_run Cert.KernelIdeal.defs _ _).mono (fun _ h => ⟨fun c => (h.1 c).2, h.2⟩) (run_read (F := Bits) m g))

theorem frame_ref : Cert.quiescent_ReferenceIdeal := fun m g _ =>
  (θ_run Cert.ReferenceIdeal.defs _ _).mono (fun _ h => ⟨fun c => (h c).2, sem_eq_zero_of_no_sems rfl _⟩)
    (Cert.ReferenceIdeal.Value.run (F := Ideal) m g)
theorem frame_ref_pre : Cert.quiescent_ReferenceIdeal_pre_finite_ReferenceIdeal := fun m g _ =>
  (θ_run Cert.ReferenceIdeal.defs _ _).mono (fun _ h => ⟨fun c => (h c).2, sem_eq_zero_of_no_sems rfl _⟩)
    (Cert.ReferenceIdeal.Value.run (F := Ideal) m g)

end Cert.MeshAttn
-- ==== Proof.Softmax.lean ====
/-
Softmax-weighted sums over the extended reals. The scores are real and the values arbitrary. A sum taken in two halves, each
half's weights under the maximum so far and the first half's sums rescaled to the second maximum, is the sum with unshifted
weights times one positive real; so is the sum of the weights; and the quotient of the two does not depend on that real.
-/
module

public import Idealize.ShloMosaic.Lib.Pointwise

@[expose] public section

noncomputable section

namespace Cert.MeshAttn

open Idealize.ShloMosaic

/-! ## Sums of extended reals -/

theorem sum_coe {ι : Type} [DecidableEq ι] (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- A non-negative real factor of every term is a factor of the sum. -/
theorem mul_sum_coe {ι : Type} [DecidableEq ι] (s : Finset ι) {r : ℝ} (hr : 0 ≤ r) (f : ι → EReal) :
    ∑ i ∈ s, (r : EReal) * f i = (r : EReal) * ∑ i ∈ s, f i := by
  induction s using Finset.induction_on with
  | empty => simp
  | insert a s ha ih =>
    rw [Finset.sum_insert ha, Finset.sum_insert ha, ih,
      EReal.left_distrib_of_nonneg_of_ne_top (EReal.coe_nonneg.mpr hr) (EReal.coe_ne_top r)]

theorem mul_add_coe {r : ℝ} (hr : 0 ≤ r) (x y : EReal) : (r : EReal) * x + (r : EReal) * y = (r : EReal) * (x + y) :=
  (EReal.left_distrib_of_nonneg_of_ne_top (EReal.coe_nonneg.mpr hr) (EReal.coe_ne_top r) x y).symm

/-- A sum over 2048 places is a sum over the first 1024 and one over the last. -/
theorem sum_halves (f : Fin 2048 → EReal) :
    ∑ j, f j = (∑ j : Fin 1024, f ⟨j.val, by omega⟩) + ∑ j : Fin 1024, f ⟨1024 + j.val, by omega⟩ :=
  Fin.sum_univ_add (a := 1024) (b := 1024) f

/-! ## The running maximum -/

theorem fold_max_real (f : Fin 1024 → ℝ) : ∃ r : ℝ, Finset.univ.fold max (⊥ : EReal) (fun j => (f j : EReal)) = r := by
  obtain ⟨i, -, hi⟩ := Finset.exists_mem_eq_sup (Finset.univ : Finset (Fin 1024)) ⟨0, Finset.mem_univ _⟩ (fun j => (f j : EReal))
  exact ⟨f i, hi⟩

theorem max_coe (a b : ℝ) : max (a : EReal) (b : EReal) = ((max a b : ℝ) : EReal) := (EReal.coe_strictMono.monotone.map_max).symm

/-! ## Weights -/

theorem exp_sub_coe (a b : ℝ) : Ideal.exp ((a : EReal) - (b : EReal)) = ((Real.exp (-b) : ℝ) : EReal) * ((Real.exp a : ℝ) : EReal) := by
  rw [← EReal.coe_sub, ← EReal.coe_mul, ← Real.exp_add, neg_add_eq_sub]; rfl

theorem exp_bot_sub (b : ℝ) : Ideal.exp ((⊥ : EReal) - (b : EReal)) = 0 := by rw [EReal.bot_sub]; rfl

/-- A half's sum rescaled by the next maximum: its weights under that maximum. -/
theorem rescale (m1 m2 : ℝ) (X : EReal) : (((Real.exp (-m1) : ℝ) : EReal) * X) * Ideal.exp ((m1 : EReal) - (m2 : EReal)) = ((Real.exp (-m2) : ℝ) : EReal) * X := by
  have h : ((Real.exp (-m1) : ℝ) : EReal) * ((Real.exp m1 : ℝ) : EReal) = 1 := by
    rw [← EReal.coe_mul, ← Real.exp_add, neg_add_cancel, Real.exp_zero]; rfl
  rw [exp_sub_coe]
  calc _ = ((Real.exp (-m2) : ℝ) : EReal) * X * (((Real.exp (-m1) : ℝ) : EReal) * ((Real.exp m1 : ℝ) : EReal)) := by ac_rfl
    _ = _ := by rw [h, mul_one]

/-- The two halves of a weighted sum. -/
theorem two_halves (m1 m2 : ℝ) (s0 s1 : Fin 1024 → ℝ) (v0 v1 : Fin 1024 → EReal) :
    (0 * Ideal.exp ((⊥ : EReal) - (m1 : EReal)) + ∑ j, v0 j * Ideal.exp ((s0 j : EReal) - (m1 : EReal))) * Ideal.exp ((m1 : EReal) - (m2 : EReal))
        + ∑ j, v1 j * Ideal.exp ((s1 j : EReal) - (m2 : EReal))
      = ((Real.exp (-m2) : ℝ) : EReal) * ((∑ j, ((Real.exp (s0 j) : ℝ) : EReal) * v0 j) + ∑ j, ((Real.exp (s1 j) : ℝ) : EReal) * v1 j) := by
  have h (b : ℝ) (s : Fin 1024 → ℝ) (v : Fin 1024 → EReal) : ∑ j, v j * Ideal.exp ((s j : EReal) - (b : EReal))
      = ((Real.exp (-b) : ℝ) : EReal) * ∑ j, ((Real.exp (s j) : ℝ) : EReal) * v j := by
    rw [← mul_sum_coe _ (Real.exp_pos _).le]
    refine Finset.sum_congr rfl fun j _ => ?_
    rw [exp_sub_coe]; ac_rfl
  rw [h, h, zero_mul, zero_add, rescale, mul_add_coe (Real.exp_pos _).le]

/-! ## The quotient -/

theorem div_coe (x : EReal) {l : ℝ} (hl : 0 < l) : Ideal.div x (l : EReal) = x * ((l⁻¹ : ℝ) : EReal) := by
  unfold Ideal.div
  rw [if_neg (by rw [EReal.coe_eq_zero]; exact hl.ne'), EReal.coe_inv]

/-- The quotient of the running sums is the weighted sum times the reciprocal of the sum of the weights. -/
theorem quotient (s : Fin 2048 → ℝ) (v : Fin 2048 → EReal) (m1 m2 : ℝ) :
    Ideal.div
      ((0 * Ideal.exp ((⊥ : EReal) - (m1 : EReal)) + ∑ j : Fin 1024, v ⟨j.val, by omega⟩ * Ideal.exp ((s ⟨j.val, by omega⟩ : EReal) - (m1 : EReal)))
          * Ideal.exp ((m1 : EReal) - (m2 : EReal)) + ∑ j : Fin 1024, v ⟨1024 + j.val, by omega⟩ * Ideal.exp ((s ⟨1024 + j.val, by omega⟩ : EReal) - (m2 : EReal)))
      ((0 * Ideal.exp ((⊥ : EReal) - (m1 : EReal)) + ∑ j : Fin 1024, Ideal.exp ((s ⟨j.val, by omega⟩ : EReal) - (m1 : EReal)))
          * Ideal.exp ((m1 : EReal) - (m2 : EReal)) + ∑ j : Fin 1024, Ideal.exp ((s ⟨1024 + j.val, by omega⟩ : EReal) - (m2 : EReal)))
      = (∑ j, Ideal.exp (s j : EReal) * v j) * Ideal.div 1 (∑ j, Ideal.exp (s j : EReal)) := by
  have hw : ∀ j, Ideal.exp (s j : EReal) = ((Real.exp (s j) : ℝ) : EReal) := fun _ => rfl
  have hn := two_halves m1 m2 (fun j => s ⟨j.val, by omega⟩) (fun j => s ⟨1024 + j.val, by omega⟩)
    (fun j => v ⟨j.val, by omega⟩) (fun j => v ⟨1024 + j.val, by omega⟩)
  have hd := two_halves m1 m2 (fun j => s ⟨j.val, by omega⟩) (fun j => s ⟨1024 + j.val, by omega⟩) (fun _ => 1) (fun _ => 1)
  simp only [one_mul, mul_one] at hd
  have hv := sum_halves fun j => ((Real.exp (s j) : ℝ) : EReal) * v j
  have hl := sum_halves fun j => ((Real.exp (s j) : ℝ) : EReal)
  have hL : (0 : ℝ) < ∑ j, Real.exp (s j) := Finset.sum_pos (fun j _ => Real.exp_pos _) ⟨0, Finset.mem_univ _⟩
  simp only [hw]
  rw [hn, hd, ← hv, ← hl, ← sum_coe, ← EReal.coe_mul, div_coe _ (mul_pos (Real.exp_pos _) hL), div_coe _ hL, one_mul]
  generalize (∑ j, ((Real.exp (s j) : ℝ) : EReal) * v j) = A
  have h : ((Real.exp (-m2) : ℝ) : EReal) * (((Real.exp (-m2) * ∑ j, Real.exp (s j))⁻¹ : ℝ) : EReal) = (((∑ j, Real.exp (s j))⁻¹ : ℝ) : EReal) := by
    rw [← EReal.coe_mul, mul_inv, mul_inv_cancel_left₀ (Real.exp_pos _).ne']
  rw [← h]; ac_rfl

/-! ## The scores -/

/-- Scaling a row before the projection, or the scores after: over the reals the same. -/
theorem score_scale (x : Fin 1024 → ℝ) (w : Fin 1024 → Fin 128 → ℝ) (k : Fin 128 → ℝ) (r : ℝ) :
    (∑ d, (∑ a, (x a : EReal) * (w a d : EReal)) * (k d : EReal)) * (r : EReal) = (((∑ d, (∑ a, x a * w a d) * k d) * r : ℝ) : EReal)
    ∧ ∑ d, (∑ a, ((x a : EReal) * (r : EReal)) * (w a d : EReal)) * (k d : EReal) = (((∑ d, (∑ a, x a * w a d) * k d) * r : ℝ) : EReal) := by
  have e : (∑ d, (∑ a, x a * w a d) * k d) * r = ∑ d, (∑ a, x a * r * w a d) * k d := by
    rw [Finset.sum_mul]
    refine Finset.sum_congr rfl fun d _ => ?_
    rw [mul_right_comm, Finset.sum_mul]
    refine congrArg (· * k d) (Finset.sum_congr rfl fun a _ => ?_)
    ring
  constructor
  · simp only [← EReal.coe_mul, ← sum_coe]
  · rw [e]; simp only [← EReal.coe_mul, ← sum_coe]

/-- The scale is a real. -/
theorem scale_real : ∃ r : ℝ, Ideal.ofBits .f32 0x3DB504F3#32 = (r : EReal) := by
  simp [Ideal.ofBits, Ideal.ieee]
  exact ⟨_, rfl⟩

theorem ofBits_bot : Ideal.ofBits .f32 0xFF800000#32 = ⊥ := by simp [Ideal.ofBits, Ideal.ieee]

/-- A number below infinity in absolute value is real. -/
theorem real_of_abs_lt {x : EReal} (h : max x (-x) < ⊤) : ∃ r : ℝ, x = (r : EReal) := by
  induction x with
  | bot => exact absurd h (by simp)
  | top => exact absurd h (by simp)
  | coe r => exact ⟨r, rfl⟩

end Cert.MeshAttn
-- ==== Proof.KerHeads.lean ====
/-
The values one device computes, read at an index over the extended reals: its scaled queries, a head's rows, and a half of its
partial product.
-/
module

public import proofs.«01_k».proof.Proof.Contents
public import proofs.«01_k».proof.Proof.Softmax

@[expose] public section

noncomputable section

namespace Cert.MeshAttn

open Cert.KernelIdeal Cert.KernelIdeal.Gen
open Idealize.ShloMosaic
open Idealize.ShloMosaic.TcCoe
open Idealize.SL.Sem
open Idealize.ShloMosaic.Pointwise

/-! ## Queries -/

theorem pay2_apply (x : Vec Ideal S1x512x1024 .f32) (w : Vec Ideal S1024x1024 .f32) (i : Fin 512) (k : Fin 1024) :
    k0_pay2 x w (ix2 i k) = ∑ a : Fin 1024, (x (ix3 (0 : Fin 1) i a) * Ideal.ofBits .f32 0x3DB504F3#32) * w (ix2 a k) := by
  pointwise [k0_pay2]

/-! ## Heads -/

/-- The score of query row `i` of head `h` against key `j`. -/
def scK (q : FVec Ideal S512x1024 .f32) (k : Vec Ideal S1x2048x1x128 .f32) (h : Fin 8) (i : Fin 512) (j : Fin 2048) : EReal :=
  ∑ e : Fin 128, q (ix2 i ⟨128 * h.val + e.val, by omega⟩) * k (ix4 (0 : Fin 1) j (0 : Fin 1) e)

/-- A head's row: the values weighted by the scores' exponentials, times the reciprocal of the weights' sum. -/
def rowK (q : FVec Ideal S512x1024 .f32) (k v : Vec Ideal S1x2048x1x128 .f32) (h : Fin 8) (i : Fin 512) (d : Fin 128) : EReal :=
  (∑ j, Ideal.exp (scK q k h i j) * v (ix4 (0 : Fin 1) j (0 : Fin 1) d)) * Ideal.div 1 (∑ j, Ideal.exp (scK q k h i j))

theorem headF_apply (q : FVec Ideal S512x1024 .f32) (k v : Vec Ideal S1x2048x1x128 .f32) (h : Fin 8) (i : Fin 512) (d : Fin 128) :
    headF h q k v (ix2 i d) = rowK q k v h i d := by
  match h with
  | 0 => show k0_pay3 q k v (ix2 i d) = _; pointwise [k0_pay3, rowK, scK]
  | 1 => show k0_pay4 q k v (ix2 i d) = _; pointwise [k0_pay4, rowK, scK]
  | 2 => show k0_pay7 (k0_pay5 q k) (k0_pay6 q k) v (ix2 i d) = _; pointwise [k0_pay7, k0_pay5, k0_pay6, rowK, scK]
  | 3 => show k0_pay8 q k v (ix2 i d) = _; pointwise [k0_pay8, rowK, scK]
  | 4 => show k0_pay9 q k v (ix2 i d) = _; pointwise [k0_pay9, rowK, scK]
  | 5 => show k0_pay12 (k0_pay10 q k) (k0_pay11 q k) v (ix2 i d) = _; pointwise [k0_pay12, k0_pay10, k0_pay11, rowK, scK]
  | 6 => show k0_pay13 q k v (ix2 i d) = _; pointwise [k0_pay13, rowK, scK]
  | 7 => show k0_pay15 (k0_pay14 q k v) (ix2 i d) = _; pointwise [k0_pay15, k0_pay14, rowK, scK]

/-! ## A half of the product -/

theorem pay16_apply (a : Vec Ideal S256x1024 .f32) (w : Vec Ideal S1024x384 .f32) (r : Fin 256) (n : Fin 384) :
    k0_pay16 a w (ix3 (0 : Fin 1) r n) = ∑ e : Fin 1024, a (ix2 r e) * w (ix2 e n) := by
  pointwise [k0_pay16]
theorem pay17_apply (a : Vec Ideal S256x1024 .f32) (w : Vec Ideal S1024x384 .f32) (r : Fin 256) (n : Fin 384) :
    k0_pay17 a w (ix3 (0 : Fin 1) r n) = ∑ e : Fin 1024, a (ix2 r e) * w (ix2 e n) := by
  pointwise [k0_pay17]
theorem pay19_apply (a : Vec Ideal S256x1024 .f32) (w : Vec Ideal S1024x256 .f32) (r : Fin 256) (n : Fin 256) :
    k0_pay19 (k0_pay18 a w) (ix3 (0 : Fin 1) r n) = ∑ e : Fin 1024, a (ix2 r e) * w (ix2 e n) := by
  pointwise [k0_pay19, k0_pay18]

end Cert.MeshAttn
-- ==== Proof.KerValue.lean ====
/-
What the kernel leaves in its output, read at an index over the extended reals: at row `i` and column `n`, the sum over the devices
of each one's attention rows times its slice of `Wo`.
-/
module

public import proofs.«01_k».proof.Proof.Regions
public import proofs.«01_k».proof.Proof.Frames
public import proofs.«01_k».proof.Proof.KerHeads

@[expose] public section

noncomputable section

namespace Cert.MeshAttn

open Cert.KernelIdeal Cert.KernelIdeal.Gen
open Idealize.ShloMosaic
open Idealize.ShloMosaic.TcCoe
open Idealize.SL.Sem
open Idealize.ShloMosaic.Pointwise

variable (m : (ℓ : Loc nD τ sig) → Buf (Elt Ideal) ℓ)

/-! ## A device's attention rows -/

theorem khC_apply (c : Dev nD) (h : Fin 8) (j : Fin 2048) (e : Fin 128) :
    khC m c h (ix4 (0 : Fin 1) j (0 : Fin 1) e)
      = kC m c (ix4 (0 : Fin 1) j ⟨8 * c.val + h.val, by have h8 : c.val < 8 := c.isLt; omega⟩ e) := by
  refine congrArg (kC m c) (funext fun a => Fin.ext ?_)
  match a with
  | 0 => rfl
  | 1 => show 0 + 1 * j.val = j.val; omega
  | 2 => rfl
  | 3 => show 0 + 1 * e.val = e.val; omega

theorem vhC_apply (c : Dev nD) (h : Fin 8) (j : Fin 2048) (e : Fin 128) :
    vhC m c h (ix4 (0 : Fin 1) j (0 : Fin 1) e)
      = vC m c (ix4 (0 : Fin 1) j ⟨8 * c.val + h.val, by have h8 : c.val < 8 := c.isLt; omega⟩ e) := by
  refine congrArg (vC m c) (funext fun a => Fin.ext ?_)
  match a with
  | 0 => rfl
  | 1 => show 0 + 1 * j.val = j.val; omega
  | 2 => rfl
  | 3 => show 0 + 1 * e.val = e.val; omega

theorem attC_apply (c : Dev nD) (i : Fin 512) (k : Fin 1024) :
    attC m c (ix2 i k)
      = rowK (qC m c) (khC m c ⟨k.val / 128, by omega⟩) (vhC m c ⟨k.val / 128, by omega⟩) ⟨k.val / 128, by omega⟩ i
          ⟨k.val % 128, Nat.mod_lt _ (by decide)⟩ := by
  refine Eq.trans ?_ (headF_apply (qC m c) (khC m c ⟨k.val / 128, by omega⟩) (vhC m c ⟨k.val / 128, by omega⟩) ⟨k.val / 128, by omega⟩ i _)
  show headF (hd (ix2 i k)) (qC m c) (khC m c (hd (ix2 i k))) (vhC m c (hd (ix2 i k))) (hcol (ix2 i k)) = _
  have e : hcol (ix2 i k) = ix2 i (⟨k.val % 128, Nat.mod_lt _ (by decide)⟩ : Fin 128) := by
    funext a
    match a with
    | 0 => rfl
    | 1 => rfl
  rw [e]
  rfl

/-! ## A device's partial product -/

theorem rowsC_apply (c : Dev nD) (p : Fin 3) (b : Bool) (r : Fin 256) (k : Fin 1024) (i : Fin 512) (h : i.val = sr c p (half b) + r.val) :
    rowsC m c p b (ix2 r k) = attC m c (ix2 i k) := by
  refine congrArg (attC m c) (funext fun a => Fin.ext ?_)
  match a with
  | 0 => show sr c p (half b) + 1 * r.val = i.val; omega
  | 1 => show 0 + 1 * k.val = k.val; omega

theorem mmF_apply (p : Fin 3) (a : Vec Ideal S256x1024 .f32) (w : (cc0_stg2_0 : Ref sig .tc).ty.Contents (Elt Ideal)) (r : Fin 256)
    (n : Fin (W3 p)) (n' : Fin 1024) (h : n'.val = C0 p + n.val) :
    mmF p a w (ix3 (0 : Fin 1) r n) = ∑ e : Fin 1024, a (ix2 r e) * w (ix2 e n') := by
  match p, n, h with
  | 0, n, h =>
    refine (pay16_apply a _ r n).trans (Finset.sum_congr rfl fun e _ => congrArg (a (ix2 r e) * ·) ?_)
    refine congrArg w (funext fun x => Fin.ext ?_)
    match x with
    | 0 => show 0 + 1 * e.val = e.val; omega
    | 1 => have h' : n'.val = 0 + n.val := h; show 0 + 1 * n.val = n'.val; omega
  | 1, n, h =>
    refine (pay17_apply a _ r n).trans (Finset.sum_congr rfl fun e _ => congrArg (a (ix2 r e) * ·) ?_)
    refine congrArg w (funext fun x => Fin.ext ?_)
    match x with
    | 0 => show 0 + 1 * e.val = e.val; omega
    | 1 => have h' : n'.val = 384 + n.val := h; show 384 + 1 * n.val = n'.val; omega
  | 2, n, h =>
    refine (pay19_apply a _ r n).trans (Finset.sum_congr rfl fun e _ => congrArg (a (ix2 r e) * ·) ?_)
    refine congrArg w (funext fun x => Fin.ext ?_)
    match x with
    | 0 => show 0 + 1 * e.val = e.val; omega
    | 1 => have h' : n'.val = 768 + n.val := h; show 768 + 1 * n.val = n'.val; omega

/-- What a message's rows read of a buffer. -/
theorem rdO_apply (c : Dev nD) (p : Fin 3) (t : Fin 6) (X : (cc0_stg3_0 : Ref sig .tc).ty.Contents (Elt Ideal)) (r : Fin (NN t)) (n : Fin (W3 p))
    (i : Fin 512) (n' : Fin 1024) (hi : i.val = sr c p t + r.val) (hn : n'.val = C0 p + n.val) :
    rdO c p t X (ix3 (0 : Fin 1) r n) = X (ix3 (0 : Fin 1) i n') := by
  refine congrArg X (funext fun a => Fin.ext ?_)
  match a with
  | 0 => rfl
  | 1 => show sr c p t + 1 * r.val = i.val; omega
  | 2 => show C0 p + 1 * n.val = n'.val; omega

/-- A device's attention rows and its slice of `Wo`, as extended reals. -/
def attE (c : Dev nD) (i : Fin 512) (k : Fin 1024) : EReal := attC m c (ix2 i k)
def woE (c : Dev nD) (k n : Fin 1024) : EReal := woC m c (ix2 k n)
/-- An entry of a device's partial sum in a band. -/
def dE (c : Dev nD) (p : Fin 3) (i : S1x512x1024.Idx) : EReal := dC m c p i

/-- One attention row times one column of the device's slice of `Wo`. -/
def prodK (c : Dev nD) (i : Fin 512) (n : Fin 1024) : EReal :=
  ∑ k : Fin 1024, attE m c i k * woE m c k n

theorem d_apply (c : Dev nD) (p : Fin 3) (i : Fin 512) (n : Fin 1024) (h : C0 p ≤ n.val ∧ n.val < C0 p + W3 p) :
    dC m c p (ix3 (0 : Fin 1) i n) = prodK m c i n := by
  obtain ⟨-, -, h3⟩ := sr_cut c p
  have hn : n.val = C0 p + (⟨n.val - C0 p, by omega⟩ : Fin (W3 p)).val := by show n.val = C0 p + (n.val - C0 p); omega
  by_cases hi : sr c p 5 ≤ i.val ∧ i.val < sr c p 5 + 256
  · have hr : i.val = sr c p 5 + (⟨i.val - sr c p 5, by omega⟩ : Fin 256).val := by show i.val = sr c p 5 + (i.val - sr c p 5); omega
    rw [← rdO_apply c p 5 (dC m c p) (⟨i.val - sr c p 5, by omega⟩ : Fin 256) ⟨n.val - C0 p, by omega⟩ i n hr hn, ← d_keep]
    refine (mmF_apply p _ (woC m c) _ _ n hn).trans (Finset.sum_congr rfl fun e _ => congrArg (· * _) ?_)
    exact rowsC_apply m c p true _ e i hr
  · have hr : i.val = sr c p 0 + (⟨i.val - sr c p 0, by omega⟩ : Fin 256).val := by show i.val = sr c p 0 + (i.val - sr c p 0); omega
    rw [← rdO_apply c p 0 (dC m c p) (⟨i.val - sr c p 0, by omega⟩ : Fin 256) ⟨n.val - C0 p, by omega⟩ i n hr hn, ← d_send]
    refine (mmF_apply p _ (woC m c) _ _ n hn).trans (Finset.sum_congr rfl fun e _ => congrArg (· * _) ?_)
    exact rowsC_apply m c p false _ e i hr

/-! ## The reduce-scatter's sum -/

/-- Three rounds of partners reach every device once. -/
theorem reach : ∀ (c : Dev nD) (p : Fin 3),
    [c, prt c p 0, prt c p 1, prt (prt c p 1) p 0, prt c p 2, prt (prt c p 2) p 0, prt (prt c p 2) p 1, prt (prt (prt c p 2) p 1) p 0].Perm
      (List.finRange 8) := by decide +kernel

theorem rounds_sum (f : Dev nD → EReal) (c : Dev nD) (p : Fin 3) :
    ((f c + f (prt c p 0)) + (f (prt c p 1) + f (prt (prt c p 1) p 0)))
      + ((f (prt c p 2) + f (prt (prt c p 2) p 0)) + (f (prt (prt c p 2) p 1) + f (prt (prt (prt c p 2) p 1) p 0)))
      = ∑ e : Fin 8, f e := by
  have h := ((reach c p).map f).sum_eq
  simp only [List.map_cons, List.map_nil, List.sum_cons, List.sum_nil, add_zero] at h
  rw [← List.sum_ofFn, List.ofFn_eq_map, ← h]
  simp only [add_assoc]

theorem a_apply (c : Dev nD) (p : Fin 3) (i : S1x512x1024.Idx) : aC m p 3 c i = (∑ e : Fin 8, dE m e p i : EReal) :=
  rounds_sum (fun e => dE m e p i) c p

/-! ## The output -/

theorem owner : ∀ (p : Fin 3) (q : Fin 8), ∃ c : Dev nD, sr c p 3 = 64 * q.val := by decide +kernel

theorem fin_apply (p : Fin 3) (i : Fin 512) (n : Fin 1024) (h : C0 p ≤ n.val ∧ n.val < C0 p + W3 p) :
    finC m p (ix3 (0 : Fin 1) i n) = (∑ e : Fin 8, prodK m e i n : EReal) := by
  obtain ⟨c, hc⟩ := owner p ⟨i.val / 64, by omega⟩
  have hc' : sr c p 3 = 64 * (i.val / 64) := hc
  obtain ⟨n0, n1, n2, n3, n4, n5⟩ := NN_vals
  have hm : ix3 (0 : Fin 1) i n ∈ oS c p 3 := by
    rw [mem_oS, n3]
    exact ⟨⟨by show sr c p 3 ≤ i.val; omega, by show i.val < sr c p 3 + 64; omega⟩, h⟩
  rw [fin_own m hm, a_apply]
  exact Finset.sum_congr (M := EReal) (f := fun e => dE m e p (ix3 (0 : Fin 1) i n)) rfl fun e _ => d_apply m e p i n h

theorem out_apply (i : Fin 512) (n : Fin 1024) :
    outC m (ix3 (0 : Fin 1) i n) = (∑ e : Fin 8, prodK m e i n : EReal) := by
  refine fin_apply m (bandOf (ix3 (0 : Fin 1) i n)) i n ?_
  obtain ⟨a0, a1, a2, w0, w1, w2⟩ := band_vals
  have hb : bandOf (ix3 (0 : Fin 1) i n) = if n.val < 384 then 0 else if n.val < 768 then 1 else 2 := rfl
  rw [hb]
  split_ifs with h1 h2
  · rw [a0, w0]; omega
  · rw [a1, w1]; omega
  · rw [a2, w2]; omega

/-! ## The inputs -/

theorem xC_eq (c : Dev nD) : xC m c = m ((c : Thread nD τ).loc main_arg0) := blk_x _
theorem wqC_eq (c : Dev nD) : wqC m c = m ((c : Thread nD τ).loc main_arg1) := blk_wq _
theorem woC_eq (c : Dev nD) : woC m c = m ((c : Thread nD τ).loc main_arg2) := blk_wo _

end Cert.MeshAttn
-- ==== Proof.RefValue.lean ====
/-
The reference's result, stage by stage: the queries, the scaled scores of each half of the keys, the running maximum, the
weights, the running sums, the quotient and the output product; and each stage read at an index over the extended reals.
-/
module

public import proofs.«01_k».proof.Proof.Gen.ReferenceIdeal.Run
public import proofs.«01_k».proof.Proof.Softmax
public import Idealize.ShloMosaic.Lib.Pointwise

@[expose] public section

noncomputable section

namespace Cert.MeshAttn.Ref

open Cert.ReferenceIdeal Cert.ReferenceIdeal.Gen
open Idealize.ShloMosaic
open Idealize.ShloMosaic.TcCoe
open Idealize.ShloMosaic.Pointwise

variable {F : FTy → Type} [FloatOps F]

/-! ## The stages -/

/-- The queries, by head. -/
def rQ (x : FVec F S1x512x1024 .f32) (w : FVec F S1024x8192 .f32) : FVec F S1x512x64x128 .f32 :=
  shapeCast S1x512x64x128 (Host.dotGeneral dot_S1x512x1024_S1024x8192_S1x512x8192_2_0_01_1_n_n none x w) shapeCasts_S1x512x8192_S1x512x64x128
/-- The first and the last half of the keys (of the values). -/
def rT0 (k : FVec F S1x2048x64x128 .f32) : FVec F S1x1024x64x128 .f32 :=
  extractStridedSlice S1x1024x64x128 ![0, 0, 0, 0] k slices_S1x2048x64x128_S1x1024x64x128_0_0_0_0
def rT1 (k : FVec F S1x2048x64x128 .f32) : FVec F S1x1024x64x128 .f32 :=
  extractStridedSlice S1x1024x64x128 ![0, 1024, 0, 0] k slices_S1x2048x64x128_S1x1024x64x128_0_1024_0_0
/-- The scaled scores against a half of the keys. -/
def rS (q : FVec F S1x512x64x128 .f32) (k : FVec F S1x1024x64x128 .f32) : FVec F S1x64x512x1024 .f32 :=
  mulf (Host.dotGeneral dot_S1x512x64x128_S1x1024x64x128_S1x64x512x1024_3_3_1_1_02_02 none q k)
    (broadcastInDim S1x64x512x1024 ![] bcast_S_S1x64x512x1024 (constant S_ .f32 0x3DB504F3#32))
/-- Each row's maximum. -/
def rMx (s : FVec F S1x64x512x1024 .f32) : FVec F S1x64x512x1 .f32 :=
  broadcastInDim S1x64x512x1 ![0, 1, 2] bcast_S1x64x512_S1x64x512x1_0_1_2
    (Host.reduce FloatOps.maximumf s (constant S_ .f32 0xFF800000#32) reducesTo_S1x64x512x1024_S1x64x512_d3 h_S_)
/-- A row's start: the given word. -/
def rC (b : BitVec 32) : FVec F S1x64x512x1 .f32 := broadcastInDim S1x64x512x1 ![] bcast_S_S1x64x512x1 (constant S_ .f32 b)
/-- The rescaling from one maximum to the next, and the weights under a maximum. -/
def rA (a b : FVec F S1x64x512x1 .f32) : FVec F S1x64x512x1 .f32 := Host.exp (subf a b)
def rP (s : FVec F S1x64x512x1024 .f32) (b : FVec F S1x64x512x1 .f32) : FVec F S1x64x512x1024 .f32 :=
  Host.exp (subf s (broadcastInDim S1x64x512x1024 ![0, 1, 2, 3] bcast_S1x64x512x1_S1x64x512x1024_0_1_2_3 b))
/-- The sum of weights, carried over a half. -/
def rL (l a : FVec F S1x64x512x1 .f32) (p : FVec F S1x64x512x1024 .f32) : FVec F S1x64x512x1 .f32 :=
  addf (mulf l a) (broadcastInDim S1x64x512x1 ![0, 1, 2] bcast_S1x64x512_S1x64x512x1_0_1_2
    (Host.reduceAdd p (constant S_ .f32 0x00000000#32) reducesTo_S1x64x512x1024_S1x64x512_d3 h_S_))
/-- A row's number, at every column of the row's head. -/
def rB (a : FVec F S1x64x512x1 .f32) : FVec F S1x512x64x128 .f32 :=
  broadcastInDim S1x512x64x128 ![0, 1, 2, 3] bcast_S1x512x64x1_S1x512x64x128_0_1_2_3
    (transpose S1x512x64x1 [0, 2, 1, 3] a transposes_S1x64x512x1_S1x512x64x1_0_2_1_3)
/-- The weighted sum of values, carried over a half. -/
def rO (o : FVec F S1x512x64x128 .f32) (a : FVec F S1x64x512x1 .f32) (v : FVec F S1x1024x64x128 .f32) (p : FVec F S1x64x512x1024 .f32) :
    FVec F S1x512x64x128 .f32 :=
  addf (mulf o (rB a)) (transpose S1x512x64x128 [0, 3, 1, 2]
    (Host.dotGeneral dot_S1x1024x64x128_S1x64x512x1024_S1x64x128x512_1_3_3_2_02_01 none v p) transposes_S1x64x128x512_S1x512x64x128_0_3_1_2)
def rZ : FVec F S1x512x64x128 .f32 := broadcastInDim S1x512x64x128 ![] bcast_S_S1x512x64x128 (constant S_ .f32 0x00000000#32)

/-- The attention rows from the scores. -/
def rAtt (s0 s1 : FVec F S1x64x512x1024 .f32) (v0 v1 : FVec F S1x1024x64x128 .f32) : FVec F S1x512x64x128 .f32 :=
  let m1 := maximumf (rC 0xFF800000#32) (rMx s0)
  let m2 := maximumf m1 (rMx s1)
  let a0 := rA (rC 0xFF800000#32) m1
  let a1 := rA m1 m2
  Host.divf (rO (rO rZ a0 v0 (rP s0 m1)) a1 v1 (rP s1 m2)) (rB (rL (rL (rC 0x00000000#32) a0 (rP s0 m1)) a1 (rP s1 m2)))

/-- The result. -/
def rOut (x : FVec F S1x512x1024 .f32) (wq : FVec F S1024x8192 .f32) (wo : FVec F S8192x1024 .f32) (k v : FVec F S1x2048x64x128 .f32) :
    FVec F S1x512x1024 .f32 :=
  Host.dotGeneral dot_S1x512x8192_S8192x1024_S1x512x1024_2_0_01_1_n_n none
    (shapeCast S1x512x8192 (rAtt (rS (rQ x wq) (rT0 k)) (rS (rQ x wq) (rT1 k)) (rT0 v) (rT1 v)) shapeCasts_S1x512x64x128_S1x512x8192) wo

set_option maxRecDepth 8192 in
theorem res_eq (m : (ℓ : Loc nD τ sig) → Buf (Elt F) ℓ) (c : Dev nD) : Cert.ReferenceIdeal.Value.res_main_v55 m c
    = rOut (m ((c : Thread nD τ).loc main_arg0)) (m ((c : Thread nD τ).loc main_arg1)) (m ((c : Thread nD τ).loc main_arg2))
      (m ((c : Thread nD τ).loc main_arg3)) (m ((c : Thread nD τ).loc main_arg4)) := by
  unfold Cert.ReferenceIdeal.Value.res_main_v55
  rfl

/-! ## The stages at an index -/

variable (x : FVec Ideal S1x512x1024 .f32) (wq : FVec Ideal S1024x8192 .f32) (wo : FVec Ideal S8192x1024 .f32) (k : FVec Ideal S1x2048x64x128 .f32)

theorem rQ_apply (i : Fin 512) (h : Fin 64) (d : Fin 128) : rQ x wq (ix4 (0 : Fin 1) i h d)
    = ∑ a : Fin 1024, x (ix3 (0 : Fin 1) i a) * wq (ix2 a ⟨128 * h.val + d.val, by omega⟩) := by
  pointwise [rQ]
  exact Finset.sum_congr rfl fun a _ => congrArg (fun e => x (ix3 (0 : Fin 1) i a) * wq (ix2 a e)) (Fin.ext (by show h.val * 128 + d.val = 128 * h.val + d.val; omega))
theorem rT0_apply (j : Fin 1024) (h : Fin 64) (d : Fin 128) : rT0 k (ix4 (0 : Fin 1) j h d) = k (ix4 (0 : Fin 1) ⟨j.val, by omega⟩ h d) := by
  pointwise [rT0]
theorem rT1_apply (j : Fin 1024) (h : Fin 64) (d : Fin 128) : rT1 k (ix4 (0 : Fin 1) j h d) = k (ix4 (0 : Fin 1) ⟨1024 + j.val, by omega⟩ h d) := by
  pointwise [rT1]
variable (q : FVec Ideal S1x512x64x128 .f32) (kh : FVec Ideal S1x1024x64x128 .f32) (s : FVec Ideal S1x64x512x1024 .f32) (a b l : FVec Ideal S1x64x512x1 .f32)
theorem rS_apply (h : Fin 64) (i : Fin 512) (j : Fin 1024) : rS q kh (ix4 (0 : Fin 1) h i j)
    = (∑ d : Fin 128, q (ix4 (0 : Fin 1) i h d) * kh (ix4 (0 : Fin 1) j h d)) * Ideal.ofBits .f32 0x3DB504F3#32 := by
  pointwise [rS]
theorem rMx_apply (h : Fin 64) (i : Fin 512) : rMx s (ix4 (0 : Fin 1) h i (0 : Fin 1))
    = Finset.univ.fold max ⊥ fun j : Fin 1024 => s (ix4 (0 : Fin 1) h i j) := by
  pointwise [rMx]
  rw [ofBits_bot]
theorem rP_apply (h : Fin 64) (i : Fin 512) (j : Fin 1024) : rP s b (ix4 (0 : Fin 1) h i j)
    = Ideal.exp (s (ix4 (0 : Fin 1) h i j) - b (ix4 (0 : Fin 1) h i (0 : Fin 1))) := by
  pointwise [rP]
theorem rL_apply (h : Fin 64) (i : Fin 512) : rL l a s (ix4 (0 : Fin 1) h i (0 : Fin 1))
    = l (ix4 (0 : Fin 1) h i (0 : Fin 1)) * a (ix4 (0 : Fin 1) h i (0 : Fin 1)) + ∑ j : Fin 1024, s (ix4 (0 : Fin 1) h i j) := by
  pointwise [rL]
theorem rB_apply (i : Fin 512) (h : Fin 64) (d : Fin 128) : rB a (ix4 (0 : Fin 1) i h d) = a (ix4 (0 : Fin 1) h i (0 : Fin 1)) := by
  pointwise [rB]
theorem rO_apply (i : Fin 512) (h : Fin 64) (d : Fin 128) : rO q a kh s (ix4 (0 : Fin 1) i h d)
    = q (ix4 (0 : Fin 1) i h d) * a (ix4 (0 : Fin 1) h i (0 : Fin 1)) + ∑ j : Fin 1024, kh (ix4 (0 : Fin 1) j h d) * s (ix4 (0 : Fin 1) h i j) := by
  pointwise [rO, rB]
theorem rA_apply (h : Fin 64) (i : Fin 512) : rA a b (ix4 (0 : Fin 1) h i (0 : Fin 1))
    = Ideal.exp (a (ix4 (0 : Fin 1) h i (0 : Fin 1)) - b (ix4 (0 : Fin 1) h i (0 : Fin 1))) := by
  pointwise [rA]
theorem rC_apply (w : BitVec 32) (h : Fin 64) (i : Fin 512) : rC (F := Ideal) w (ix4 (0 : Fin 1) h i (0 : Fin 1)) = Ideal.ofBits .f32 w := by
  pointwise [rC]
theorem rM_apply (h : Fin 64) (i : Fin 512) : maximumf (F := Ideal) a b (ix4 (0 : Fin 1) h i (0 : Fin 1))
    = max (a (ix4 (0 : Fin 1) h i (0 : Fin 1))) (b (ix4 (0 : Fin 1) h i (0 : Fin 1))) := by
  pointwise
theorem rZ_apply (i : Fin 512) (h : Fin 64) (d : Fin 128) : rZ (F := Ideal) (ix4 (0 : Fin 1) i h d) = 0 := by
  pointwise [rZ]

/-- The attention rows from real scores: the weighted sum of the values over the sum of the weights. -/
theorem rAtt_apply (s0 s1 : FVec Ideal S1x64x512x1024 .f32) (v0 v1 : FVec Ideal S1x1024x64x128 .f32) (i : Fin 512) (h : Fin 64) (d : Fin 128)
    (S : Fin 2048 → ℝ) (V : Fin 2048 → EReal)
    (hs0 : ∀ j : Fin 1024, s0 (ix4 (0 : Fin 1) h i j) = (S ⟨j.val, by omega⟩ : EReal))
    (hs1 : ∀ j : Fin 1024, s1 (ix4 (0 : Fin 1) h i j) = (S ⟨1024 + j.val, by omega⟩ : EReal))
    (hv0 : ∀ j : Fin 1024, v0 (ix4 (0 : Fin 1) j h d) = V ⟨j.val, by omega⟩)
    (hv1 : ∀ j : Fin 1024, v1 (ix4 (0 : Fin 1) j h d) = V ⟨1024 + j.val, by omega⟩) :
    rAtt s0 s1 v0 v1 (ix4 (0 : Fin 1) i h d) = (∑ j, Ideal.exp (S j : EReal) * V j) * Ideal.div 1 (∑ j, Ideal.exp (S j : EReal)) := by
  obtain ⟨r0, hr0⟩ := fold_max_real fun j => S ⟨j.val, by omega⟩
  obtain ⟨r1, hr1⟩ := fold_max_real fun j => S ⟨1024 + j.val, by omega⟩
  have hm1 : maximumf (F := Ideal) (rC 0xFF800000#32) (rMx s0) (ix4 (0 : Fin 1) h i (0 : Fin 1)) = (r0 : EReal) := by
    rw [rM_apply, rC_apply, rMx_apply, ofBits_bot]
    simp only [hs0]
    rw [hr0]; exact max_eq_right bot_le
  have hm2 : maximumf (F := Ideal) (maximumf (rC 0xFF800000#32) (rMx s0)) (rMx s1) (ix4 (0 : Fin 1) h i (0 : Fin 1)) = ((max r0 r1 : ℝ) : EReal) := by
    rw [rM_apply, hm1, rMx_apply]
    simp only [hs1]
    rw [hr1]; exact max_coe r0 r1
  refine Eq.trans ?_ (quotient S V r0 (max r0 r1))
  have hq : ∀ (A B : FVec Ideal S1x512x64x128 .f32) (e : S1x512x64x128.Idx), Host.divf A B e = Ideal.div (A e) (B e) := fun _ _ _ => rfl
  unfold rAtt
  simp only [hq, rO_apply, rB_apply, rL_apply, rA_apply, rP_apply, rC_apply, rZ_apply, hm1, hm2, hs0, hs1, hv0, hv1, ofBits_bot, Ideal.ofBits_zero_f32]

/-- The score of a query row against a key. -/
def scR (i : Fin 512) (h : Fin 64) (j : Fin 2048) : EReal :=
  (∑ d : Fin 128, (∑ a : Fin 1024, x (ix3 (0 : Fin 1) i a) * wq (ix2 a ⟨128 * h.val + d.val, by omega⟩)) * k (ix4 (0 : Fin 1) j h d))
    * Ideal.ofBits .f32 0x3DB504F3#32

theorem rS0_apply (i : Fin 512) (h : Fin 64) (j : Fin 1024) : rS (rQ x wq) (rT0 k) (ix4 (0 : Fin 1) h i j) = scR x wq k i h ⟨j.val, by omega⟩ := by
  rw [rS_apply]; simp only [rQ_apply, rT0_apply]; rfl
theorem rS1_apply (i : Fin 512) (h : Fin 64) (j : Fin 1024) : rS (rQ x wq) (rT1 k) (ix4 (0 : Fin 1) h i j) = scR x wq k i h ⟨1024 + j.val, by omega⟩ := by
  rw [rS_apply]; simp only [rQ_apply, rT1_apply]; rfl

theorem rOut_apply (v : FVec Ideal S1x2048x64x128 .f32) (i : Fin 512) (n : Fin 1024) : rOut x wq wo k v (ix3 (0 : Fin 1) i n)
    = ∑ e : Fin 8192, rAtt (rS (rQ x wq) (rT0 k)) (rS (rQ x wq) (rT1 k)) (rT0 v) (rT1 v)
        (ix4 (0 : Fin 1) i ⟨e.val / 128, by omega⟩ ⟨e.val % 128, by omega⟩) * wo (ix2 e n) := by
  pointwise [rOut]

end Cert.MeshAttn.Ref
-- ==== Proof.Algebraic.lean ====
/-
The kernel's output is the reference's: over the extended reals, with `x`, `Wq` and the keys finite, the blocks the devices hold
put together, every entry of the output is the same sum of products on both sides.
-/
module

public import proofs.«01_k».proof.Proof.KerValue
public import proofs.«01_k».proof.Proof.RefValue
public import proofs.«01_k».proof.Proof.Gen.Pre_finite_KernelIdeal
public import Idealize.ShloMosaic.Lib.ReduceAll
public import Idealize.ShloMosaic.Lib.Layout

@[expose] public section

noncomputable section

namespace Cert.MeshAttn

open Cert.KernelIdeal Cert.KernelIdeal.Gen
open Idealize.ShloMosaic
open Idealize.ShloMosaic.TcCoe
open Idealize.SL.Sem
open Idealize.ShloMosaic.Pointwise
open Cert.MeshAttn.Ref

/-! ## The precondition -/

/-- An entry whose comparison against infinity reads one is a real. -/
theorem real_of_cmp {s : Shape} (x : FVec Ideal s .f32) (y : FVec Ideal s .f32) (i : s.Idx) (hy : y i = ⊤)
    (h : cmpf .olt (Host.absf x) y i = 1#1) : ∃ r : ℝ, x i = (r : EReal) := by
  have h' : BitVec.ofBool (decide (max (x i) (-(x i)) < y i)) = 1#1 := h
  refine real_of_abs_lt ?_
  rw [hy] at h'
  by_contra hn
  rw [decide_eq_false hn] at h'
  exact absurd h' (by decide)

theorem pre_reals (a0 : FVec Ideal ⟨3, ![1, 512, 1024]⟩ .f32) (a1 a2 : FVec Ideal ⟨2, ![1024, 1024]⟩ .f32)
    (a3 a4 : FVec Ideal ⟨4, ![1, 2048, 64, 128]⟩ .f32) (h : Cert.Pre_finite_KernelIdeal.fn (F := Ideal) a0 a1 a2 a3 a4 = fun _ => 1#1) :
    (∀ i, ∃ r : ℝ, a0 i = (r : EReal)) ∧ (∀ i, ∃ r : ℝ, a1 i = (r : EReal)) ∧ ∀ i, ∃ r : ℝ, a3 i = (r : EReal) := by
  haveI : Subsingleton Cert.Pre_finite_KernelIdeal.S_.Idx := ⟨fun a b => funext fun x => x.elim0⟩
  have h1 := congrFun h (fun x => x.elim0)
  obtain ⟨h01, h3⟩ := IntOp.andi_eq_one.1 h1
  obtain ⟨h0, h1⟩ := IntOp.andi_eq_one.1 h01
  refine ⟨fun i => real_of_cmp a0 _ i ?_ (Host.reduce_andi_all _ _ _ _ _ h0 i), fun i => real_of_cmp a1 _ i ?_ (Host.reduce_andi_all _ _ _ _ _ h1 i),
    fun i => real_of_cmp a3 _ i ?_ (Host.reduce_andi_all _ _ _ _ _ h3 i)⟩
  all_goals (show Ideal.ofBits .f32 0x7F800000#32 = ⊤; simp [Ideal.ofBits, Ideal.ieee])

/-! ## Sums over the reference's columns, by device -/

theorem sum_blocks (f : Fin 8192 → EReal) :
    ∑ e, f e = ∑ c : Fin 8, ∑ k : Fin 1024, f ⟨1024 * c.val + k.val, by omega⟩ := by
  rw [← Fintype.sum_prod_type' (fun (c : Fin 8) (k : Fin 1024) => f ⟨1024 * c.val + k.val, by omega⟩)]
  refine (Fintype.sum_equiv (finProdFinEquiv (m := 8) (n := 1024)) _ _ fun ck => ?_).symm
  refine congrArg f (Fin.ext ?_)
  show 1024 * ck.1.val + ck.2.val = ck.2.val + 1024 * ck.1.val
  omega

/-! ## One attention entry -/

variable (m : (ℓ : Loc nD τ sig) → Buf (Elt Ideal) ℓ)
variable (x : FVec Ideal ⟨3, ![1, 512, 1024]⟩ .f32) (wq : FVec Ideal ⟨2, ![1024, 8192]⟩ .f32) (wo : FVec Ideal ⟨2, ![8192, 1024]⟩ .f32)
  (k v : FVec Ideal ⟨4, ![1, 2048, 64, 128]⟩ .f32)

/-- What it is for the devices' memories to hold the reference's arrays. -/
structure Holds : Prop where
  x : ∀ c (i : Fin 512) (a : Fin 1024), xC m c (ix3 (0 : Fin 1) i a) = x (ix3 (0 : Fin 1) i a)
  wq : ∀ (c : Fin 8) (a e : Fin 1024), wqC m c (ix2 a e) = wq (ix2 a ⟨1024 * c.val + e.val, by omega⟩)
  wo : ∀ (c : Fin 8) (e n : Fin 1024), woC m c (ix2 e n) = wo (ix2 ⟨1024 * c.val + e.val, by omega⟩ n)
  k : ∀ c, kC m c = k
  v : ∀ c, vC m c = v

variable {m x wq wo k v}

theorem att_eq (hm : Holds m x wq wo k v) (xr : Fin 512 → Fin 1024 → ℝ) (hx : ∀ i a, x (ix3 (0 : Fin 1) i a) = (xr i a : EReal))
    (wr : Fin 1024 → Fin 8192 → ℝ) (hw : ∀ a e, wq (ix2 a e) = (wr a e : EReal))
    (kr : Fin 2048 → Fin 64 → Fin 128 → ℝ) (hk : ∀ j h d, k (ix4 (0 : Fin 1) j h d) = (kr j h d : EReal))
    (c : Fin 8) (i : Fin 512) (e : Fin 1024) :
    attE m c i e = rAtt (rS (rQ x wq) (rT0 k)) (rS (rQ x wq) (rT1 k)) (rT0 v) (rT1 v)
      (ix4 (0 : Fin 1) i ⟨8 * c.val + e.val / 128, by omega⟩ ⟨e.val % 128, by omega⟩) := by
  obtain ⟨r, hr⟩ := scale_real
  let H : Fin 64 := ⟨8 * c.val + e.val / 128, by omega⟩
  have hH : H.val = 8 * c.val + e.val / 128 := rfl
  let S : Fin 2048 → ℝ := fun j => (∑ d : Fin 128, (∑ a : Fin 1024, xr i a * wr a ⟨128 * H.val + d.val, by omega⟩) * kr j H d) * r
  have sR : ∀ j, scR x wq k i H j = (S j : EReal) := fun j => by
    unfold scR
    simp only [hx, hw, hk, hr]
    exact (score_scale (xr i) (fun a d => wr a ⟨128 * H.val + d.val, by omega⟩) (kr j H) r).1
  have sK : ∀ j, scK (qC m c) (khC m c ⟨e.val / 128, by omega⟩) ⟨e.val / 128, by omega⟩ i j = (S j : EReal) := fun j => by
    refine Eq.trans ?_ (score_scale (xr i) (fun a d => wr a ⟨128 * H.val + d.val, by omega⟩) (kr j H) r).2
    refine Finset.sum_congr rfl fun d _ => ?_
    refine congrArg₂ (· * ·) ?_ ?_
    · refine (pay2_apply (xC m c) (wqC m c) i _).trans (Finset.sum_congr rfl fun a _ => ?_)
      refine congrArg₂ (· * ·) (congrArg₂ (· * ·) ((hm.x c i a).trans (hx i a)) hr) ?_
      refine (hm.wq c a _).trans (Eq.trans ?_ (hw a ⟨128 * H.val + d.val, by omega⟩))
      refine congrArg (fun n => wq (ix2 a n)) (Fin.ext ?_)
      show 1024 * c.val + (128 * (e.val / 128) + d.val) = 128 * (8 * c.val + e.val / 128) + d.val
      omega
    · refine (khC_apply m c _ j d).trans ?_
      rw [hm.k c]
      exact hk j H d
  refine (attC_apply m c i e).trans ?_
  refine Eq.trans ?_ (rAtt_apply _ _ _ _ i H ⟨e.val % 128, by omega⟩ S (fun j => v (ix4 (0 : Fin 1) j H ⟨e.val % 128, by omega⟩))
    (fun j => (rS0_apply x wq k i H j).trans (sR _)) (fun j => (rS1_apply x wq k i H j).trans (sR _))
    (fun j => rT0_apply v j H _) (fun j => rT1_apply v j H _)).symm
  refine congrArg₂ (fun a b => a * Ideal.div 1 b) (Finset.sum_congr rfl fun j _ => congrArg₂ (· * ·) (congrArg Ideal.exp (sK j)) ?_)
    (Finset.sum_congr rfl fun j _ => congrArg Ideal.exp (sK j))
  exact (vhC_apply m c _ j _).trans (congrFun (hm.v c) _)

/-! ## The output -/

theorem out_eq (hm : Holds m x wq wo k v) (hx : ∀ i, ∃ r : ℝ, x i = (r : EReal)) (hw : ∀ i, ∃ r : ℝ, wq i = (r : EReal))
    (hk : ∀ i, ∃ r : ℝ, k i = (r : EReal)) : outC m = rOut x wq wo k v := by
  choose xr hxr using hx
  choose wr hwr using hw
  choose kr hkr using hk
  funext i
  have ei : i = ix3 (0 : Fin 1) (⟨(i 1).val, (i 1).isLt⟩ : Fin 512) (⟨(i 2).val, (i 2).isLt⟩ : Fin 1024) := by
    funext a
    match a with
    | 0 => exact Subsingleton.elim (α := Fin 1) _ _
    | 1 => rfl
    | 2 => rfl
  rw [ei, rOut_apply]
  refine (out_apply m _ _).trans ?_
  rw [sum_blocks]
  refine Finset.sum_congr (M := EReal) (f := fun c => prodK m c _ _) rfl fun c _ => ?_
  refine Finset.sum_congr rfl fun e _ => ?_
  refine congrArg₂ (· * ·) ?_ (hm.wo c e _)
  refine (att_eq hm (fun i a => xr (ix3 (0 : Fin 1) i a)) (fun _ _ => hxr _) (fun a e => wr (ix2 a e)) (fun _ _ => hwr _)
    (fun j h d => kr (ix4 (0 : Fin 1) j h d)) (fun _ _ _ => hkr _) c _ e).trans ?_
  refine congrArg₂ (fun a b => rAtt _ _ _ _ (ix4 (0 : Fin 1) _ a b)) (Fin.ext ?_) (Fin.ext ?_)
  · show 8 * c.val + e.val / 128 = (1024 * c.val + e.val) / 128; omega
  · show e.val % 128 = (1024 * c.val + e.val) % 128; omega

/-! ## The claim -/

theorem algebraic : Cert.algebraic_KernelIdeal_ReferenceIdeal_pre_finite_KernelIdeal := fun m g m' g' hpre hargs => by
  have hm : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c i a => congrFun ((xC_eq m c).trans (hargs c).1) _
      wq := fun c a e => (congrFun ((wqC_eq m c).trans (hargs c).2.1) (ix2 a e)).trans
        (congrArg (m' _) (funext fun b => Fin.ext (match b with
          | 0 => rfl
          | 1 => congrArg (· + e.val) (Nat.mul_comm c.val 1024))))
      wo := fun c e n => (congrFun ((woC_eq m c).trans (hargs c).2.2.1) (ix2 e n)).trans
        (congrArg (m' _) (funext fun b => Fin.ext (match b with
          | 0 => congrArg (· + e.val) (Nat.mul_comm c.val 1024)
          | 1 => rfl)))
      k := fun c => (hargs c).2.2.2.1
      v := fun c => (hargs c).2.2.2.2 }
  have hr := fun c => pre_reals _ _ _ _ _ (hpre c)
  have hout := out_eq hm (fun i => (congrFun (hargs 0).1 i) ▸ (hr 0).1 i)
    (fun i => by
      have h1 : (i 1).val < 8192 := (i 1).isLt
      obtain ⟨r, hr'⟩ := (hr ⟨(i 1).val / 1024, by show (i 1).val / 1024 < 8; omega⟩).2.1
        (ix2 (⟨(i 0).val, (i 0).isLt⟩ : Fin 1024) (⟨(i 1).val % 1024, by omega⟩ : Fin 1024))
      refine ⟨r, Eq.trans ?_ hr'⟩
      refine Eq.trans ?_ (congrFun (hargs _).2.1 _).symm
      refine congrArg (m' _) (funext fun b => Fin.ext ?_)
      match b with
      | 0 => rfl
      | 1 => show (i 1).val = (i 1).val / 1024 * 1024 + (i 1).val % 1024; omega)
    (fun i => (congrFun (hargs 0).2.2.2.1 i) ▸ (hr 0).2.2 i)
  refine ⟨_, (θ_run Cert.KernelIdeal.defs _ _).mono (fun _ h c => ⟨((h.1 c).1).trans hout, (h.1 c).2⟩) (run_read (F := Ideal) m g), ?_⟩
  exact (θ_run Cert.ReferenceIdeal.defs _ _).mono (fun _ h => ⟨((h 0).1).trans (res_eq m' 0), (h 0).2⟩) (Cert.ReferenceIdeal.Value.run (F := Ideal) m' g')

end Cert.MeshAttn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem
open Cert.MeshAttn

/-- Every claim: the five frames, the kernel over the extended reals being the kernel itself, and the equation with the reference. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, frame_ideal_pre, frame_ref, frame_ref_pre, trivial, algebraic⟩

end Cert.Proof

end
